-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite_inputs [hPre_mla_finite_inputs : Cert.Pre_mla_finite_inputs.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite_inputs.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite_inputs [hPre_mla_finite_inputs : Cert.Pre_mla_finite_inputs.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite_inputs.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Zp (m : (ℓ : Loc Cert.Zp.nD Cert.Zp.τ Cert.Zp.sig) → Buf (Elt Bits) ℓ) : Prop :=
  True

def Pre_ZpIdeal (m : (ℓ : Loc Cert.ZpIdeal.nD Cert.ZpIdeal.τ Cert.ZpIdeal.sig) → Buf (Elt Ideal) ℓ) : Prop :=
  True

def Pre_ZpRefIdeal (m : (ℓ : Loc Cert.ZpRefIdeal.nD Cert.ZpRefIdeal.τ Cert.ZpRefIdeal.sig) → Buf (Elt Ideal) ℓ) : Prop :=
  True

def Pre_Cp (m : (ℓ : Loc Cert.Cp.nD Cert.Cp.τ Cert.Cp.sig) → Buf (Elt Bits) ℓ) : Prop :=
  True

def Pre_CpIdeal (m : (ℓ : Loc Cert.CpIdeal.nD Cert.CpIdeal.τ Cert.CpIdeal.sig) → Buf (Elt Ideal) ℓ) : Prop :=
  True

def Pre_CpRefIdeal (m : (ℓ : Loc Cert.CpRefIdeal.nD Cert.CpRefIdeal.τ Cert.CpRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_finite_inputs [hPre_na_finite_inputs : Cert.Pre_na_finite_inputs.Facts] (m : (ℓ : Loc Cert.NaIdeal.nD Cert.NaIdeal.τ Cert.NaIdeal.sig) → Buf (Elt Ideal) ℓ) : Prop :=
  ∀ c : Dev Cert.NaIdeal.nD,
    (Cert.Pre_na_finite_inputs.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_na_finite_inputs [hPre_na_finite_inputs : Cert.Pre_na_finite_inputs.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_na_finite_inputs.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ r.2.sem = fun _ => 0)

def quiescent_MlaIdeal_pre_mla_finite_inputs [hMlaIdeal : Cert.MlaIdeal.Facts] [hPre_mla_finite_inputs : Cert.Pre_mla_finite_inputs.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite_inputs m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6))
      ∧ r.2.sem = fun _ => 0)

def quiescent_MlaRefIdeal_pre_mla_finite_inputs [hMlaRefIdeal : Cert.MlaRefIdeal.Facts] [hPre_mla_finite_inputs : Cert.Pre_mla_finite_inputs.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite_inputs m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7)
      ∧ r.2.mem ((c.tc : Thread Cert.Gate.nD Cert.Gate.τ).loc Cert.Gate.main_arg8) = m ((c.tc : Thread Cert.Gate.nD Cert.Gate.τ).loc Cert.Gate.main_arg8)
      ∧ r.2.mem ((c.tc : Thread Cert.Gate.nD Cert.Gate.τ).loc Cert.Gate.main_arg9) = m ((c.tc : Thread Cert.Gate.nD Cert.Gate.τ).loc Cert.Gate.main_arg9)
      ∧ r.2.mem ((c.tc : Thread Cert.Gate.nD Cert.Gate.τ).loc Cert.Gate.main_arg10) = m ((c.tc : Thread Cert.Gate.nD Cert.Gate.τ).loc Cert.Gate.main_arg10))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
      ∧ r.2.mem ((c.tc : Thread Cert.GateIdeal.nD Cert.GateIdeal.τ).loc Cert.GateIdeal.main_arg8) = m ((c.tc : Thread Cert.GateIdeal.nD Cert.GateIdeal.τ).loc Cert.GateIdeal.main_arg8)
      ∧ r.2.mem ((c.tc : Thread Cert.GateIdeal.nD Cert.GateIdeal.τ).loc Cert.GateIdeal.main_arg9) = m ((c.tc : Thread Cert.GateIdeal.nD Cert.GateIdeal.τ).loc Cert.GateIdeal.main_arg9)
      ∧ r.2.mem ((c.tc : Thread Cert.GateIdeal.nD Cert.GateIdeal.τ).loc Cert.GateIdeal.main_arg10) = m ((c.tc : Thread Cert.GateIdeal.nD Cert.GateIdeal.τ).loc Cert.GateIdeal.main_arg10))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7)
      ∧ r.2.mem ((c.tc : Thread Cert.GateRefIdeal.nD Cert.GateRefIdeal.τ).loc Cert.GateRefIdeal.main_arg8) = m ((c.tc : Thread Cert.GateRefIdeal.nD Cert.GateRefIdeal.τ).loc Cert.GateRefIdeal.main_arg8)
      ∧ r.2.mem ((c.tc : Thread Cert.GateRefIdeal.nD Cert.GateRefIdeal.τ).loc Cert.GateRefIdeal.main_arg9) = m ((c.tc : Thread Cert.GateRefIdeal.nD Cert.GateRefIdeal.τ).loc Cert.GateRefIdeal.main_arg9)
      ∧ r.2.mem ((c.tc : Thread Cert.GateRefIdeal.nD Cert.GateRefIdeal.τ).loc Cert.GateRefIdeal.main_arg10) = m ((c.tc : Thread Cert.GateRefIdeal.nD Cert.GateRefIdeal.τ).loc Cert.GateRefIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Zp [hZp : Cert.Zp.Facts] : Prop :=
  ∀ (m : (ℓ : Loc Cert.Zp.nD Cert.Zp.τ Cert.Zp.sig) → Buf (Elt Bits) ℓ) (g : Dev Cert.Zp.nD → PrngReg), Pre_Zp m →
    θ_run (Cert.Zp.defs (F := Bits)) (onTc (τ := Cert.Zp.τ) (Cert.Zp.main (F := Bits))) ⟨m, fun _ => 0, g⟩ (fun r => (∀ c : Dev Cert.Zp.nD,
      r.2.mem ((c.tc : Thread Cert.Zp.nD Cert.Zp.τ).loc Cert.Zp.main_arg0) = m ((c.tc : Thread Cert.Zp.nD Cert.Zp.τ).loc Cert.Zp.main_arg0)
      ∧ r.2.mem ((c.tc : Thread Cert.Zp.nD Cert.Zp.τ).loc Cert.Zp.main_arg1) = m ((c.tc : Thread Cert.Zp.nD Cert.Zp.τ).loc Cert.Zp.main_arg1)
      ∧ r.2.mem ((c.tc : Thread Cert.Zp.nD Cert.Zp.τ).loc Cert.Zp.main_arg2) = m ((c.tc : Thread Cert.Zp.nD Cert.Zp.τ).loc Cert.Zp.main_arg2)
      ∧ r.2.mem ((c.tc : Thread Cert.Zp.nD Cert.Zp.τ).loc Cert.Zp.main_arg3) = m ((c.tc : Thread Cert.Zp.nD Cert.Zp.τ).loc Cert.Zp.main_arg3)
      ∧ r.2.mem ((c.tc : Thread Cert.Zp.nD Cert.Zp.τ).loc Cert.Zp.main_arg4) = m ((c.tc : Thread Cert.Zp.nD Cert.Zp.τ).loc Cert.Zp.main_arg4))
      ∧ r.2.sem = fun _ => 0)

def quiescent_ZpIdeal [hZpIdeal : Cert.ZpIdeal.Facts] : Prop :=
  ∀ (m : (ℓ : Loc Cert.ZpIdeal.nD Cert.ZpIdeal.τ Cert.ZpIdeal.sig) → Buf (Elt Ideal) ℓ) (g : Dev Cert.ZpIdeal.nD → PrngReg), Pre_ZpIdeal m →
    θ_run (Cert.ZpIdeal.defs (F := Ideal)) (onTc (τ := Cert.ZpIdeal.τ) (Cert.ZpIdeal.main (F := Ideal))) ⟨m, fun _ => 0, g⟩ (fun r => (∀ c : Dev Cert.ZpIdeal.nD,
      r.2.mem ((c.tc : Thread Cert.ZpIdeal.nD Cert.ZpIdeal.τ).loc Cert.ZpIdeal.main_arg0) = m ((c.tc : Thread Cert.ZpIdeal.nD Cert.ZpIdeal.τ).loc Cert.ZpIdeal.main_arg0)
      ∧ r.2.mem ((c.tc : Thread Cert.ZpIdeal.nD Cert.ZpIdeal.τ).loc Cert.ZpIdeal.main_arg1) = m ((c.tc : Thread Cert.ZpIdeal.nD Cert.ZpIdeal.τ).loc Cert.ZpIdeal.main_arg1)
      ∧ r.2.mem ((c.tc : Thread Cert.ZpIdeal.nD Cert.ZpIdeal.τ).loc Cert.ZpIdeal.main_arg2) = m ((c.tc : Thread Cert.ZpIdeal.nD Cert.ZpIdeal.τ).loc Cert.ZpIdeal.main_arg2)
      ∧ r.2.mem ((c.tc : Thread Cert.ZpIdeal.nD Cert.ZpIdeal.τ).loc Cert.ZpIdeal.main_arg3) = m ((c.tc : Thread Cert.ZpIdeal.nD Cert.ZpIdeal.τ).loc Cert.ZpIdeal.main_arg3)
      ∧ r.2.mem ((c.tc : Thread Cert.ZpIdeal.nD Cert.ZpIdeal.τ).loc Cert.ZpIdeal.main_arg4) = m ((c.tc : Thread Cert.ZpIdeal.nD Cert.ZpIdeal.τ).loc Cert.ZpIdeal.main_arg4))
      ∧ r.2.sem = fun _ => 0)

def quiescent_ZpRefIdeal [hZpRefIdeal : Cert.ZpRefIdeal.Facts] : Prop :=
  ∀ (m : (ℓ : Loc Cert.ZpRefIdeal.nD Cert.ZpRefIdeal.τ Cert.ZpRefIdeal.sig) → Buf (Elt Ideal) ℓ) (g : Dev Cert.ZpRefIdeal.nD → PrngReg), Pre_ZpRefIdeal m →
    θ_run (Cert.ZpRefIdeal.defs (F := Ideal)) (onTc (τ := Cert.ZpRefIdeal.τ) (Cert.ZpRefIdeal.main (F := Ideal))) ⟨m, fun _ => 0, g⟩ (fun r => (∀ c : Dev Cert.ZpRefIdeal.nD,
      r.2.mem ((c.tc : Thread Cert.ZpRefIdeal.nD Cert.ZpRefIdeal.τ).loc Cert.ZpRefIdeal.main_arg0) = m ((c.tc : Thread Cert.ZpRefIdeal.nD Cert.ZpRefIdeal.τ).loc Cert.ZpRefIdeal.main_arg0)
      ∧ r.2.mem ((c.tc : Thread Cert.ZpRefIdeal.nD Cert.ZpRefIdeal.τ).loc Cert.ZpRefIdeal.main_arg1) = m ((c.tc : Thread Cert.ZpRefIdeal.nD Cert.ZpRefIdeal.τ).loc Cert.ZpRefIdeal.main_arg1)
      ∧ r.2.mem ((c.tc : Thread Cert.ZpRefIdeal.nD Cert.ZpRefIdeal.τ).loc Cert.ZpRefIdeal.main_arg2) = m ((c.tc : Thread Cert.ZpRefIdeal.nD Cert.ZpRefIdeal.τ).loc Cert.ZpRefIdeal.main_arg2)
      ∧ r.2.mem ((c.tc : Thread Cert.ZpRefIdeal.nD Cert.ZpRefIdeal.τ).loc Cert.ZpRefIdeal.main_arg3) = m ((c.tc : Thread Cert.ZpRefIdeal.nD Cert.ZpRefIdeal.τ).loc Cert.ZpRefIdeal.main_arg3)
      ∧ r.2.mem ((c.tc : Thread Cert.ZpRefIdeal.nD Cert.ZpRefIdeal.τ).loc Cert.ZpRefIdeal.main_arg4) = m ((c.tc : Thread Cert.ZpRefIdeal.nD Cert.ZpRefIdeal.τ).loc Cert.ZpRefIdeal.main_arg4))
      ∧ r.2.sem = fun _ => 0)

def quiescent_Cp [hCp : Cert.Cp.Facts] : Prop :=
  ∀ (m : (ℓ : Loc Cert.Cp.nD Cert.Cp.τ Cert.Cp.sig) → Buf (Elt Bits) ℓ) (g : Dev Cert.Cp.nD → PrngReg), Pre_Cp m →
    θ_run (Cert.Cp.defs (F := Bits)) (onTc (τ := Cert.Cp.τ) (Cert.Cp.main (F := Bits))) ⟨m, fun _ => 0, g⟩ (fun r => (∀ c : Dev Cert.Cp.nD,
      r.2.mem ((c.tc : Thread Cert.Cp.nD Cert.Cp.τ).loc Cert.Cp.main_arg0) = m ((c.tc : Thread Cert.Cp.nD Cert.Cp.τ).loc Cert.Cp.main_arg0)
      ∧ r.2.mem ((c.tc : Thread Cert.Cp.nD Cert.Cp.τ).loc Cert.Cp.main_arg1) = m ((c.tc : Thread Cert.Cp.nD Cert.Cp.τ).loc Cert.Cp.main_arg1))
      ∧ r.2.sem = fun _ => 0)

def quiescent_CpIdeal [hCpIdeal : Cert.CpIdeal.Facts] : Prop :=
  ∀ (m : (ℓ : Loc Cert.CpIdeal.nD Cert.CpIdeal.τ Cert.CpIdeal.sig) → Buf (Elt Ideal) ℓ) (g : Dev Cert.CpIdeal.nD → PrngReg), Pre_CpIdeal m →
    θ_run (Cert.CpIdeal.defs (F := Ideal)) (onTc (τ := Cert.CpIdeal.τ) (Cert.CpIdeal.main (F := Ideal))) ⟨m, fun _ => 0, g⟩ (fun r => (∀ c : Dev Cert.CpIdeal.nD,
      r.2.mem ((c.tc : Thread Cert.CpIdeal.nD Cert.CpIdeal.τ).loc Cert.CpIdeal.main_arg0) = m ((c.tc : Thread Cert.CpIdeal.nD Cert.CpIdeal.τ).loc Cert.CpIdeal.main_arg0)
      ∧ r.2.mem ((c.tc : Thread Cert.CpIdeal.nD Cert.CpIdeal.τ).loc Cert.CpIdeal.main_arg1) = m ((c.tc : Thread Cert.CpIdeal.nD Cert.CpIdeal.τ).loc Cert.CpIdeal.main_arg1))
      ∧ r.2.sem = fun _ => 0)

def quiescent_CpRefIdeal [hCpRefIdeal : Cert.CpRefIdeal.Facts] : Prop :=
  ∀ (m : (ℓ : Loc Cert.CpRefIdeal.nD Cert.CpRefIdeal.τ Cert.CpRefIdeal.sig) → Buf (Elt Ideal) ℓ) (g : Dev Cert.CpRefIdeal.nD → PrngReg), Pre_CpRefIdeal m →
    θ_run (Cert.CpRefIdeal.defs (F := Ideal)) (onTc (τ := Cert.CpRefIdeal.τ) (Cert.CpRefIdeal.main (F := Ideal))) ⟨m, fun _ => 0, g⟩ (fun r => (∀ c : Dev Cert.CpRefIdeal.nD,
      r.2.mem ((c.tc : Thread Cert.CpRefIdeal.nD Cert.CpRefIdeal.τ).loc Cert.CpRefIdeal.main_arg0) = m ((c.tc : Thread Cert.CpRefIdeal.nD Cert.CpRefIdeal.τ).loc Cert.CpRefIdeal.main_arg0)
      ∧ r.2.mem ((c.tc : Thread Cert.CpRefIdeal.nD Cert.CpRefIdeal.τ).loc Cert.CpRefIdeal.main_arg1) = m ((c.tc : Thread Cert.CpRefIdeal.nD Cert.CpRefIdeal.τ).loc Cert.CpRefIdeal.main_arg1))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1)
      ∧ r.2.mem ((c.tc : Thread Cert.OutP.nD Cert.OutP.τ).loc Cert.OutP.main_arg2) = m ((c.tc : Thread Cert.OutP.nD Cert.OutP.τ).loc Cert.OutP.main_arg2)
      ∧ r.2.mem ((c.tc : Thread Cert.OutP.nD Cert.OutP.τ).loc Cert.OutP.main_arg3) = m ((c.tc : Thread Cert.OutP.nD Cert.OutP.τ).loc Cert.OutP.main_arg3))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
      ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
      ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1)
      ∧ r.2.mem ((c.tc : Thread Cert.OutPRefIdeal.nD Cert.OutPRefIdeal.τ).loc Cert.OutPRefIdeal.main_arg2) = m ((c.tc : Thread Cert.OutPRefIdeal.nD Cert.OutPRefIdeal.τ).loc Cert.OutPRefIdeal.main_arg2)
      ∧ r.2.mem ((c.tc : Thread Cert.OutPRefIdeal.nD Cert.OutPRefIdeal.τ).loc Cert.OutPRefIdeal.main_arg3) = m ((c.tc : Thread Cert.OutPRefIdeal.nD Cert.OutPRefIdeal.τ).loc Cert.OutPRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_na_finite_inputs [hNaIdeal : Cert.NaIdeal.Facts] [hPre_na_finite_inputs : Cert.Pre_na_finite_inputs.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_finite_inputs m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_na_finite_inputs [hNaRefIdeal : Cert.NaRefIdeal.Facts] [hPre_na_finite_inputs : Cert.Pre_na_finite_inputs.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_na_finite_inputs m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def preserves_Mla_MlaIdeal : Prop :=
  True

def algebraic_MlaIdeal_MlaRefIdeal_pre_mla_finite_inputs [hMlaIdeal : Cert.MlaIdeal.Facts] [hMlaRefIdeal : Cert.MlaRefIdeal.Facts] [hPre_mla_finite_inputs : Cert.Pre_mla_finite_inputs.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite_inputs m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)) →
    ∃ (v0 : (c : Dev Cert.MlaIdeal.nD) → Buf (Elt Ideal) ((c.tc : Thread Cert.MlaIdeal.nD Cert.MlaIdeal.τ).loc Cert.MlaIdeal.main_v64)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v64) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v119) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)
      ∧ m' ((c.tc : Thread Cert.GateRefIdeal.nD Cert.GateRefIdeal.τ).loc Cert.GateRefIdeal.main_arg8) = m ((c.tc : Thread Cert.GateIdeal.nD Cert.GateIdeal.τ).loc Cert.GateIdeal.main_arg8)
      ∧ m' ((c.tc : Thread Cert.GateRefIdeal.nD Cert.GateRefIdeal.τ).loc Cert.GateRefIdeal.main_arg9) = m ((c.tc : Thread Cert.GateIdeal.nD Cert.GateIdeal.τ).loc Cert.GateIdeal.main_arg9)
      ∧ m' ((c.tc : Thread Cert.GateRefIdeal.nD Cert.GateRefIdeal.τ).loc Cert.GateRefIdeal.main_arg10) = m ((c.tc : Thread Cert.GateIdeal.nD Cert.GateIdeal.τ).loc Cert.GateIdeal.main_arg10)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
          ∧ r.2.mem ((c.tc : Thread Cert.GateIdeal.nD Cert.GateIdeal.τ).loc Cert.GateIdeal.main_arg8) = m ((c.tc : Thread Cert.GateIdeal.nD Cert.GateIdeal.τ).loc Cert.GateIdeal.main_arg8)
          ∧ r.2.mem ((c.tc : Thread Cert.GateIdeal.nD Cert.GateIdeal.τ).loc Cert.GateIdeal.main_arg9) = m ((c.tc : Thread Cert.GateIdeal.nD Cert.GateIdeal.τ).loc Cert.GateIdeal.main_arg9)
          ∧ r.2.mem ((c.tc : Thread Cert.GateIdeal.nD Cert.GateIdeal.τ).loc Cert.GateIdeal.main_arg10) = m ((c.tc : Thread Cert.GateIdeal.nD Cert.GateIdeal.τ).loc Cert.GateIdeal.main_arg10))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v35) = v0 c
          ∧ r.2.mem ((c.tc : Thread Cert.GateRefIdeal.nD Cert.GateRefIdeal.τ).loc Cert.GateRefIdeal.main_v38) = v1 c
          ∧ r.2.mem ((c.tc : Thread Cert.GateRefIdeal.nD Cert.GateRefIdeal.τ).loc Cert.GateRefIdeal.main_v41) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7)
          ∧ r.2.mem ((c.tc : Thread Cert.GateRefIdeal.nD Cert.GateRefIdeal.τ).loc Cert.GateRefIdeal.main_arg8) = m' ((c.tc : Thread Cert.GateRefIdeal.nD Cert.GateRefIdeal.τ).loc Cert.GateRefIdeal.main_arg8)
          ∧ r.2.mem ((c.tc : Thread Cert.GateRefIdeal.nD Cert.GateRefIdeal.τ).loc Cert.GateRefIdeal.main_arg9) = m' ((c.tc : Thread Cert.GateRefIdeal.nD Cert.GateRefIdeal.τ).loc Cert.GateRefIdeal.main_arg9)
          ∧ r.2.mem ((c.tc : Thread Cert.GateRefIdeal.nD Cert.GateRefIdeal.τ).loc Cert.GateRefIdeal.main_arg10) = m' ((c.tc : Thread Cert.GateRefIdeal.nD Cert.GateRefIdeal.τ).loc Cert.GateRefIdeal.main_arg10))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_v8) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Zp_ZpIdeal : Prop :=
  True

def algebraic_ZpIdeal_ZpRefIdeal [hZpIdeal : Cert.ZpIdeal.Facts] [hZpRefIdeal : Cert.ZpRefIdeal.Facts] : Prop :=
  ∀ (m : (ℓ : Loc Cert.ZpIdeal.nD Cert.ZpIdeal.τ Cert.ZpIdeal.sig) → Buf (Elt Ideal) ℓ) (g : Dev Cert.ZpIdeal.nD → PrngReg)
    (m' : (ℓ : Loc Cert.ZpRefIdeal.nD Cert.ZpRefIdeal.τ Cert.ZpRefIdeal.sig) → Buf (Elt Ideal) ℓ) (g' : Dev Cert.ZpRefIdeal.nD → PrngReg), Pre_ZpIdeal m →
    (∀ c : Dev Cert.ZpIdeal.nD,
      m' ((c.tc : Thread Cert.ZpRefIdeal.nD Cert.ZpRefIdeal.τ).loc Cert.ZpRefIdeal.main_arg0) = m ((c.tc : Thread Cert.ZpIdeal.nD Cert.ZpIdeal.τ).loc Cert.ZpIdeal.main_arg0)
      ∧ m' ((c.tc : Thread Cert.ZpRefIdeal.nD Cert.ZpRefIdeal.τ).loc Cert.ZpRefIdeal.main_arg1) = m ((c.tc : Thread Cert.ZpIdeal.nD Cert.ZpIdeal.τ).loc Cert.ZpIdeal.main_arg1)
      ∧ m' ((c.tc : Thread Cert.ZpRefIdeal.nD Cert.ZpRefIdeal.τ).loc Cert.ZpRefIdeal.main_arg2) = m ((c.tc : Thread Cert.ZpIdeal.nD Cert.ZpIdeal.τ).loc Cert.ZpIdeal.main_arg2)
      ∧ m' ((c.tc : Thread Cert.ZpRefIdeal.nD Cert.ZpRefIdeal.τ).loc Cert.ZpRefIdeal.main_arg3) = m ((c.tc : Thread Cert.ZpIdeal.nD Cert.ZpIdeal.τ).loc Cert.ZpIdeal.main_arg3)
      ∧ m' ((c.tc : Thread Cert.ZpRefIdeal.nD Cert.ZpRefIdeal.τ).loc Cert.ZpRefIdeal.main_arg4) = m ((c.tc : Thread Cert.ZpIdeal.nD Cert.ZpIdeal.τ).loc Cert.ZpIdeal.main_arg4)) →
    ∃ (v0 : (c : Dev Cert.ZpIdeal.nD) → Buf (Elt Ideal) ((c.tc : Thread Cert.ZpIdeal.nD Cert.ZpIdeal.τ).loc Cert.ZpIdeal.main_v0_0)) (v1 : (c : Dev Cert.ZpIdeal.nD) → Buf (Elt Ideal) ((c.tc : Thread Cert.ZpIdeal.nD Cert.ZpIdeal.τ).loc Cert.ZpIdeal.main_v0_1)) (v2 : (c : Dev Cert.ZpIdeal.nD) → Buf (Elt Ideal) ((c.tc : Thread Cert.ZpIdeal.nD Cert.ZpIdeal.τ).loc Cert.ZpIdeal.main_v0_2)) (v3 : (c : Dev Cert.ZpIdeal.nD) → Buf (Elt Ideal) ((c.tc : Thread Cert.ZpIdeal.nD Cert.ZpIdeal.τ).loc Cert.ZpIdeal.main_v0_3)),
      θ_run (Cert.ZpIdeal.defs (F := Ideal)) (onTc (τ := Cert.ZpIdeal.τ) (Cert.ZpIdeal.main (F := Ideal))) ⟨m, fun _ => 0, g⟩ (fun r => ∀ c : Dev Cert.ZpIdeal.nD,
          r.2.mem ((c.tc : Thread Cert.ZpIdeal.nD Cert.ZpIdeal.τ).loc Cert.ZpIdeal.main_v0_0) = v0 c
          ∧ r.2.mem ((c.tc : Thread Cert.ZpIdeal.nD Cert.ZpIdeal.τ).loc Cert.ZpIdeal.main_v0_1) = v1 c
          ∧ r.2.mem ((c.tc : Thread Cert.ZpIdeal.nD Cert.ZpIdeal.τ).loc Cert.ZpIdeal.main_v0_2) = v2 c
          ∧ r.2.mem ((c.tc : Thread Cert.ZpIdeal.nD Cert.ZpIdeal.τ).loc Cert.ZpIdeal.main_v0_3) = v3 c
          ∧ r.2.mem ((c.tc : Thread Cert.ZpIdeal.nD Cert.ZpIdeal.τ).loc Cert.ZpIdeal.main_arg0) = m ((c.tc : Thread Cert.ZpIdeal.nD Cert.ZpIdeal.τ).loc Cert.ZpIdeal.main_arg0)
          ∧ r.2.mem ((c.tc : Thread Cert.ZpIdeal.nD Cert.ZpIdeal.τ).loc Cert.ZpIdeal.main_arg1) = m ((c.tc : Thread Cert.ZpIdeal.nD Cert.ZpIdeal.τ).loc Cert.ZpIdeal.main_arg1)
          ∧ r.2.mem ((c.tc : Thread Cert.ZpIdeal.nD Cert.ZpIdeal.τ).loc Cert.ZpIdeal.main_arg2) = m ((c.tc : Thread Cert.ZpIdeal.nD Cert.ZpIdeal.τ).loc Cert.ZpIdeal.main_arg2)
          ∧ r.2.mem ((c.tc : Thread Cert.ZpIdeal.nD Cert.ZpIdeal.τ).loc Cert.ZpIdeal.main_arg3) = m ((c.tc : Thread Cert.ZpIdeal.nD Cert.ZpIdeal.τ).loc Cert.ZpIdeal.main_arg3)
          ∧ r.2.mem ((c.tc : Thread Cert.ZpIdeal.nD Cert.ZpIdeal.τ).loc Cert.ZpIdeal.main_arg4) = m ((c.tc : Thread Cert.ZpIdeal.nD Cert.ZpIdeal.τ).loc Cert.ZpIdeal.main_arg4))
      ∧ θ_run (Cert.ZpRefIdeal.defs (F := Ideal)) (onTc (τ := Cert.ZpRefIdeal.τ) (Cert.ZpRefIdeal.main (F := Ideal))) ⟨m', fun _ => 0, g'⟩ (fun r => ∀ c : Dev Cert.ZpRefIdeal.nD,
          r.2.mem ((c.tc : Thread Cert.ZpRefIdeal.nD Cert.ZpRefIdeal.τ).loc Cert.ZpRefIdeal.main_v4) = v0 c
          ∧ r.2.mem ((c.tc : Thread Cert.ZpRefIdeal.nD Cert.ZpRefIdeal.τ).loc Cert.ZpRefIdeal.main_v7) = v1 c
          ∧ r.2.mem ((c.tc : Thread Cert.ZpRefIdeal.nD Cert.ZpRefIdeal.τ).loc Cert.ZpRefIdeal.main_v10) = v2 c
          ∧ r.2.mem ((c.tc : Thread Cert.ZpRefIdeal.nD Cert.ZpRefIdeal.τ).loc Cert.ZpRefIdeal.main_v13) = v3 c
          ∧ r.2.mem ((c.tc : Thread Cert.ZpRefIdeal.nD Cert.ZpRefIdeal.τ).loc Cert.ZpRefIdeal.main_arg0) = m' ((c.tc : Thread Cert.ZpRefIdeal.nD Cert.ZpRefIdeal.τ).loc Cert.ZpRefIdeal.main_arg0)
          ∧ r.2.mem ((c.tc : Thread Cert.ZpRefIdeal.nD Cert.ZpRefIdeal.τ).loc Cert.ZpRefIdeal.main_arg1) = m' ((c.tc : Thread Cert.ZpRefIdeal.nD Cert.ZpRefIdeal.τ).loc Cert.ZpRefIdeal.main_arg1)
          ∧ r.2.mem ((c.tc : Thread Cert.ZpRefIdeal.nD Cert.ZpRefIdeal.τ).loc Cert.ZpRefIdeal.main_arg2) = m' ((c.tc : Thread Cert.ZpRefIdeal.nD Cert.ZpRefIdeal.τ).loc Cert.ZpRefIdeal.main_arg2)
          ∧ r.2.mem ((c.tc : Thread Cert.ZpRefIdeal.nD Cert.ZpRefIdeal.τ).loc Cert.ZpRefIdeal.main_arg3) = m' ((c.tc : Thread Cert.ZpRefIdeal.nD Cert.ZpRefIdeal.τ).loc Cert.ZpRefIdeal.main_arg3)
          ∧ r.2.mem ((c.tc : Thread Cert.ZpRefIdeal.nD Cert.ZpRefIdeal.τ).loc Cert.ZpRefIdeal.main_arg4) = m' ((c.tc : Thread Cert.ZpRefIdeal.nD Cert.ZpRefIdeal.τ).loc Cert.ZpRefIdeal.main_arg4))

def preserves_Cp_CpIdeal : Prop :=
  True

def algebraic_CpIdeal_CpRefIdeal [hCpIdeal : Cert.CpIdeal.Facts] [hCpRefIdeal : Cert.CpRefIdeal.Facts] : Prop :=
  ∀ (m : (ℓ : Loc Cert.CpIdeal.nD Cert.CpIdeal.τ Cert.CpIdeal.sig) → Buf (Elt Ideal) ℓ) (g : Dev Cert.CpIdeal.nD → PrngReg)
    (m' : (ℓ : Loc Cert.CpRefIdeal.nD Cert.CpRefIdeal.τ Cert.CpRefIdeal.sig) → Buf (Elt Ideal) ℓ) (g' : Dev Cert.CpRefIdeal.nD → PrngReg), Pre_CpIdeal m →
    (∀ c : Dev Cert.CpIdeal.nD,
      m' ((c.tc : Thread Cert.CpRefIdeal.nD Cert.CpRefIdeal.τ).loc Cert.CpRefIdeal.main_arg0) = m ((c.tc : Thread Cert.CpIdeal.nD Cert.CpIdeal.τ).loc Cert.CpIdeal.main_arg0)
      ∧ m' ((c.tc : Thread Cert.CpRefIdeal.nD Cert.CpRefIdeal.τ).loc Cert.CpRefIdeal.main_arg1) = m ((c.tc : Thread Cert.CpIdeal.nD Cert.CpIdeal.τ).loc Cert.CpIdeal.main_arg1)) →
    ∃ (v0 : (c : Dev Cert.CpIdeal.nD) → Buf (Elt Ideal) ((c.tc : Thread Cert.CpIdeal.nD Cert.CpIdeal.τ).loc Cert.CpIdeal.main_v0)),
      θ_run (Cert.CpIdeal.defs (F := Ideal)) (onTc (τ := Cert.CpIdeal.τ) (Cert.CpIdeal.main (F := Ideal))) ⟨m, fun _ => 0, g⟩ (fun r => ∀ c : Dev Cert.CpIdeal.nD,
          r.2.mem ((c.tc : Thread Cert.CpIdeal.nD Cert.CpIdeal.τ).loc Cert.CpIdeal.main_v0) = v0 c
          ∧ r.2.mem ((c.tc : Thread Cert.CpIdeal.nD Cert.CpIdeal.τ).loc Cert.CpIdeal.main_arg0) = m ((c.tc : Thread Cert.CpIdeal.nD Cert.CpIdeal.τ).loc Cert.CpIdeal.main_arg0)
          ∧ r.2.mem ((c.tc : Thread Cert.CpIdeal.nD Cert.CpIdeal.τ).loc Cert.CpIdeal.main_arg1) = m ((c.tc : Thread Cert.CpIdeal.nD Cert.CpIdeal.τ).loc Cert.CpIdeal.main_arg1))
      ∧ θ_run (Cert.CpRefIdeal.defs (F := Ideal)) (onTc (τ := Cert.CpRefIdeal.τ) (Cert.CpRefIdeal.main (F := Ideal))) ⟨m', fun _ => 0, g'⟩ (fun r => ∀ c : Dev Cert.CpRefIdeal.nD,
          r.2.mem ((c.tc : Thread Cert.CpRefIdeal.nD Cert.CpRefIdeal.τ).loc Cert.CpRefIdeal.main_v4) = v0 c
          ∧ r.2.mem ((c.tc : Thread Cert.CpRefIdeal.nD Cert.CpRefIdeal.τ).loc Cert.CpRefIdeal.main_arg0) = m' ((c.tc : Thread Cert.CpRefIdeal.nD Cert.CpRefIdeal.τ).loc Cert.CpRefIdeal.main_arg0)
          ∧ r.2.mem ((c.tc : Thread Cert.CpRefIdeal.nD Cert.CpRefIdeal.τ).loc Cert.CpRefIdeal.main_arg1) = m' ((c.tc : Thread Cert.CpRefIdeal.nD Cert.CpRefIdeal.τ).loc Cert.CpRefIdeal.main_arg1))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)
      ∧ m' ((c.tc : Thread Cert.OutPRefIdeal.nD Cert.OutPRefIdeal.τ).loc Cert.OutPRefIdeal.main_arg2) = m ((c.tc : Thread Cert.OutPIdeal.nD Cert.OutPIdeal.τ).loc Cert.OutPIdeal.main_arg2)
      ∧ m' ((c.tc : Thread Cert.OutPRefIdeal.nD Cert.OutPRefIdeal.τ).loc Cert.OutPRefIdeal.main_arg3) = m ((c.tc : Thread Cert.OutPIdeal.nD Cert.OutPIdeal.τ).loc Cert.OutPIdeal.main_arg3)) →
    ∃ (v0 : (c : Dev Cert.OutPIdeal.nD) → Buf (Elt Ideal) ((c.tc : Thread Cert.OutPIdeal.nD Cert.OutPIdeal.τ).loc Cert.OutPIdeal.main_v3_0)) (v1 : (c : Dev Cert.OutPIdeal.nD) → Buf (Elt Ideal) ((c.tc : Thread Cert.OutPIdeal.nD Cert.OutPIdeal.τ).loc Cert.OutPIdeal.main_v3_1)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v3_0) = v0 c
          ∧ r.2.mem ((c.tc : Thread Cert.OutPIdeal.nD Cert.OutPIdeal.τ).loc Cert.OutPIdeal.main_v3_1) = v1 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
          ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
          ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v4) = v0 c
          ∧ r.2.mem ((c.tc : Thread Cert.OutPRefIdeal.nD Cert.OutPRefIdeal.τ).loc Cert.OutPRefIdeal.main_v20) = v1 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1)
          ∧ r.2.mem ((c.tc : Thread Cert.OutPRefIdeal.nD Cert.OutPRefIdeal.τ).loc Cert.OutPRefIdeal.main_arg2) = m' ((c.tc : Thread Cert.OutPRefIdeal.nD Cert.OutPRefIdeal.τ).loc Cert.OutPRefIdeal.main_arg2)
          ∧ r.2.mem ((c.tc : Thread Cert.OutPRefIdeal.nD Cert.OutPRefIdeal.τ).loc Cert.OutPRefIdeal.main_arg3) = m' ((c.tc : Thread Cert.OutPRefIdeal.nD Cert.OutPRefIdeal.τ).loc Cert.OutPRefIdeal.main_arg3))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v13)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v13) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v58) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v4)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v4) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v16) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Na_NaIdeal : Prop :=
  True

def algebraic_NaIdeal_NaRefIdeal_pre_na_finite_inputs [hNaIdeal : Cert.NaIdeal.Facts] [hNaRefIdeal : Cert.NaRefIdeal.Facts] [hPre_na_finite_inputs : Cert.Pre_na_finite_inputs.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_na_finite_inputs m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v243)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v243) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v108) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def Claim : Prop :=
  ∃ (hMla : Cert.Mla.Facts) (hMlaIdeal : Cert.MlaIdeal.Facts) (hMlaRefIdeal : Cert.MlaRefIdeal.Facts) (hGate : Cert.Gate.Facts) (hGateIdeal : Cert.GateIdeal.Facts) (hGateRefIdeal : Cert.GateRefIdeal.Facts) (hQkv : Cert.Qkv.Facts) (hQkvIdeal : Cert.QkvIdeal.Facts) (hQkvRefIdeal : Cert.QkvRefIdeal.Facts) (hZp : Cert.Zp.Facts) (hZpIdeal : Cert.ZpIdeal.Facts) (hZpRefIdeal : Cert.ZpRefIdeal.Facts) (hCp : Cert.Cp.Facts) (hCpIdeal : Cert.CpIdeal.Facts) (hCpRefIdeal : Cert.CpRefIdeal.Facts) (hOutP : Cert.OutP.Facts) (hOutPIdeal : Cert.OutPIdeal.Facts) (hOutPRefIdeal : Cert.OutPRefIdeal.Facts) (hSgu : Cert.Sgu.Facts) (hSguIdeal : Cert.SguIdeal.Facts) (hSguRefIdeal : Cert.SguRefIdeal.Facts) (hRms : Cert.Rms.Facts) (hRmsIdeal : Cert.RmsIdeal.Facts) (hRmsRefIdeal : Cert.RmsRefIdeal.Facts) (hNa : Cert.Na.Facts) (hNaIdeal : Cert.NaIdeal.Facts) (hNaRefIdeal : Cert.NaRefIdeal.Facts) (hPre_mla_finite_inputs : Cert.Pre_mla_finite_inputs.Facts) (hPre_na_finite_inputs : Cert.Pre_na_finite_inputs.Facts),
    quiescent_Mla (hMla := hMla)
    ∧ quiescent_MlaIdeal (hMlaIdeal := hMlaIdeal)
    ∧ quiescent_MlaIdeal_pre_mla_finite_inputs (hMlaIdeal := hMlaIdeal) (hPre_mla_finite_inputs := hPre_mla_finite_inputs)
    ∧ quiescent_MlaRefIdeal (hMlaRefIdeal := hMlaRefIdeal)
    ∧ quiescent_MlaRefIdeal_pre_mla_finite_inputs (hMlaRefIdeal := hMlaRefIdeal) (hPre_mla_finite_inputs := hPre_mla_finite_inputs)
    ∧ quiescent_Gate (hGate := hGate)
    ∧ quiescent_GateIdeal (hGateIdeal := hGateIdeal)
    ∧ quiescent_GateRefIdeal (hGateRefIdeal := hGateRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Zp (hZp := hZp)
    ∧ quiescent_ZpIdeal (hZpIdeal := hZpIdeal)
    ∧ quiescent_ZpRefIdeal (hZpRefIdeal := hZpRefIdeal)
    ∧ quiescent_Cp (hCp := hCp)
    ∧ quiescent_CpIdeal (hCpIdeal := hCpIdeal)
    ∧ quiescent_CpRefIdeal (hCpRefIdeal := hCpRefIdeal)
    ∧ quiescent_OutP (hOutP := hOutP)
    ∧ quiescent_OutPIdeal (hOutPIdeal := hOutPIdeal)
    ∧ quiescent_OutPRefIdeal (hOutPRefIdeal := hOutPRefIdeal)
    ∧ quiescent_Sgu (hSgu := hSgu)
    ∧ quiescent_SguIdeal (hSguIdeal := hSguIdeal)
    ∧ quiescent_SguRefIdeal (hSguRefIdeal := hSguRefIdeal)
    ∧ quiescent_Rms (hRms := hRms)
    ∧ quiescent_RmsIdeal (hRmsIdeal := hRmsIdeal)
    ∧ quiescent_RmsRefIdeal (hRmsRefIdeal := hRmsRefIdeal)
    ∧ quiescent_Na (hNa := hNa)
    ∧ quiescent_NaIdeal (hNaIdeal := hNaIdeal)
    ∧ quiescent_NaIdeal_pre_na_finite_inputs (hNaIdeal := hNaIdeal) (hPre_na_finite_inputs := hPre_na_finite_inputs)
    ∧ quiescent_NaRefIdeal (hNaRefIdeal := hNaRefIdeal)
    ∧ quiescent_NaRefIdeal_pre_na_finite_inputs (hNaRefIdeal := hNaRefIdeal) (hPre_na_finite_inputs := hPre_na_finite_inputs)
    ∧ preserves_Mla_MlaIdeal
    ∧ algebraic_MlaIdeal_MlaRefIdeal_pre_mla_finite_inputs (hMlaIdeal := hMlaIdeal) (hMlaRefIdeal := hMlaRefIdeal) (hPre_mla_finite_inputs := hPre_mla_finite_inputs)
    ∧ preserves_Gate_GateIdeal
    ∧ algebraic_GateIdeal_GateRefIdeal (hGateIdeal := hGateIdeal) (hGateRefIdeal := hGateRefIdeal)
    ∧ preserves_Qkv_QkvIdeal
    ∧ algebraic_QkvIdeal_QkvRefIdeal (hQkvIdeal := hQkvIdeal) (hQkvRefIdeal := hQkvRefIdeal)
    ∧ preserves_Zp_ZpIdeal
    ∧ algebraic_ZpIdeal_ZpRefIdeal (hZpIdeal := hZpIdeal) (hZpRefIdeal := hZpRefIdeal)
    ∧ preserves_Cp_CpIdeal
    ∧ algebraic_CpIdeal_CpRefIdeal (hCpIdeal := hCpIdeal) (hCpRefIdeal := hCpRefIdeal)
    ∧ preserves_OutP_OutPIdeal
    ∧ algebraic_OutPIdeal_OutPRefIdeal (hOutPIdeal := hOutPIdeal) (hOutPRefIdeal := hOutPRefIdeal)
    ∧ preserves_Sgu_SguIdeal
    ∧ algebraic_SguIdeal_SguRefIdeal (hSguIdeal := hSguIdeal) (hSguRefIdeal := hSguRefIdeal)
    ∧ preserves_Rms_RmsIdeal
    ∧ algebraic_RmsIdeal_RmsRefIdeal (hRmsIdeal := hRmsIdeal) (hRmsRefIdeal := hRmsRefIdeal)
    ∧ preserves_Na_NaIdeal
    ∧ algebraic_NaIdeal_NaRefIdeal_pre_na_finite_inputs (hNaIdeal := hNaIdeal) (hNaRefIdeal := hNaRefIdeal) (hPre_na_finite_inputs := hPre_na_finite_inputs)
-- ==== Pre_mla_finite_inputs.lean ====
abbrev S8192x1024 : Shape := ⟨2, ![8192, 1024]⟩
abbrev S8192x2048 : Shape := ⟨2, ![8192, 2048]⟩
abbrev S2x2048x6208 : Shape := ⟨3, ![2, 2048, 6208]⟩
abbrev S512 : Shape := ⟨1, ![512]⟩
abbrev S512x1536 : Shape := ⟨2, ![512, 1536]⟩
abbrev S512x2048 : Shape := ⟨2, ![512, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  bcast_S_S2x2048x6208 : S_.BroadcastsInDim S2x2048x6208 (![] : Fin 0 → Fin S2x2048x6208.rank)
  reducesTo_S2x2048x6208_S_d0_1_2 : S2x2048x6208.ReducesTo [0, 1, 2] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S512 .f32) (main_arg5 : FVec F S512x1536 .f32) (main_arg6 : FVec F S512x2048 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512 .f32 := Host.absf main_arg4
  let main_cst_6 : FVec F S_ .f32 := constant S_ .f32 0x7F800000#32
  let main_v21 : FVec F S512 .f32 := broadcastInDim S512 ![] bcast_S_S512 main_cst_6
  let main_v22 : IVec S512 1 := cmpf .olt main_v20 main_v21
  let main_c_7 : IVec S_ 1 := constantI S_ 1 1#1
  let main_v23 : IVec S_ 1 := (fun x v => Host.reduce IntOp.andi x v reducesTo_S512_S_d0 h_S_) main_v22 main_c_7
  let main_v24 : IVec S_ 1 := andi main_v19 main_v23
  let main_v25 : FVec F S512x1536 .f32 := Host.absf main_arg5
  let main_cst_8 : FVec F S_ .f32 := constant S_ .f32 0x7F800000#32
  let main_v26 : FVec F S512x1536 .f32 := broadcastInDim S512x1536 ![] bcast_S_S512x1536 main_cst_8
  let main_v27 : IVec S512x1536 1 := cmpf .olt main_v25 main_v26
  let main_c_9 : IVec S_ 1 := constantI S_ 1 1#1
  let main_v28 : IVec S_ 1 := (fun x v => Host.reduce IntOp.andi x v reducesTo_S512x1536_S_d0_1 h_S_) main_v27 main_c_9
  let main_v29 : IVec S_ 1 := andi main_v24 main_v28
  let main_v30 : FVec F S512x2048 .f32 := Host.absf main_arg6
  let main_cst_10 : FVec F S_ .f32 := constant S_ .f32 0x7F800000#32
  let main_v31 : FVec F S512x2048 .f32 := broadcastInDim S512x2048 ![] bcast_S_S512x2048 main_cst_10
  let main_v32 : IVec S512x2048 1 := cmpf .olt main_v30 main_v31
  let main_c_11 : IVec S_ 1 := constantI S_ 1 1#1
  let main_v33 : IVec S_ 1 := (fun x v => Host.reduce IntOp.andi x v reducesTo_S512x2048_S_d0_1 h_S_) main_v32 main_c_11
  fn_part2 (F := F) main_v29 main_v33

def fn {F : FTy → Type} [FloatOps F] (main_arg0 : FVec F S8192x1024 .f32) (main_arg1 : FVec F S8192x2048 .bf16) (main_arg2 : FVec F S2x2048x6208 .f32) (main_arg3 : FVec F S512 .f32) (main_arg4 : FVec F S512 .f32) (main_arg5 : FVec F S512x1536 .f32) (main_arg6 : FVec F S512x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v3 main_v8
  let main_v10 : FVec F S2x2048x6208 .f32 := Host.absf main_arg2
  let main_cst_2 : FVec F S_ .f32 := constant S_ .f32 0x7F800000#32
  let main_v11 : FVec F S2x2048x6208 .f32 := broadcastInDim S2x2048x6208 ![] bcast_S_S2x2048x6208 main_cst_2
  let main_v12 : IVec S2x2048x6208 1 := cmpf .olt main_v10 main_v11
  let main_c_3 : IVec S_ 1 := constantI S_ 1 1#1
  let main_v13 : IVec S_ 1 := (fun x v => Host.reduce IntOp.andi x v reducesTo_S2x2048x6208_S_d0_1_2 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_arg4 main_arg5 main_arg6 main_v14 main_v15 main_v16
-- ==== Pre_na_finite_inputs.lean ====
abbrev S8192x3072 : Shape := ⟨2, ![8192, 3072]⟩
abbrev S2x8x15x31 : Shape := ⟨4, ![2, 8, 15, 31]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S2x8x15x31 : S_.BroadcastsInDim S2x8x15x31 (![] : Fin 0 → Fin S2x8x15x31.rank)
  reducesTo_S2x8x15x31_S_d0_1_2_3 : S2x8x15x31.ReducesTo [0, 1, 2, 3] S_

variable [Facts]

def fn {F : FTy → Type} [FloatOps F] (main_arg0 : FVec F S8192x3072 .bf16) (main_arg1 : FVec F S2x8x15x31 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S2x8x15x31 .f32 := Host.absf main_arg1
  let main_cst_0 : FVec F S_ .f32 := constant S_ .f32 0x7F800000#32
  let main_v6 : FVec F S2x8x15x31 .f32 := broadcastInDim S2x8x15x31 ![] bcast_S_S2x8x15x31 main_cst_0
  let main_v7 : IVec S2x8x15x31 1 := cmpf .olt main_v5 main_v6
  let main_c_1 : IVec S_ 1 := constantI S_ 1 1#1
  let main_v8 : IVec S_ 1 := (fun x v => Host.reduce IntOp.andi x v reducesTo_S2x8x15x31_S_d0_1_2_3 h_S_) main_v7 main_c_1
  let main_v9 : IVec S_ 1 := andi main_v4 main_v8
  main_v9
-- ==== Mla.lean ====
abbrev S8192x1024 : Shape := ⟨2, ![8192, 1024]⟩
abbrev S8192x2048 : Shape := ⟨2, ![8192, 2048]⟩
abbrev S2x2048x6208 : Shape := ⟨3, ![2, 2048, 6208]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x256 : Shape := ⟨2, ![4096, 256]⟩
abbrev S1x2048x64 : Shape := ⟨3, ![1, 2048, 64]⟩
abbrev S2048x64 : Shape := ⟨2, ![2048, 64]⟩
abbrev S512x8x192 : Shape := ⟨3, ![512, 8, 192]⟩
abbrev S512x8x128 : Shape := ⟨3, ![512, 8, 128]⟩
abbrev S512x8x64 : Shape := ⟨3, ![512, 8, 64]⟩
abbrev S512x8x256 : Shape := ⟨3, ![512, 8, 256]⟩
abbrev S512x8x32 : Shape := ⟨3, ![512, 8, 32]⟩
abbrev S512x1024 : Shape := ⟨2, ![512, 1024]⟩
abbrev S2048x128 : Shape := ⟨2, ![2048, 128]⟩
abbrev S2048x256 : Shape := ⟨2, ![2048, 256]⟩
abbrev S2048x32 : Shape := ⟨2, ![2048, 32]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩
abbrev S1x512 : Shape := ⟨2, ![1, 512]⟩
abbrev S512x512 : Shape := ⟨2, ![512, 512]⟩
abbrev S512x256 : Shape := ⟨2, ![512, 256]⟩
abbrev S512x1 : Shape := ⟨2, ![512, 1]⟩
abbrev S512x128 : Shape := ⟨2, ![512, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 87
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2x2048x6208, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S_, .f32⟩
  | .hbm, ⟨32, _⟩ => ⟨S4096x64, .f32⟩
  | .hbm, ⟨33, _⟩ => ⟨S_, .f32⟩
  | .hbm, ⟨34, _⟩ => ⟨S4096x128, .f32⟩
  | .hbm, ⟨35, _⟩ => ⟨S4096x256, .f32⟩
  | .hbm, ⟨36, _⟩ => ⟨S_, .f32⟩
  | .hbm, ⟨37, _⟩ => ⟨S4096x128, .f32⟩
  | .hbm, ⟨38, _⟩ => ⟨S4096x256, .f32⟩
  | .hbm, ⟨39, _⟩ => ⟨S1x2048x64, .f32⟩
  | .hbm, ⟨40, _⟩ => ⟨S2048x64, .f32⟩
  | .hbm, ⟨41, _⟩ => ⟨S512x8x192, .f32⟩
  | .hbm, ⟨42, _⟩ => ⟨S512x8x128, .f32⟩
  | .hbm, ⟨43, _⟩ => ⟨S512x8x64, .f32⟩
  | .hbm, ⟨44, _⟩ => ⟨S_, .f32⟩
  | .hbm, ⟨45, _⟩ => ⟨S512x8x64, .f32⟩
  | .hbm, ⟨46, _⟩ => ⟨S512x8x256, .f32⟩
  | .hbm, ⟨47, _⟩ => ⟨S512x2048, .f32⟩
  | .hbm, ⟨48, _⟩ => ⟨S_, .f32⟩
  | .hbm, ⟨49, _⟩ => ⟨S512x8x128, .f32⟩
  | .hbm, ⟨50, _⟩ => ⟨S512x8x32, .f32⟩
  | .hbm, ⟨51, _⟩ => ⟨S512x8x32, .f32⟩
  | .hbm, ⟨52, _⟩ => ⟨S512x8x32, .f32⟩
  | .hbm, ⟨53, _⟩ => ⟨S512x8x64, .f32⟩
  | .hbm, ⟨54, _⟩ => ⟨S512x8x256, .f32⟩
  | .hbm, ⟨55, _⟩ => ⟨S512x2048, .f32⟩
  | .hbm, ⟨56, _⟩ => ⟨S512x8x256, .f32⟩
  | .hbm, ⟨57, _⟩ => ⟨S512x8x128, .f32⟩
  | .hbm, ⟨58, _⟩ => ⟨S512x8x128, .f32⟩
  | .hbm, ⟨59, _⟩ => ⟨S_, .f32⟩
  | .hbm, ⟨60, _⟩ => ⟨S512x8x128, .f32⟩
  | .hbm, ⟨61, _⟩ => ⟨S512x8x256, .f32⟩
  | .hbm, ⟨62, _⟩ => ⟨S512x2048, .f32⟩
  | .hbm, ⟨63, _⟩ => ⟨S512x1024, .f32⟩
  | .hbm, ⟨64, _⟩ => ⟨S_, .f32⟩
  | .hbm, ⟨65, _⟩ => ⟨S2048x128, .f32⟩
  | .hbm, ⟨66, _⟩ => ⟨S_, .f32⟩
  | .hbm, ⟨67, _⟩ => ⟨S2048x64, .f32⟩
  | .hbm, ⟨68, _⟩ => ⟨S2048x256, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x64, .f32⟩
  | .hbm, ⟨73, _⟩ => ⟨S2048x256, .f32⟩
  | .hbm, ⟨74, _⟩ => ⟨S2048x512, .f32⟩
  | .hbm, ⟨75, _⟩ => ⟨S2048x512, .bf16⟩
  | .hbm, ⟨76, _⟩ => ⟨S8192x512, .f32⟩
  | .hbm, ⟨77, _⟩ => ⟨S512x2048, .bf16⟩
  | .hbm, ⟨78, _⟩ => ⟨S512x2048, .bf16⟩
  | .hbm, ⟨79, _⟩ => ⟨S512x2048, .bf16⟩
  | .hbm, ⟨80, _⟩ => ⟨S512x1024, .bf16⟩
  | .hbm, ⟨81, _⟩ => ⟨S1x512, .f32⟩
  | .hbm, ⟨82, _⟩ => ⟨S1x512, .f32⟩
  | .hbm, ⟨83, _⟩ => ⟨S8192x2048, .bf16⟩
  | .hbm, ⟨84, _⟩ => ⟨S8192x2048, .bf16⟩
  | .hbm, ⟨85, _⟩ => ⟨S8192x2048, .bf16⟩
  | .hbm, ⟨86, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S1x512, .f32⟩
  | .local _ .vmem, ⟨14, _⟩ => ⟨S1x512, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x1024, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | .local _ .vmem, ⟨29, _⟩ => ⟨S2048x256, .bf16⟩
  | .local _ .vmem, ⟨30, _⟩ => ⟨S2048x256, .bf16⟩
  | .local _ .vmem, ⟨31, _⟩ => ⟨S4096x256, .bf16⟩
  | .local _ .vmem, ⟨32, _⟩ => ⟨S4096x256, .bf16⟩
  | .local _ .vmem, ⟨33, _⟩ => ⟨S4096x256, .bf16⟩
  | .local _ .vmem, ⟨34, _⟩ => ⟨S4096x256, .bf16⟩
  | .local _ .vmem, ⟨35, _⟩ => ⟨S2048x128, .bf16⟩
  | .local _ .vmem, ⟨36, _⟩ => ⟨S2048x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63_0 : Ref sig .tc := ⟨.hbm, 83, rfl⟩
abbrev main_v63_1 : Ref sig .tc := ⟨.hbm, 84, rfl⟩
abbrev main_v63_2 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem12_1 : DmaSem sig := 24
abbrev cc1_sem13_0 : DmaSem sig := 25
abbrev cc1_sem13_1 : DmaSem sig := 26
abbrev cc1_sem14_0 : DmaSem sig := 27
abbrev cc1_sem14_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_7 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S512x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x2048 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x2048 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨3, ![2, 8, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]
-- ==== MlaRefIdeal.lean ====
abbrev S8192x1024 : Shape := ⟨2, ![8192, 1024]⟩
abbrev S8192x2048 : Shape := ⟨2, ![8192, 2048]⟩
abbrev S2x2048x6208 : Shape := ⟨3, ![2, 2048, 6208]⟩
abbrev S512 : Shape := ⟨1, ![512]⟩
abbrev S512x1536 : Shape := ⟨2, ![512, 1536]⟩
abbrev S512x2048 : Shape := ⟨2, ![512, 2048]⟩
abbrev S8192x512 : Shape := ⟨2, ![8192, 512]⟩
abbrev S2x4096x512 : Shape := ⟨3, ![2, 4096, 512]⟩
abbrev S1x2048x6208 : Shape := ⟨3, ![1, 2048, 6208]⟩
abbrev S2048x6208 : Shape := ⟨2, ![2048, 6208]⟩
abbrev S2048x64 : Shape := ⟨2, ![2048, 64]⟩
abbrev S8192x64 : Shape := ⟨2, ![8192, 64]⟩
abbrev S2x4096x64 : Shape := ⟨3, ![2, 4096, 64]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x1536 : Shape := ⟨3, ![2, 4096, 1536]⟩
abbrev S2x4096x8x192 : Shape := ⟨4, ![2, 4096, 8, 192]⟩
abbrev S2x4096x2048 : Shape := ⟨3, ![2, 4096, 2048]⟩
abbrev S2x4096x8x256 : Shape := ⟨4, ![2, 4096, 8, 256]⟩
abbrev S2x4096x8x128 : Shape := ⟨4, ![2, 4096, 8, 128]⟩
abbrev S2x4096x8x64 : Shape := ⟨4, ![2, 4096, 8, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x4096x32 : Shape := ⟨3, ![2, 4096, 32]⟩
abbrev S1x4096x32 : Shape := ⟨3, ![1, 4096, 32]⟩
abbrev S2x8x4096x4096 : Shape := ⟨4, ![2, 8, 4096, 4096]⟩
abbrev S2x4096x4096x8 : Shape := ⟨4, ![2, 4096, 4096, 8]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x2048, .bf16⟩
  | 2 => ⟨S2x2048x6208, .f32⟩
  | 3 => ⟨S512, .f32⟩
  | 4 => ⟨S512, .f32⟩
  | 5 => ⟨S512x1536, .f32⟩
  | 6 => ⟨S512x2048, .f32⟩
  | 7 => ⟨S8192x512, .f32⟩
  | 8 => ⟨S2x4096x512, .f32⟩
  | 9 => ⟨S8192x512, .f32⟩
  | 10 => ⟨S2x4096x512, .f32⟩
  | 11 => ⟨S8192x2048, .f32⟩
  | 12 => ⟨S1x2048x6208, .f32⟩
  | 13 => ⟨S2048x6208, .f32⟩
  | 14 => ⟨S2048x64, .f32⟩
  | 15 => ⟨S8192x64, .f32⟩
  | 16 => ⟨S2x4096x64, .f32⟩
  | 17 => ⟨S2x4096x512, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096x1, .f32⟩
  | 26 => ⟨S2x4096x1, .f32⟩
  | 27 => ⟨S2x4096x1, .f32⟩
  | 28 => ⟨S2x4096x512, .f32⟩
  | 29 => ⟨S2x4096x512, .f32⟩
  | 30 => ⟨S1x1x512, .f32⟩
  | 31 => ⟨S2x4096x512, .f32⟩
  | 32 => ⟨S2x4096x512, .f32⟩
  | 33 => ⟨S2x4096x1536, .f32⟩
  | 34 => ⟨S2x4096x8x192, .f32⟩
  | 35 => ⟨S2x4096x512, .f32⟩
  | 36 => ⟨S_, .f32⟩
  | 37 => ⟨S2x4096, .f32⟩
  | 38 => ⟨S2x4096x1, .f32⟩
  | 39 => ⟨S_, .f32⟩
  | 40 => ⟨S2x4096x1, .f32⟩
  | 41 => ⟨S2x4096x1, .f32⟩
  | 42 => ⟨S_, .f32⟩
  | 43 => ⟨S2x4096x1, .f32⟩
  | 44 => ⟨S2x4096x1, .f32⟩
  | 45 => ⟨S2x4096x1, .f32⟩
  | 46 => ⟨S2x4096x512, .f32⟩
  | 47 => ⟨S2x4096x512, .f32⟩
  | 48 => ⟨S1x1x512, .f32⟩
  | 49 => ⟨S2x4096x512, .f32⟩
  | 50 => ⟨S2x4096x512, .f32⟩
  | 51 => ⟨S2x4096x2048, .f32⟩
  | 52 => ⟨S2x4096x8x256, .f32⟩
  | 53 => ⟨S2x4096x8x128, .f32⟩
  | 54 => ⟨S2x4096x8x64, .f32⟩
  | 55 => ⟨S2x4096x8x128, .f32⟩
  | 56 => ⟨S2x4096x8x128, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S4096, .f32⟩
  | 74 => ⟨S4096x1, .f32⟩
  | 75 => ⟨S1x32, .f32⟩
  | 76 => ⟨S4096x32, .f32⟩
  | 77 => ⟨S4096x32, .f32⟩
  | 78 => ⟨S4096x32, .f32⟩
  | 79 => ⟨S4096x32, .f32⟩
  | 80 => ⟨S4096x32, .f32⟩
  | 81 => ⟨S4096x1x32, .f32⟩
  | 82 => ⟨S4096x1x32, .f32⟩
  | 83 => ⟨S2x4096x8x32, .f32⟩
  | 84 => ⟨S2x4096x8x32, .f32⟩
  | 85 => ⟨S1x4096x1x32, .f32⟩
  | 86 => ⟨S2x4096x8x32, .f32⟩
  | 87 => ⟨S2x4096x8x32, .f32⟩
  | 88 => ⟨S1x4096x1x32, .f32⟩
  | 89 => ⟨S2x4096x8x32, .f32⟩
  | 90 => ⟨S2x4096x8x32, .f32⟩
  | 91 => ⟨S2x4096x8x32, .f32⟩
  | 92 => ⟨S1x4096x1x32, .f32⟩
  | 93 => ⟨S2x4096x8x32, .f32⟩
  | 94 => ⟨S2x4096x8x32, .f32⟩
  | 95 => ⟨S1x4096x1x32, .f32⟩
  | 96 => ⟨S2x4096x8x32, .f32⟩
  | 97 => ⟨S2x4096x8x32, .f32⟩
  | 98 => ⟨S2x4096x8x32, .f32⟩
  | 99 => ⟨S2x4096x8x64, .f32⟩
  | 100 => ⟨S2x4096x32, .f32⟩
  | 101 => ⟨S2x4096x32, .f32⟩
  | 102 => ⟨S1x4096x32, .f32⟩
  | 103 => ⟨S2x4096x32, .f32⟩
  | 104 => ⟨S2x4096x32, .f32⟩
  | 105 => ⟨S1x4096x32, .f32⟩
  | 106 => ⟨S2x4096x32, .f32⟩
  | 107 => ⟨S2x4096x32, .f32⟩
  | 108 => ⟨S2x4096x32, .f32⟩
  | 109 => ⟨S1x4096x32, .f32⟩
  | 110 => ⟨S2x4096x32, .f32⟩
  | 111 => ⟨S2x4096x32, .f32⟩
  | 112 => ⟨S1x4096x32, .f32⟩
  | 113 => ⟨S2x4096x32, .f32⟩
  | 114 => ⟨S2x4096x32, .f32⟩
  | 115 => ⟨S2x4096x32, .f32⟩
  | 116 => ⟨S2x4096x64, .f32⟩
  | 117 => ⟨S2x8x4096x4096, .f32⟩
  | 118 => ⟨S2x4096x4096x8, .f32⟩
  | 119 => ⟨S2x8x4096x4096, .f32⟩
  | 120 => ⟨S2x8x4096x4096, .f32⟩
  | 121 => ⟨S_, .f32⟩
  | 122 => ⟨S2x8x4096x4096, .f32⟩
  | 123 => ⟨S2x8x4096x4096, .f32⟩
  | 124 => ⟨S_, .f32⟩
  | 125 => ⟨S2x8x4096, .f32⟩
  | 126 => ⟨S_, .f32⟩
  | 127 => ⟨S2x8x4096, .f32⟩
  | _ => ⟨S8192x1024, .f32⟩

abbrev hbmTy0_1 (i : Nat) : BufTy := match i % 128 with
  | 0 => ⟨S2x8x4096, .f32⟩
  | 1 => ⟨S2x8x4096x1, .f32⟩
  | 2 => ⟨S2x8x4096x4096, .f32⟩
  | 3 => ⟨S2x8x4096x4096, .f32⟩
  | 4 => ⟨S2x8x4096x4096, .f32⟩
  | 5 => ⟨S_, .f32⟩
  | 6 => ⟨S2x8x4096, .f32⟩
  | 7 => ⟨S2x8x4096x1, .f32⟩
  | 8 => ⟨S2x8x4096x4096, .f32⟩
  | 9 => ⟨S2x8x4096x4096, .f32⟩
  | 10 => ⟨S2x8x128x4096, .f32⟩
  | 11 => ⟨S2x4096x8x128, .f32⟩
  | 12 => ⟨S8192x1024, .f32⟩
  | 13 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_cst_11 : Ref sig .tc := ⟨.hbm, 124, rfl⟩
abbrev main_v105 : Ref sig .tc := ⟨.hbm, 125, rfl⟩
abbrev main_cst_12 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_13 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩

abbrev nD : Nat := 1
abbrev τ : Topo := Topo.v7x

variable {F : FTy → Type} [FloatOps F]
-- ==== Gate.lean ====
abbrev S8192x2048 : Shape := ⟨2, ![8192, 2048]⟩
abbrev S8192x1024 : Shape := ⟨2, ![8192, 1024]⟩
abbrev S2048x6144 : Shape := ⟨2, ![2048, 6144]⟩
abbrev S2x6144 : Shape := ⟨2, ![2, 6144]⟩
abbrev S1024x2048 : Shape := ⟨2, ![1024, 2048]⟩
abbrev S2x16384x2048 : Shape := ⟨3, ![2, 16384, 2048]⟩
abbrev S2x1x6144 : Shape := ⟨3, ![2, 1, 6144]⟩
abbrev S16384x2048 : Shape := ⟨2, ![16384, 2048]⟩
abbrev S512x2048 : Shape := ⟨2, ![512, 2048]⟩
abbrev S512x1024 : Shape := ⟨2, ![512, 1024]⟩
abbrev S2048x512 : Shape := ⟨2, ![2048, 512]⟩
abbrev S1x1x512 : Shape := ⟨3, ![1, 1, 512]⟩
abbrev S1024x512 : Shape := ⟨2, ![1024, 512]⟩
abbrev S1x256x2048 : Shape := ⟨3, ![1, 256, 2048]⟩
abbrev S512x512 : Shape := ⟨2, ![512, 512]⟩
abbrev S256x2048 : Shape := ⟨2, ![256, 2048]⟩
abbrev S1x512 : Shape := ⟨2, ![1, 512]⟩

abbrev nBuf : Space → Nat
  | .hbm => 15
  | .vmem => 36
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2048x6144, .bf16⟩
  | .hbm, ⟨5, _⟩ => ⟨S2x6144, .f32⟩
  | .hbm, ⟨6, _⟩ => ⟨S1024x2048, .bf16⟩
  | .hbm, ⟨7, _⟩ => ⟨S1024x2048, .bf16⟩
  | .hbm, ⟨8, _⟩ => ⟨S1024x2048, .bf16⟩
  | .hbm, ⟨9, _⟩ => ⟨S2x16384x2048, .f32⟩
  | .hbm, ⟨10, _⟩ => ⟨S2x16384x2048, .f32⟩
  | .hbm, ⟨11, _⟩ => ⟨S2x1x6144, .f32⟩
  | .hbm, ⟨12, _⟩ => ⟨S8192x2048, .bf16⟩
  | .hbm, ⟨13, _⟩ => ⟨S16384x2048, .bf16⟩
  | .hbm, ⟨14, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1x256x2048, .f32⟩
  | .local _ .vmem, ⟨27, _⟩ => ⟨S1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S512x512, .bf16⟩
  | .local _ .vmem, ⟨31, _⟩ => ⟨S512x512, .bf16⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== GateRefIdeal.lean ====
abbrev S8192x2048 : Shape := ⟨2, ![8192, 2048]⟩
abbrev S8192x1024 : Shape := ⟨2, ![8192, 1024]⟩
abbrev S2048x6144 : Shape := ⟨2, ![2048, 6144]⟩
abbrev S2x6144 : Shape := ⟨2, ![2, 6144]⟩
abbrev S1024x2048 : Shape := ⟨2, ![1024, 2048]⟩
abbrev S2x16384x2048 : Shape := ⟨3, ![2, 16384, 2048]⟩
abbrev S8192x6144 : Shape := ⟨2, ![8192, 6144]⟩
abbrev S1x6144 : Shape := ⟨2, ![1, 6144]⟩
abbrev S6144 : Shape := ⟨1, ![6144]⟩
abbrev S_ : Shape := ⟨0, ![]⟩
abbrev S8192x3x2048 : Shape := ⟨3, ![8192, 3, 2048]⟩
abbrev S8192x1x2048 : Shape := ⟨3, ![8192, 1, 2048]⟩
abbrev S1x16384x2048 : Shape := ⟨3, ![1, 16384, 2048]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2048x6144, .bf16⟩
  | .hbm, ⟨5, _⟩ => ⟨S2x6144, .f32⟩
  | .hbm, ⟨6, _⟩ => ⟨S1024x2048, .bf16⟩
  | .hbm, ⟨7, _⟩ => ⟨S1024x2048, .bf16⟩
  | .hbm, ⟨8, _⟩ => ⟨S1024x2048, .bf16⟩
  | .hbm, ⟨9, _⟩ => ⟨S2x16384x2048, .f32⟩
  | .hbm, ⟨10, _⟩ => ⟨S2x16384x2048, .f32⟩
  | .hbm, ⟨11, _⟩ => ⟨S8192x2048, .f32⟩
  | .hbm, ⟨12, _⟩ => ⟨S2048x6144, .f32⟩
  | .hbm, ⟨13, _⟩ => ⟨S8192x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S8192x6144, .f32⟩
  | .hbm, ⟨18, _⟩ => ⟨S8192x6144, .f32⟩
  | .hbm, ⟨19, _⟩ => ⟨S8192x6144, .f32⟩
  | .hbm, ⟨20, _⟩ => ⟨S8192x6144, .f32⟩
  | .hbm, ⟨21, _⟩ => ⟨S_, .f32⟩
  | .hbm, ⟨22, _⟩ => ⟨S8192x6144, .f32⟩
  | .hbm, ⟨23, _⟩ => ⟨S8192x6144, .f32⟩
  | .hbm, ⟨24, _⟩ => ⟨S_, .f32⟩
  | .hbm, ⟨25, _⟩ => ⟨S8192x6144, .f32⟩
  | .hbm, ⟨26, _⟩ => ⟨S8192x6144, .f32⟩
  | .hbm, ⟨27, _⟩ => ⟨S8192x3x2048, .f32⟩
  | .hbm, ⟨28, _⟩ => ⟨S8192x1x2048, .f32⟩
  | .hbm, ⟨29, _⟩ => ⟨S8192x2048, .f32⟩
  | .hbm, ⟨30, _⟩ => ⟨S8192x1024, .f32⟩
  | .hbm, ⟨31, _⟩ => ⟨S1024x2048, .f32⟩
  | .hbm, ⟨32, _⟩ => ⟨S8192x2048, .f32⟩
  | .hbm, ⟨33, _⟩ => ⟨S8192x2048, .f32⟩
  | .hbm, ⟨34, _⟩ => ⟨S8192x1x2048, .f32⟩
  | .hbm, ⟨35, _⟩ => ⟨S8192x2048, .f32⟩
  | .hbm, ⟨36, _⟩ => ⟨S8192x1024, .f32⟩
  | .hbm, ⟨37, _⟩ => ⟨S1024x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1x2048, .f32⟩
  | .hbm, ⟨42, _⟩ => ⟨S8192x2048, .f32⟩
  | .hbm, ⟨43, _⟩ => ⟨S8192x1024, .f32⟩
  | .hbm, ⟨44, _⟩ => ⟨S1024x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S1x16384x2048, .f32⟩
  | .hbm, ⟨50, _⟩ => ⟨S16384x2048, .f32⟩
  | .hbm, ⟨51, _⟩ => ⟨S16384x2048, .bf16⟩
  | .hbm, ⟨52, _⟩ => ⟨S1x16384x2048, .f32⟩
  | .hbm, ⟨53, _⟩ => ⟨S16384x2048, .f32⟩
  | .hbm, ⟨54, _⟩ => ⟨S16384x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Qkv.lean ====
abbrev S8192x2048 : Shape := ⟨2, ![8192, 2048]⟩
abbrev S2x2048x6208 : Shape := ⟨3, ![2, 2048, 6208]⟩
abbrev S2x2048x6144 : Shape := ⟨3, ![2, 2048, 6144]⟩
abbrev S8192x3072 : Shape := ⟨2, ![8192, 3072]⟩
abbrev S2048x6144 : Shape := ⟨2, ![2048, 6144]⟩
abbrev S1024x2048 : Shape := ⟨2, ![1024, 2048]⟩
abbrev S1x2048x1024 : Shape := ⟨3, ![1, 2048, 1024]⟩
abbrev S1x256x2048 : Shape := ⟨3, ![1, 256, 2048]⟩
abbrev S1024x1024 : Shape := ⟨2, ![1024, 1024]⟩
abbrev S256x2048 : Shape := ⟨2, ![256, 2048]⟩
abbrev S2048x1024 : Shape := ⟨2, ![2048, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x6208, .f32⟩
  | .hbm, ⟨2, _⟩ => ⟨S2x2048x6144, .f32⟩
  | .hbm, ⟨3, _⟩ => ⟨S8192x3072, .bf16⟩
  | .hbm, ⟨4, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x256x2048, .f32⟩
  | .local _ .vmem, ⟨5, _⟩ => ⟨S1x256x2048, .f32⟩
  | .local _ .vmem, ⟨6, _⟩ => ⟨S1024x1024, .bf16⟩
  | .local _ .vmem, ⟨7, _⟩ => ⟨S1024x1024, .bf16⟩
  | .local _ .vmem, ⟨8, _⟩ => ⟨S256x2048, .bf16⟩
  | .local _ .vmem, ⟨9, _⟩ => ⟨S256x2048, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S8192x2048 : Shape := ⟨2, ![8192, 2048]⟩
abbrev S2x2048x6208 : Shape := ⟨3, ![2, 2048, 6208]⟩
abbrev S2x2048x6144 : Shape := ⟨3, ![2, 2048, 6144]⟩
abbrev S1x2048x6208 : Shape := ⟨3, ![1, 2048, 6208]⟩
abbrev S2048x6208 : Shape := ⟨2, ![2048, 6208]⟩
abbrev S8192x6208 : Shape := ⟨2, ![8192, 6208]⟩
abbrev S8192x3072 : Shape := ⟨2, ![8192, 3072]⟩
abbrev S1x2048x6144 : Shape := ⟨3, ![1, 2048, 6144]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6208, .f32⟩
  | .hbm, ⟨2, _⟩ => ⟨S2x2048x6144, .f32⟩
  | .hbm, ⟨3, _⟩ => ⟨S8192x2048, .f32⟩
  | .hbm, ⟨4, _⟩ => ⟨S1x2048x6208, .f32⟩
  | .hbm, ⟨5, _⟩ => ⟨S2048x6208, .f32⟩
  | .hbm, ⟨6, _⟩ => ⟨S8192x6208, .f32⟩
  | .hbm, ⟨7, _⟩ => ⟨S8192x3072, .f32⟩
  | .hbm, ⟨8, _⟩ => ⟨S8192x3072, .bf16⟩
  | .hbm, ⟨9, _⟩ => ⟨S1x2048x6144, .f32⟩
  | .hbm, ⟨10, _⟩ => ⟨S2048x6144, .f32⟩
  | .hbm, ⟨11, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Zp.lean ====
abbrev S8192x2048 : Shape := ⟨2, ![8192, 2048]⟩
abbrev S2x2048x6208 : Shape := ⟨3, ![2, 2048, 6208]⟩
abbrev S2x1024x2048 : Shape := ⟨3, ![2, 1024, 2048]⟩
abbrev S1024x2048 : Shape := ⟨2, ![1024, 2048]⟩
abbrev S1x2048x1024 : Shape := ⟨3, ![1, 2048, 1024]⟩
abbrev S1x128x1024 : Shape := ⟨3, ![1, 128, 1024]⟩
abbrev S1024x1024 : Shape := ⟨2, ![1024, 1024]⟩
abbrev S128x1024 : Shape := ⟨2, ![128, 1024]⟩
abbrev S2048x1024 : Shape := ⟨2, ![2048, 1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2x2048x6208, .f32⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S8192x2048, .f32⟩
  | .hbm, ⟨6, _⟩ => ⟨S1024x2048, .bf16⟩
  | .hbm, ⟨7, _⟩ => ⟨S1024x2048, .bf16⟩
  | .hbm, ⟨8, _⟩ => ⟨S1024x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1024x1024, .f32⟩
  | .local _ .vmem, ⟨11, _⟩ => ⟨S1024x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ZpRefIdeal.lean ====
abbrev S8192x2048 : Shape := ⟨2, ![8192, 2048]⟩
abbrev S2x2048x6208 : Shape := ⟨3, ![2, 2048, 6208]⟩
abbrev S2x1024x2048 : Shape := ⟨3, ![2, 1024, 2048]⟩
abbrev S1x2048x6208 : Shape := ⟨3, ![1, 2048, 6208]⟩
abbrev S2048x6208 : Shape := ⟨2, ![2048, 6208]⟩
abbrev S8192x6208 : Shape := ⟨2, ![8192, 6208]⟩
abbrev S1x1024x2048 : Shape := ⟨3, ![1, 1024, 2048]⟩
abbrev S1024x2048 : Shape := ⟨2, ![1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6208, .f32⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S8192x2048, .f32⟩
  | .hbm, ⟨6, _⟩ => ⟨S1x2048x6208, .f32⟩
  | .hbm, ⟨7, _⟩ => ⟨S2048x6208, .f32⟩
  | .hbm, ⟨8, _⟩ => ⟨S8192x6208, .f32⟩
  | .hbm, ⟨9, _⟩ => ⟨S8192x2048, .f32⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S1x1024x2048, .f32⟩
  | .hbm, ⟨14, _⟩ => ⟨S1024x2048, .f32⟩
  | .hbm, ⟨15, _⟩ => ⟨S1024x2048, .bf16⟩
  | .hbm, ⟨16, _⟩ => ⟨S1x1024x2048, .f32⟩
  | .hbm, ⟨17, _⟩ => ⟨S1024x2048, .f32⟩
  | .hbm, ⟨18, _⟩ => ⟨S1024x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Cp.lean ====
abbrev S8192x2048 : Shape := ⟨2, ![8192, 2048]⟩
abbrev S2x2048x6208 : Shape := ⟨3, ![2, 2048, 6208]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6208, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CpRefIdeal.lean ====
abbrev S8192x2048 : Shape := ⟨2, ![8192, 2048]⟩
abbrev S2x2048x6208 : Shape := ⟨3, ![2, 2048, 6208]⟩
abbrev S1x2048x6208 : Shape := ⟨3, ![1, 2048, 6208]⟩
abbrev S2048x6208 : Shape := ⟨2, ![2048, 6208]⟩
abbrev S8192x6208 : Shape := ⟨2, ![8192, 6208]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6208, .f32⟩
  | .hbm, ⟨2, _⟩ => ⟨S8192x2048, .f32⟩
  | .hbm, ⟨3, _⟩ => ⟨S1x2048x6208, .f32⟩
  | .hbm, ⟨4, _⟩ => ⟨S2048x6208, .f32⟩
  | .hbm, ⟨5, _⟩ => ⟨S8192x6208, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutP.lean ====
abbrev S8192x2048 : Shape := ⟨2, ![8192, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutPRefIdeal.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Sgu.lean ====
abbrev S8192x2048 : Shape := ⟨2, ![8192, 2048]⟩
abbrev S2x1024 : Shape := ⟨2, ![2, 1024]⟩
abbrev S2x8x128x128 : Shape := ⟨4, ![2, 8, 128, 128]⟩
abbrev S2x8x128 : Shape := ⟨3, ![2, 8, 128]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S8x128x1 : Shape := ⟨3, ![8, 128, 1]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 19
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x8x128x128, .f32⟩
  | .hbm, ⟨10, _⟩ => ⟨S8x128x128, .f32⟩
  | .hbm, ⟨11, _⟩ => ⟨S1x8x128, .f32⟩
  | .hbm, ⟨12, _⟩ => ⟨S8x128, .f32⟩
  | .hbm, ⟨13, _⟩ => ⟨S8x128x1, .f32⟩
  | .hbm, ⟨14, _⟩ => ⟨S8x128x128, .f32⟩
  | .hbm, ⟨15, _⟩ => ⟨S1x1024, .f32⟩
  | .hbm, ⟨16, _⟩ => ⟨S1x1024, .f32⟩
  | .hbm, ⟨17, _⟩ => ⟨S8x128x128, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x128, .f32⟩
  | .local _ .vmem, ⟨8, _⟩ => ⟨S512x1024, .bf16⟩
  | .local _ .vmem, ⟨9, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S8192x2048 : Shape := ⟨2, ![8192, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x4096x2048 : Shape := ⟨3, ![2, 4096, 2048]⟩
abbrev S_ : Shape := ⟨0, ![]⟩
abbrev S2x4096x1024 : Shape := ⟨3, ![2, 4096, 1024]⟩
abbrev S1x1024 : Shape := ⟨2, ![1, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S1x8x128x128 : Shape := ⟨4, ![1, 8, 128, 128]⟩
abbrev S8x128x128 : Shape := ⟨3, ![8, 128, 128]⟩
abbrev S8x2x32x128x128 : Shape := ⟨5, ![8, 2, 32, 128, 128]⟩
abbrev S1x8x128 : Shape := ⟨3, ![1, 8, 128]⟩
abbrev S8x128 : Shape := ⟨2, ![8, 128]⟩
abbrev S128x8 : Shape := ⟨2, ![128, 8]⟩
abbrev S1x1x128x8x1 : Shape := ⟨5, ![1, 1, 128, 8, 1]⟩
abbrev S8192x1024 : Shape := ⟨2, ![8192, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S2x4096x1024, .f32⟩
  | .hbm, ⟨24, _⟩ => ⟨S2x4096x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1024, .f32⟩
  | .hbm, ⟨45, _⟩ => ⟨S2x4096x1024, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x1, .f32⟩
  | .hbm, ⟨50, _⟩ => ⟨S2x4096x1024, .f32⟩
  | .hbm, ⟨51, _⟩ => ⟨S2x4096x1024, .f32⟩
  | .hbm, ⟨52, _⟩ => ⟨S1x1x1024, .f32⟩
  | .hbm, ⟨53, _⟩ => ⟨S2x4096x1024, .f32⟩
  | .hbm, ⟨54, _⟩ => ⟨S2x4096x1024, .f32⟩
  | .hbm, ⟨55, _⟩ => ⟨S1x1x1024, .f32⟩
  | .hbm, ⟨56, _⟩ => ⟨S2x4096x1024, .f32⟩
  | .hbm, ⟨57, _⟩ => ⟨S2x4096x1024, .f32⟩
  | .hbm, ⟨58, _⟩ => ⟨S2x32x128x8x128, .f32⟩
  | .hbm, ⟨59, _⟩ => ⟨S1x8x128x128, .f32⟩
  | .hbm, ⟨60, _⟩ => ⟨S8x128x128, .f32⟩
  | .hbm, ⟨61, _⟩ => ⟨S8x2x32x128x128, .f32⟩
  | .hbm, ⟨62, _⟩ => ⟨S2x32x128x8x128, .f32⟩
  | .hbm, ⟨63, _⟩ => ⟨S1x8x128, .f32⟩
  | .hbm, ⟨64, _⟩ => ⟨S8x128, .f32⟩
  | .hbm, ⟨65, _⟩ => ⟨S128x8, .f32⟩
  | .hbm, ⟨66, _⟩ => ⟨S1x1x128x8x1, .f32⟩
  | .hbm, ⟨67, _⟩ => ⟨S2x32x128x8x128, .f32⟩
  | .hbm, ⟨68, _⟩ => ⟨S2x32x128x8x128, .f32⟩
  | .hbm, ⟨69, _⟩ => ⟨S2x4096x1024, .f32⟩
  | .hbm, ⟨70, _⟩ => ⟨S2x4096x1024, .f32⟩
  | .hbm, ⟨71, _⟩ => ⟨S8192x1024, .f32⟩
  | .hbm, ⟨72, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Rms.lean ====
abbrev S2x4096x2048 : Shape := ⟨3, ![2, 4096, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S2x4096x2048 : Shape := ⟨3, ![2, 4096, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S8192x2048, .f32⟩
  | .hbm, ⟨21, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Na.lean ====
abbrev S8192x3072 : Shape := ⟨2, ![8192, 3072]⟩
abbrev S2x8x15x31 : Shape := ⟨4, ![2, 8, 15, 31]⟩
abbrev S1x8x15x31 : Shape := ⟨4, ![1, 8, 15, 31]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S1x1x64x64 : Shape := ⟨4, ![1, 1, 64, 64]⟩
abbrev S8x64x64 : Shape := ⟨3, ![8, 64, 64]⟩
abbrev S8x1x64x64 : Shape := ⟨4, ![8, 1, 64, 64]⟩
abbrev S8x64x768 : Shape := ⟨3, ![8, 64, 768]⟩
abbrev S8x256x768 : Shape := ⟨3, ![8, 256, 768]⟩
abbrev S8x1x256x768 : Shape := ⟨4, ![8, 1, 256, 768]⟩
abbrev S8x3x256x768 : Shape := ⟨4, ![8, 3, 256, 768]⟩
abbrev S8192x1024 : Shape := ⟨2, ![8192, 1024]⟩
abbrev S4096x128 : Shape := ⟨2, ![4096, 128]⟩
abbrev S1x3x256x768 : Shape := ⟨4, ![1, 3, 256, 768]⟩
abbrev S256x128 : Shape := ⟨2, ![256, 128]⟩
abbrev S768x128 : Shape := ⟨2, ![768, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 269
  | .vmem => 10
  | .smem => 0
  | _ => 0

abbrev hbmTy0_0 (i : Nat) : BufTy := match i % 128 with
  | 0 => ⟨S8192x3072, .bf16⟩
  | 1 => ⟨S2x8x15x31, .f32⟩
  | 2 => ⟨S1x8x15x31, .f32⟩
  | 3 => ⟨S8x15x31, .f32⟩
  | 4 => ⟨S64, .i32⟩
  | 5 => ⟨S64, .i32⟩
  | 6 => ⟨S_, .i32⟩
  | 7 => ⟨S64, .i32⟩
  | 8 => ⟨S64, .i32⟩
  | 9 => ⟨S_, .i32⟩
  | 10 => ⟨S_, .i32⟩
  | 11 => ⟨S_, .i32⟩
  | 12 => ⟨S64, .i32⟩
  | 13 => ⟨S64, .i32⟩
  | 14 => ⟨S_, .i32⟩
  | 15 => ⟨S64, .i32⟩
  | 16 => ⟨S64, .i32⟩
  | 17 => ⟨S1x64, .i32⟩
  | 18 => ⟨S64x1, .i32⟩
  | 19 => ⟨S64x64, .i32⟩
  | 20 => ⟨S64x64, .i32⟩
  | 21 => ⟨S64x64, .i1⟩
  | 22 => ⟨S1x64, .i32⟩
  | 23 => ⟨S64x1, .i32⟩
  | 24 => ⟨S_, .i32⟩
  | 25 => ⟨S64x1, .i32⟩
  | 26 => ⟨S64x1, .i32⟩
  | 27 => ⟨S64x64, .i32⟩
  | 28 => ⟨S64x64, .i32⟩
  | 29 => ⟨S64x64, .i1⟩
  | 30 => ⟨S64x64, .i1⟩
  | 31 => ⟨S1x64, .i32⟩
  | 32 => ⟨S64x1, .i32⟩
  | 33 => ⟨S64x64, .i32⟩
  | 34 => ⟨S64x64, .i32⟩
  | 35 => ⟨S64x64, .i32⟩
  | 36 => ⟨S_, .i32⟩
  | 37 => ⟨S64x64, .i32⟩
  | 38 => ⟨S64x64, .i32⟩
  | 39 => ⟨S_, .i32⟩
  | 40 => ⟨S_, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S64x64x1, .i32⟩
  | 48 => ⟨S8x15x64x64, .f32⟩
  | 49 => ⟨S1x1x64x64, .i1⟩
  | 50 => ⟨S_, .f32⟩
  | 51 => ⟨S_, .f32⟩
  | 52 => ⟨S8x15x64x64, .i1⟩
  | 53 => ⟨S8x15x64x64, .f32⟩
  | 54 => ⟨S8x15x64x64, .f32⟩
  | 55 => ⟨S_, .f32⟩
  | 56 => ⟨S8x64x64, .f32⟩
  | 57 => ⟨S8x1x64x64, .f32⟩
  | 58 => ⟨S8x64x64, .f32⟩
  | 59 => ⟨S8x1x64x64, .f32⟩
  | 60 => ⟨S8x64x64, .f32⟩
  | 61 => ⟨S8x1x64x64, .f32⟩
  | 62 => ⟨S8x64x64, .f32⟩
  | 63 => ⟨S8x1x64x64, .f32⟩
  | 64 => ⟨S8x64x64, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x1x64x64, .f32⟩
  | 72 => ⟨S8x64x64, .f32⟩
  | 73 => ⟨S8x64x768, .f32⟩
  | 74 => ⟨S8x1x64x64, .f32⟩
  | 75 => ⟨S8x64x64, .f32⟩
  | 76 => ⟨S8x1x64x64, .f32⟩
  | 77 => ⟨S8x64x64, .f32⟩
  | 78 => ⟨S8x1x64x64, .f32⟩
  | 79 => ⟨S8x64x64, .f32⟩
  | 80 => ⟨S8x1x64x64, .f32⟩
  | 81 => ⟨S8x64x64, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x1x64x64, .f32⟩
  | 89 => ⟨S8x64x64, .f32⟩
  | 90 => ⟨S8x64x768, .f32⟩
  | 91 => ⟨S8x1x64x64, .f32⟩
  | 92 => ⟨S8x64x64, .f32⟩
  | 93 => ⟨S8x1x64x64, .f32⟩
  | 94 => ⟨S8x64x64, .f32⟩
  | 95 => ⟨S8x1x64x64, .f32⟩
  | 96 => ⟨S8x64x64, .f32⟩
  | 97 => ⟨S8x1x64x64, .f32⟩
  | 98 => ⟨S8x64x64, .f32⟩
  | 99 => ⟨S8x1x64x64, .f32⟩
  | 100 => ⟨S8x64x64, .f32⟩
  | 101 => ⟨S8x1x64x64, .f32⟩
  | 102 => ⟨S8x64x64, .f32⟩
  | 103 => ⟨S8x1x64x64, .f32⟩
  | 104 => ⟨S8x64x64, .f32⟩
  | 105 => ⟨S8x1x64x64, .f32⟩
  | 106 => ⟨S8x64x64, .f32⟩
  | 107 => ⟨S8x64x768, .f32⟩
  | 108 => ⟨S8x1x64x64, .f32⟩
  | 109 => ⟨S8x64x64, .f32⟩
  | 110 => ⟨S8x1x64x64, .f32⟩
  | 111 => ⟨S8x64x64, .f32⟩
  | 112 => ⟨S8x1x64x64, .f32⟩
  | 113 => ⟨S8x64x64, .f32⟩
  | 114 => ⟨S8x1x64x64, .f32⟩
  | 115 => ⟨S8x64x64, .f32⟩
  | 116 => ⟨S8x1x64x64, .f32⟩
  | 117 => ⟨S8x64x64, .f32⟩
  | 118 => ⟨S8x1x64x64, .f32⟩
  | 119 => ⟨S8x64x64, .f32⟩
  | 120 => ⟨S8x1x64x64, .f32⟩
  | 121 => ⟨S8x64x64, .f32⟩
  | 122 => ⟨S8x1x64x64, .f32⟩
  | 123 => ⟨S8x64x64, .f32⟩
  | 124 => ⟨S8x64x768, .f32⟩
  | 125 => ⟨S8x256x768, .f32⟩
  | 126 => ⟨S8x1x64x64, .f32⟩
  | 127 => ⟨S8x64x64, .f32⟩
  | _ => ⟨S8192x3072, .bf16⟩

abbrev hbmTy0_1 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x1x64x64, .f32⟩
  | 5 => ⟨S8x64x64, .f32⟩
  | 6 => ⟨S8x1x64x64, .f32⟩
  | 7 => ⟨S8x64x64, .f32⟩
  | 8 => ⟨S8x1x64x64, .f32⟩
  | 9 => ⟨S8x64x64, .f32⟩
  | 10 => ⟨S8x1x64x64, .f32⟩
  | 11 => ⟨S8x64x64, .f32⟩
  | 12 => ⟨S8x1x64x64, .f32⟩
  | 13 => ⟨S8x64x64, .f32⟩
  | 14 => ⟨S8x64x768, .f32⟩
  | 15 => ⟨S8x1x64x64, .f32⟩
  | 16 => ⟨S8x64x64, .f32⟩
  | 17 => ⟨S8x1x64x64, .f32⟩
  | 18 => ⟨S8x64x64, .f32⟩
  | 19 => ⟨S8x1x64x64, .f32⟩
  | 20 => ⟨S8x64x64, .f32⟩
  | 21 => ⟨S8x1x64x64, .f32⟩
  | 22 => ⟨S8x64x64, .f32⟩
  | 23 => ⟨S8x1x64x64, .f32⟩
  | 24 => ⟨S8x64x64, .f32⟩
  | 25 => ⟨S8x1x64x64, .f32⟩
  | 26 => ⟨S8x64x64, .f32⟩
  | 27 => ⟨S8x1x64x64, .f32⟩
  | 28 => ⟨S8x64x64, .f32⟩
  | 29 => ⟨S8x1x64x64, .f32⟩
  | 30 => ⟨S8x64x64, .f32⟩
  | 31 => ⟨S8x64x768, .f32⟩
  | 32 => ⟨S8x1x64x64, .f32⟩
  | 33 => ⟨S8x64x64, .f32⟩
  | 34 => ⟨S8x1x64x64, .f32⟩
  | 35 => ⟨S8x64x64, .f32⟩
  | 36 => ⟨S8x1x64x64, .f32⟩
  | 37 => ⟨S8x64x64, .f32⟩
  | 38 => ⟨S8x1x64x64, .f32⟩
  | 39 => ⟨S8x64x64, .f32⟩
  | 40 => ⟨S8x1x64x64, .f32⟩
  | 41 => ⟨S8x64x64, .f32⟩
  | 42 => ⟨S8x1x64x64, .f32⟩
  | 43 => ⟨S8x64x64, .f32⟩
  | 44 => ⟨S8x1x64x64, .f32⟩
  | 45 => ⟨S8x64x64, .f32⟩
  | 46 => ⟨S8x1x64x64, .f32⟩
  | 47 => ⟨S8x64x64, .f32⟩
  | 48 => ⟨S8x64x768, .f32⟩
  | 49 => ⟨S8x1x64x64, .f32⟩
  | 50 => ⟨S8x64x64, .f32⟩
  | 51 => ⟨S8x1x64x64, .f32⟩
  | 52 => ⟨S8x64x64, .f32⟩
  | 53 => ⟨S8x1x64x64, .f32⟩
  | 54 => ⟨S8x64x64, .f32⟩
  | 55 => ⟨S8x1x64x64, .f32⟩
  | 56 => ⟨S8x64x64, .f32⟩
  | 57 => ⟨S8x1x64x64, .f32⟩
  | 58 => ⟨S8x64x64, .f32⟩
  | 59 => ⟨S8x1x64x64, .f32⟩
  | 60 => ⟨S8x64x64, .f32⟩
  | 61 => ⟨S8x1x64x64, .f32⟩
  | 62 => ⟨S8x64x64, .f32⟩
  | 63 => ⟨S8x1x64x64, .f32⟩
  | 64 => ⟨S8x64x64, .f32⟩
  | 65 => ⟨S8x64x768, .f32⟩
  | 66 => ⟨S8x256x768, .f32⟩
  | 67 => ⟨S8x1x64x64, .f32⟩
  | 68 => ⟨S8x64x64, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x1x64x64, .f32⟩
  | 80 => ⟨S8x64x64, .f32⟩
  | 81 => ⟨S8x1x64x64, .f32⟩
  | 82 => ⟨S8x64x64, .f32⟩
  | 83 => ⟨S8x64x768, .f32⟩
  | 84 => ⟨S8x1x64x64, .f32⟩
  | 85 => ⟨S8x64x64, .f32⟩
  | 86 => ⟨S8x1x64x64, .f32⟩
  | 87 => ⟨S8x64x64, .f32⟩
  | 88 => ⟨S8x1x64x64, .f32⟩
  | 89 => ⟨S8x64x64, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x1x64x64, .f32⟩
  | 97 => ⟨S8x64x64, .f32⟩
  | 98 => ⟨S8x1x64x64, .f32⟩
  | 99 => ⟨S8x64x64, .f32⟩
  | 100 => ⟨S8x64x768, .f32⟩
  | 101 => ⟨S8x1x64x64, .f32⟩
  | 102 => ⟨S8x64x64, .f32⟩
  | 103 => ⟨S8x1x64x64, .f32⟩
  | 104 => ⟨S8x64x64, .f32⟩
  | 105 => ⟨S8x1x64x64, .f32⟩
  | 106 => ⟨S8x64x64, .f32⟩
  | 107 => ⟨S8x1x64x64, .f32⟩
  | 108 => ⟨S8x64x64, .f32⟩
  | 109 => ⟨S8x1x64x64, .f32⟩
  | 110 => ⟨S8x64x64, .f32⟩
  | 111 => ⟨S8x1x64x64, .f32⟩
  | 112 => ⟨S8x64x64, .f32⟩
  | 113 => ⟨S8x1x64x64, .f32⟩
  | 114 => ⟨S8x64x64, .f32⟩
  | 115 => ⟨S8x1x64x64, .f32⟩
  | 116 => ⟨S8x64x64, .f32⟩
  | 117 => ⟨S8x64x768, .f32⟩
  | 118 => ⟨S8x1x64x64, .f32⟩
  | 119 => ⟨S8x64x64, .f32⟩
  | 120 => ⟨S8x1x64x64, .f32⟩
  | 121 => ⟨S8x64x64, .f32⟩
  | 122 => ⟨S8x1x64x64, .f32⟩
  | 123 => ⟨S8x64x64, .f32⟩
  | 124 => ⟨S8x1x64x64, .f32⟩
  | 125 => ⟨S8x64x64, .f32⟩
  | 126 => ⟨S8x1x64x64, .f32⟩
  | 127 => ⟨S8x64x64, .f32⟩
  | _ => ⟨S8192x3072, .bf16⟩

abbrev hbmTy0_2 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x1x64x64, .f32⟩
  | 5 => ⟨S8x64x64, .f32⟩
  | 6 => ⟨S8x64x768, .f32⟩
  | 7 => ⟨S8x256x768, .f32⟩
  | 8 => ⟨S8x1x256x768, .f32⟩
  | 9 => ⟨S8x1x256x768, .f32⟩
  | 10 => ⟨S8x1x256x768, .f32⟩
  | 11 => ⟨S8x3x256x768, .f32⟩
  | 12 => ⟨S8192x1024, .bf16⟩
  | _ => ⟨S8192x3072, .bf16⟩

abbrev hbmTy (i : Nat) : BufTy := match i / 128 with
  | 0 => hbmTy0_0 i
  | 1 => hbmTy0_1 i
  | 2 => hbmTy0_2 i
  | _ => ⟨S8192x3072, .bf16⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x3x256x768, .f32⟩
  | .local _ .vmem, ⟨7, _⟩ => ⟨S1x3x256x768, .f32⟩
  | .local _ .vmem, ⟨8, _⟩ => ⟨S4096x128, .bf16⟩
  | .local _ .vmem, ⟨9, _⟩ => ⟨S4096x128, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v27 : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c4_i32 : BitVec 32 := 4#32
  let v1 : BitVec 32 := Scalar.muli arg7 c4_i32
  let c64_i32 : BitVec 32 := 64#32
  let v9 : BitVec 32 := Scalar.muli v1 c64_i32
  v9
def k0_mult2 (k0_t1 : Fin k0_t1_loop.trips) : BitVec 32 :=
  let c52_i32 : BitVec 32 := 52#32
  let c0_i32_2 : BitVec 32 := 0#32
  let c0_i32 : BitVec 32 := 0#32
  let c1_i32 : BitVec 32 := 1#32
  let arg7 : BitVec 32 := Scf.iv c0_i32 c1_i32 k0_t1
  let c4_i32 : BitVec 32 := 4#32
  let v1 : BitVec 32 := Scalar.muli arg7 c4_i32
  let c4_i32_1 : BitVec 32 := 4#32
  let v2 : BitVec 32 := Scalar.subi v1 c4_i32_1
  let v3 : BitVec 32 := Scalar.maxsi c0_i32_2 v2
  let v4 : BitVec 32 := Scalar.minsi c52_i32 v3
  let c64_i32_6 : BitVec 32 := 64#32
  let v11 : BitVec 32 := Scalar.muli v4 c64_i32_6
  v11
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c4_i32 : BitVec 32 := 4#32
  let v1 : BitVec 32 := Scalar.muli arg7 c4_i32
  let c64_i32 : BitVec 32 := 64#32
  let v9 : BitVec 32 := Scalar.muli v1 c64_i32
  let v10 : BitVec 32 := v9
  let v13 : Index := Scalar.indexCast v10
  let c0 : Index := 0#32
  ![v13.toNat, 0]
def k0_off2 (k0_t1 : Fin k0_t1_loop.trips) : Fin 2 → Nat :=
  let c52_i32 : BitVec 32 := 52#32
  let c0_i32_2 : BitVec 32 := 0#32
  let c0_i32 : BitVec 32 := 0#32
  let c1_i32 : BitVec 32 := 1#32
  let arg7 : BitVec 32 := Scf.iv c0_i32 c1_i32 k0_t1
  let c4_i32 : BitVec 32 := 4#32
  let v1 : BitVec 32 := Scalar.muli arg7 c4_i32
  let c4_i32_1 : BitVec 32 := 4#32
  let v2 : BitVec 32 := Scalar.subi v1 c4_i32_1
  let v3 : BitVec 32 := Scalar.maxsi c0_i32_2 v2
  let v4 : BitVec 32 := Scalar.minsi c52_i32 v3
  let c64_i32_6 : BitVec 32 := 64#32
  let v11 : BitVec 32 := Scalar.muli v4 c64_i32_6
  let v12 : BitVec 32 := v11
  let v15 : Index := Scalar.indexCast v12
  let c0_7 : Index := 0#32
  ![v15.toNat, 0]
def k0_off3 (k0_t1 : Fin k0_t1_loop.trips) : Fin 4 → Nat :=
  let c0_10 : Index := 0#32
  let c0_i32 : BitVec 32 := 0#32
  let c1_i32 : BitVec 32 := 1#32
  let arg7 : BitVec 32 := Scf.iv c0_i32 c1_i32 k0_t1
  let c15_i32 : BitVec 32 := 15#32
  let v7 : BitVec 1 := Scalar.cmpi .eq arg7 c15_i32
  let c2_i32 : BitVec 32 := 2#32
  let c0_i32_3 : BitVec 32 := 0#32
  let v5 : BitVec 1 := Scalar.cmpi .eq arg7 c0_i32_3
  let c0_i32_4 : BitVec 32 := 0#32
  let c1_i32_5 : BitVec 32 := 1#32
  let v6 : BitVec 32 := Scalar.select v5 c0_i32_4 c1_i32_5
  let v8 : BitVec 32 := Scalar.select v7 c2_i32 v6
  let v22 : Index := Scalar.indexCast v8
  let c0_11 : Index := 0#32
  let c0_12 : Index := 0#32
  ![0, v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaRefIdeal.lean ====
abbrev S8192x3072 : Shape := ⟨2, ![8192, 3072]⟩
abbrev S2x8x15x31 : Shape := ⟨4, ![2, 8, 15, 31]⟩
abbrev S8192x1024 : Shape := ⟨2, ![8192, 1024]⟩
abbrev S2x4096x8x128 : Shape := ⟨4, ![2, 4096, 8, 128]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S1x1x64 : Shape := ⟨3, ![1, 1, 64]⟩
abbrev S64x8x64 : Shape := ⟨3, ![64, 8, 64]⟩
abbrev S64x512 : Shape := ⟨2, ![64, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S64x512x1 : Shape := ⟨3, ![64, 512, 1]⟩
abbrev S2x64x512x8x128 : Shape := ⟨5, ![2, 64, 512, 8, 128]⟩
abbrev S1x8x15x31 : Shape := ⟨4, ![1, 8, 15, 31]⟩
abbrev S8x15x31 : Shape := ⟨3, ![8, 15, 31]⟩
abbrev S64x1x512 : Shape := ⟨3, ![64, 1, 512]⟩
abbrev S1x64x512 : Shape := ⟨3, ![1, 64, 512]⟩
abbrev S64x64x512 : Shape := ⟨3, ![64, 64, 512]⟩
abbrev S64x64x512x1 : Shape := ⟨4, ![64, 64, 512, 1]⟩
abbrev S64x64x512x2 : Shape := ⟨4, ![64, 64, 512, 2]⟩
abbrev S8x64x64x512 : Shape := ⟨4, ![8, 64, 64, 512]⟩
abbrev S2x64x64x8x128 : Shape := ⟨5, ![2, 64, 64, 8, 128]⟩
abbrev S2x8x64x64x512 : Shape := ⟨5, ![2, 8, 64, 64, 512]⟩
abbrev S1x8x64x64x512 : Shape := ⟨5, ![1, 8, 64, 64, 512]⟩
abbrev S1x1x1x64x512 : Shape := ⟨5, ![1, 1, 1, 64, 512]⟩
abbrev S2x8x64x64 : Shape := ⟨4, ![2, 8, 64, 64]⟩
abbrev S2x8x64x64x1 : Shape := ⟨5, ![2, 8, 64, 64, 1]⟩
abbrev S2x64x8x128x64 : Shape := ⟨5, ![2, 64, 8, 128, 64]⟩

abbrev nBuf : Space → Nat
  | .hbm => 152
  | .vmem => 0
  | .smem => 0
  | _ => 0

abbrev hbmTy0_0 (i : Nat) : BufTy := match i % 128 with
  | 0 => ⟨S8192x3072, .bf16⟩
  | 1 => ⟨S2x8x15x31, .f32⟩
  | 2 => ⟨S8192x1024, .bf16⟩
  | 3 => ⟨S8192x1024, .bf16⟩
  | 4 => ⟨S8192x1024, .bf16⟩
  | 5 => ⟨S8192x1024, .f32⟩
  | 6 => ⟨S2x4096x8x128, .f32⟩
  | 7 => ⟨S8192x1024, .f32⟩
  | 8 => ⟨S2x4096x8x128, .f32⟩
  | 9 => ⟨S8192x1024, .f32⟩
  | 10 => ⟨S2x4096x8x128, .f32⟩
  | 11 => ⟨S64, .i32⟩
  | 12 => ⟨S64, .i32⟩
  | 13 => ⟨S_, .i32⟩
  | 14 => ⟨S64, .i32⟩
  | 15 => ⟨S64, .i32⟩
  | 16 => ⟨S_, .i32⟩
  | 17 => ⟨S_, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S64x1, .i32⟩
  | 25 => ⟨S8, .i32⟩
  | 26 => ⟨S1x8, .i32⟩
  | 27 => ⟨S64x8, .i32⟩
  | 28 => ⟨S64x8, .i32⟩
  | 29 => ⟨S64x8, .i32⟩
  | 30 => ⟨S64x1, .i32⟩
  | 31 => ⟨S64x8, .i32⟩
  | 32 => ⟨S64x8, .i32⟩
  | 33 => ⟨S_, .i32⟩
  | 34 => ⟨S64x8, .i32⟩
  | 35 => ⟨S64x8, .i32⟩
  | 36 => ⟨S64x8x1, .i32⟩
  | 37 => ⟨S_, .i32⟩
  | 38 => ⟨S64x8x1, .i32⟩
  | 39 => ⟨S64x8x1, .i32⟩
  | 40 => ⟨S1x1x64, .i32⟩
  | 41 => ⟨S64x8x64, .i32⟩
  | 42 => ⟨S64x8x64, .i32⟩
  | 43 => ⟨S64x8x64, .i32⟩
  | 44 => ⟨S64x512, .i32⟩
  | 45 => ⟨S64x8x1, .i32⟩
  | 46 => ⟨S64x8x64, .i32⟩
  | 47 => ⟨S64x512, .i32⟩
  | 48 => ⟨S1x64, .i32⟩
  | 49 => ⟨S8x64, .i32⟩
  | 50 => ⟨S512, .i32⟩
  | 51 => ⟨S_, .i32⟩
  | 52 => ⟨S64, .i32⟩
  | 53 => ⟨S64, .i32⟩
  | 54 => ⟨S_, .i32⟩
  | 55 => ⟨S_, .i32⟩
  | 56 => ⟨S_, .i32⟩
  | 57 => ⟨S64, .i32⟩
  | 58 => ⟨S64, .i32⟩
  | 59 => ⟨S_, .i32⟩
  | 60 => ⟨S64, .i32⟩
  | 61 => ⟨S64, .i32⟩
  | 62 => ⟨S1x512, .i32⟩
  | 63 => ⟨S64x1, .i32⟩
  | 64 => ⟨S64x512, .i32⟩
  | 65 => ⟨S64x512, .i32⟩
  | 66 => ⟨S64x512, .i1⟩
  | 67 => ⟨S1x512, .i32⟩
  | 68 => ⟨S64x1, .i32⟩
  | 69 => ⟨S_, .i32⟩
  | 70 => ⟨S64x1, .i32⟩
  | 71 => ⟨S64x1, .i32⟩
  | 72 => ⟨S64x512, .i32⟩
  | 73 => ⟨S64x512, .i32⟩
  | 74 => ⟨S64x512, .i1⟩
  | 75 => ⟨S64x512, .i1⟩
  | 76 => ⟨S1x512, .i32⟩
  | 77 => ⟨S64x1, .i32⟩
  | 78 => ⟨S64x512, .i32⟩
  | 79 => ⟨S64x512, .i32⟩
  | 80 => ⟨S64x512, .i32⟩
  | 81 => ⟨S_, .i32⟩
  | 82 => ⟨S64x512, .i32⟩
  | 83 => ⟨S64x512, .i32⟩
  | 84 => ⟨S_, .i32⟩
  | 85 => ⟨S_, .i32⟩
  | 86 => ⟨S_, .i32⟩
  | 87 => ⟨S64x512, .i32⟩
  | 88 => ⟨S64x512, .i32⟩
  | 89 => ⟨S_, .i32⟩
  | 90 => ⟨S64x512, .i32⟩
  | 91 => ⟨S64x512, .i32⟩
  | 92 => ⟨S64x512x1, .i32⟩
  | 93 => ⟨S2x64x512x8x128, .f32⟩
  | 94 => ⟨S64x512x1, .i32⟩
  | 95 => ⟨S2x64x512x8x128, .f32⟩
  | 96 => ⟨S1x8x15x31, .f32⟩
  | 97 => ⟨S8x15x31, .f32⟩
  | 98 => ⟨S64x1x512, .i32⟩
  | 99 => ⟨S1x64x512, .i32⟩
  | 100 => ⟨S_, .i32⟩
  | 101 => ⟨S64x1x512, .i32⟩
  | 102 => ⟨S64x1x512, .i1⟩
  | 103 => ⟨S_, .i32⟩
  | 104 => ⟨S64x1x512, .i32⟩
  | 105 => ⟨S64x1x512, .i32⟩
  | 106 => ⟨S64x1x512, .i32⟩
  | 107 => ⟨S_, .i32⟩
  | 108 => ⟨S1x64x512, .i32⟩
  | 109 => ⟨S1x64x512, .i1⟩
  | 110 => ⟨S_, .i32⟩
  | 111 => ⟨S1x64x512, .i32⟩
  | 112 => ⟨S1x64x512, .i32⟩
  | 113 => ⟨S1x64x512, .i32⟩
  | 114 => ⟨S64x64x512, .i32⟩
  | 115 => ⟨S64x64x512, .i32⟩
  | 116 => ⟨S64x64x512x1, .i32⟩
  | 117 => ⟨S64x64x512x1, .i32⟩
  | 118 => ⟨S64x64x512x2, .i32⟩
  | 119 => ⟨S8x64x64x512, .f32⟩
  | 120 => ⟨S2x64x64x8x128, .f32⟩
  | 121 => ⟨S2x8x64x64x512, .f32⟩
  | 122 => ⟨S_, .f32⟩
  | 123 => ⟨S2x8x64x64x512, .f32⟩
  | 124 => ⟨S2x8x64x64x512, .f32⟩
  | 125 => ⟨S1x8x64x64x512, .f32⟩
  | 126 => ⟨S2x8x64x64x512, .f32⟩
  | 127 => ⟨S2x8x64x64x512, .f32⟩
  | _ => ⟨S8192x3072, .bf16⟩

abbrev hbmTy0_1 (i : Nat) : BufTy := match i % 128 with
  | 0 => ⟨S1x1x1x64x512, .i1⟩
  | 1 => ⟨S_, .f32⟩
  | 2 => ⟨S_, .f32⟩
  | 3 => ⟨S2x8x64x64x512, .i1⟩
  | 4 => ⟨S2x8x64x64x512, .f32⟩
  | 5 => ⟨S2x8x64x64x512, .f32⟩
  | 6 => ⟨S_, .f32⟩
  | 7 => ⟨S2x8x64x64, .f32⟩
  | 8 => ⟨S_, .f32⟩
  | 9 => ⟨S2x8x64x64, .f32⟩
  | 10 => ⟨S2x8x64x64, .f32⟩
  | 11 => ⟨S2x8x64x64x1, .f32⟩
  | 12 => ⟨S2x8x64x64x512, .f32⟩
  | 13 => ⟨S2x8x64x64x512, .f32⟩
  | 14 => ⟨S2x8x64x64x512, .f32⟩
  | 15 => ⟨S_, .f32⟩
  | 16 => ⟨S2x8x64x64, .f32⟩
  | 17 => ⟨S2x8x64x64x1, .f32⟩
  | 18 => ⟨S2x8x64x64x512, .f32⟩
  | 19 => ⟨S2x8x64x64x512, .f32⟩
  | 20 => ⟨S2x64x8x128x64, .f32⟩
  | 21 => ⟨S2x64x64x8x128, .f32⟩
  | 22 => ⟨S8192x1024, .f32⟩
  | 23 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_8 : Ref sig .tc := ⟨.hbm, 81, rfl⟩
abbrev main_v60 : Ref sig .tc := ⟨.hbm, 82, rfl⟩
abbrev main_v61 : Ref sig .tc := ⟨.hbm, 83, rfl⟩
abbrev main_c_9 : Ref sig .tc := ⟨.hbm, 84, rfl⟩
abbrev main_c_10 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v62 : Ref sig .tc := ⟨.hbm, 91, rfl⟩
abbrev main_call3_v0 : Ref sig .tc := ⟨.hbm, 92, rfl⟩
abbrev main_v63 : Ref sig .tc := ⟨.hbm, 93, rfl⟩
abbrev main_call4_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_11 : Ref sig .tc := ⟨.hbm, 100, rfl⟩
abbrev main_v69 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_13 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]
-- ==== Proof.MlaPrep.lean ====
/- The first two regions of the latent attention: the rotary key `h · w_kr`, and the queries, keys and values of every
   head, written into slots of 256 columns. Each result array as a function of the arrays the region reads. -/
module

public import proofs.«01_k».proof.Proof.Gen.MlaIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaIdeal.Attn

open Cert.MlaIdeal Cert.MlaIdeal.Gen

variable (V : (c : Dev nD) → (b : Ref sig .tc) → Buf (Elt Ideal) ((c : Thread nD τ).loc b))

/-- The rotary key's row block is the point's number. -/
theorem idx0 : ∀ t : Fin cfg0.N,
    win0_0.index t = ![t.val, 0] ∧ win0_1.index t = ![0, 0] ∧ win0_2.index t = ![t.val, 0] :=
  (by decide +kernel : ∀ t : Fin grid0.N, _)

/-- A product of a tall matrix and a weight. -/
def keyOf (h : FVec Ideal S8192x2048 .bf16) (w : FVec Ideal S2048x512 .bf16) : FVec Ideal S8192x512 .f32 :=
  fun i => ∑ k : Fin 2048, h (ix2 (i 0) k) * w (ix2 k (i 1))

theorem point0 (c : Dev nD) (t : Fin cfg0.N) (y : S1024x512.Idx) :
    k0_pay1 (iblk0 V c 0 t) (iblk0 V c 1 t) y
      = keyOf (V c main_arg1) (V c main_v55) (((cfg0.win 2).blk t).view.emb y) := by
  pointwise [k0_pay1, keyOf]
  blk_point [iblk0, idx0 t]

/-- The rotary key after its region. -/
theorem final0 (c : Dev nD) : (dat0 V c).arrAt 2 cfg0.N = keyOf (V c main_arg1) (V c main_v55) := by
  refine (dat0 V c).arrAt_eq_of_covers 2 _ (by decide +kernel) fun t _ y => ?_
  blk_simp
  rw [after0_2]; frame_out
  exact point0 V c t y

/-- The norm of a latent row, at one element: the element times the reciprocal root of the row's mean square plus the
    guard, times the gain. -/
def latentAt (x : FVec Ideal S512x512 .f32) (g : FVec Ideal S1x512 .f32) (i : S512x512.Idx) : EReal :=
  x i * Ideal.rsqrt (Ideal.div (∑ k : Fin 512, x (ix2 (i 0) k) * x (ix2 (i 0) k)) (Ideal.ofBits .f32 0x44000000#32)
      + Ideal.ofBits .f32 0x358637BD#32) * g (ix2 0 (i 1))

theorem latent_q (x : FVec Ideal S512x512 .f32) (g : FVec Ideal S1x512 .f32) (i : S512x512.Idx) :
    k1_pay1 (F := Ideal) x g i = latentAt x g i := by
  pointwise [k1_pay1, latentAt]

theorem latent_kv (x : FVec Ideal S512x512 .f32) (g : FVec Ideal S1x512 .f32) (i : S512x512.Idx) :
    k1_pay2 (F := Ideal) x g i = latentAt x g i := by
  pointwise [k1_pay2, latentAt]

/-- A column of a row of head slots, inside its slot of 256. -/
abbrev lane (y : Fin 2048) : Fin 256 := ⟨(y : ℕ) % 256, Nat.mod_lt _ (by decide)⟩

/-- A 512-row block of the query slots, of the normed latents, the tables and the two weights. -/
def qBlock (n : FVec Ideal S512x512 .bf16) (cs sn : FVec Ideal S512x256 .f32) (w wr : FVec Ideal S512x2048 .bf16) :
    FVec Ideal S512x2048 .bf16 :=
  fun y => ((∑ k : Fin 512, n (ix2 (y 0) k) * w (ix2 k (y 1))) * cs (ix2 (y 0) (lane (y 1)))
      + (∑ k : Fin 512, n (ix2 (y 0) k) * wr (ix2 k (y 1))) * sn (ix2 (y 0) (lane (y 1))))
    * Ideal.ofBits .f32 0x3D93CD3A#32

/-- A 512-row block of the key slots: the un-rotated part of the head, plus the rotated part all heads share. -/
def kBlock (n : FVec Ideal S512x512 .bf16) (kr krr cs sn : FVec Ideal S512x256 .f32) (w : FVec Ideal S512x2048 .bf16) :
    FVec Ideal S512x2048 .bf16 :=
  fun y => (∑ k : Fin 512, n (ix2 (y 0) k) * w (ix2 k (y 1)))
    + (kr (ix2 (y 0) (lane (y 1))) * cs (ix2 (y 0) (lane (y 1))) + krr (ix2 (y 0) (lane (y 1))) * sn (ix2 (y 0) (lane (y 1))))

/-- The value column a lane of a value slot reads. -/
abbrev vcol (y : Fin 2048) (h : (y : ℕ) % 256 < 128) : Fin 1024 :=
  ⟨(y : ℕ) / 256 * 128 + (y : ℕ) % 256, by have := y.isLt; omega⟩

/-- A 512-row block of the value slots: 128 value columns, a column of ones, zeros. -/
def vBlock (n : FVec Ideal S512x512 .bf16) (w : FVec Ideal S512x1024 .bf16) : FVec Ideal S512x2048 .bf16 :=
  fun y => if h : (y 1 : ℕ) % 256 < 128 then ∑ k : Fin 512, n (ix2 (y 0) k) * w (ix2 k (vcol (y 1) h))
    else if (y 1 : ℕ) % 256 = 128 then 1 else 0

theorem vBlock_value (n : FVec Ideal S512x512 .bf16) (w : FVec Ideal S512x1024 .bf16) (y : S512x2048.Idx)
    (h : (y 1 : ℕ) % 256 < 128) : vBlock n w y = ∑ k : Fin 512, n (ix2 (y 0) k) * w (ix2 k (vcol (y 1) h)) := dif_pos h

theorem vBlock_one (n : FVec Ideal S512x512 .bf16) (w : FVec Ideal S512x1024 .bf16) (y : S512x2048.Idx)
    (h : ¬ (y 1 : ℕ) % 256 < 128) : vBlock n w y = if (y 1 : ℕ) % 256 = 128 then 1 else 0 := dif_neg h

variable (x0 x1 : FVec Ideal S512x512 .f32) (x2 x3 : FVec Ideal S512x256 .f32) (x4 x5 : FVec Ideal S1x512 .f32)
  (x6 x7 : FVec Ideal S512x256 .f32) (x8 x9 x10 : FVec Ideal S512x2048 .bf16) (x11 : FVec Ideal S512x1024 .bf16)

theorem out_q : out1_12 (F := Ideal) x0 x1 x2 x3 x4 x5 x6 x7 x8 x9 x10 x11
    = qBlock (k1_pay1 (F := Ideal) x0 x4) x6 x7 x8 x9 := by
  unfold_out out1_12
  frame_out
  generalize k1_pay1 (F := Ideal) x0 x4 = n
  funext y
  canon_tiles x h
  all_goals
    open_payloads
    pointwise [qBlock]
    blk_point []

theorem out_k : out1_13 (F := Ideal) x0 x1 x2 x3 x4 x5 x6 x7 x8 x9 x10 x11
    = kBlock (k1_pay2 (F := Ideal) x1 x5) x2 x3 x6 x7 x10 := by
  unfold_out out1_13
  frame_out
  generalize k1_pay2 (F := Ideal) x1 x5 = n
  funext y
  canon_tiles x h
  all_goals
    open_payloads
    pointwise [kBlock]
    blk_point []

/-- The column of ones and its zeros, at an index. -/
theorem ones_at (i : S512x128.Idx) : k1_pay7 (F := Ideal) i = if (i 1 : ℕ) = 0 then 1 else 0 := by
  pointwise [k1_pay7]
  have hi : (i 1 : ℕ) < 128 := (i 1).isLt
  by_cases h : (i 1 : ℕ) = 0
  · rw [if_pos h, h]; rfl
  · rw [if_neg h]
    have e : IntOp.cmpi CmpIPredicate.eq (BitVec.ofNat 32 (i 1 : ℕ)) 0#32 = 0#1 := by
      have e' : BitVec.ofNat 32 (i 1 : ℕ) ≠ 0#32 := fun e => h (by
        have := congrArg BitVec.toNat e
        simpa [Nat.mod_eq_of_lt (show (i 1 : ℕ) < 4294967296 by omega)] using this)
      show BitVec.ofBool (BitVec.ofNat 32 (i 1 : ℕ) == 0#32) = 0#1
      rw [beq_eq_false_iff_ne.mpr e']; rfl
    rw [e]; rfl

theorem out_v : out1_14 (F := Ideal) x0 x1 x2 x3 x4 x5 x6 x7 x8 x9 x10 x11
    = vBlock (k1_pay2 (F := Ideal) x1 x5) x11 := by
  unfold_out out1_14
  frame_out
  generalize k1_pay2 (F := Ideal) x1 x5 = n
  funext y
  canon_tiles x h
  case' piece0 | piece2 | piece4 | piece6 | piece8 | piece10 | piece12 | piece14 => skip
  all_goals first
    | (rw [vBlock_one n x11 y (by omega), ones_at]; exact if_congr (by omega) rfl rfl)
    | (rw [vBlock_value n x11 y (by omega)]; open_payloads; pointwise; blk_point [])

/-- A latent row, normed: `C`'s columns from `512 * o` on. -/
def latent (C : FVec Ideal S8192x1024 .f32) (g : FVec Ideal S1x512 .f32) (o : Fin 2) (r : Fin 8192) (k : Fin 512) : EReal :=
  C (ix2 r ⟨512 * o + k, by omega⟩) * Ideal.rsqrt (Ideal.div
      (∑ j : Fin 512, C (ix2 r ⟨512 * o + j, by omega⟩) * C (ix2 r ⟨512 * o + j, by omega⟩)) (Ideal.ofBits .f32 0x44000000#32)
      + Ideal.ofBits .f32 0x358637BD#32) * g (ix2 0 k)

/-- A row's position in its sequence of 4096. -/
abbrev pos (r : Fin 8192) : Fin 4096 := ⟨(r : ℕ) % 4096, Nat.mod_lt _ (by decide)⟩

/-- A lane of the rotated half of the rotary key. -/
abbrev rlane (y : Fin 2048) : Fin 512 := ⟨256 + (y : ℕ) % 256, by omega⟩

abbrev klane (y : Fin 2048) : Fin 512 := ⟨(y : ℕ) % 256, by omega⟩

/-- The query slots of all heads. -/
def qSlots (C : FVec Ideal S8192x1024 .f32) (g : FVec Ideal S1x512 .f32) (cs sn : FVec Ideal S4096x256 .f32)
    (w wr : FVec Ideal S512x2048 .bf16) : FVec Ideal S8192x2048 .bf16 :=
  fun i => ((∑ k : Fin 512, latent C g 0 (i 0) k * w (ix2 k (i 1))) * cs (ix2 (pos (i 0)) (lane (i 1)))
      + (∑ k : Fin 512, latent C g 0 (i 0) k * wr (ix2 k (i 1))) * sn (ix2 (pos (i 0)) (lane (i 1))))
    * Ideal.ofBits .f32 0x3D93CD3A#32

/-- The key slots of all heads. -/
def kSlots (C : FVec Ideal S8192x1024 .f32) (g : FVec Ideal S1x512 .f32) (kr : FVec Ideal S8192x512 .f32)
    (cs sn : FVec Ideal S4096x256 .f32) (w : FVec Ideal S512x2048 .bf16) : FVec Ideal S8192x2048 .bf16 :=
  fun i => (∑ k : Fin 512, latent C g 1 (i 0) k * w (ix2 k (i 1)))
    + (kr (ix2 (i 0) (klane (i 1))) * cs (ix2 (pos (i 0)) (lane (i 1)))
      + kr (ix2 (i 0) (rlane (i 1))) * sn (ix2 (pos (i 0)) (lane (i 1))))

/-- The value slots of all heads. -/
def vSlots (C : FVec Ideal S8192x1024 .f32) (g : FVec Ideal S1x512 .f32) (w : FVec Ideal S512x1024 .bf16) :
    FVec Ideal S8192x2048 .bf16 :=
  fun i => if h : (i 1 : ℕ) % 256 < 128 then ∑ k : Fin 512, latent C g 1 (i 0) k * w (ix2 k (vcol (i 1) h))
    else if (i 1 : ℕ) % 256 = 128 then 1 else 0

/-- The block each window of the second region stands on: the row block is the point's number, the tables repeat every
    4096 rows. -/
theorem idx1 : ∀ t : Fin cfg1.N,
    win1_0.index t = ![t.val, 0] ∧ win1_1.index t = ![t.val, 1] ∧ win1_2.index t = ![t.val, 0]
    ∧ win1_3.index t = ![t.val, 1] ∧ win1_4.index t = ![0, 0] ∧ win1_5.index t = ![0, 0]
    ∧ win1_6.index t = ![t.val % 8, 0] ∧ win1_7.index t = ![t.val % 8, 0] ∧ win1_8.index t = ![0, 0]
    ∧ win1_9.index t = ![0, 0] ∧ win1_10.index t = ![0, 0] ∧ win1_11.index t = ![0, 0]
    ∧ win1_12.index t = ![t.val, 0] ∧ win1_13.index t = ![t.val, 0] ∧ win1_14.index t = ![t.val, 0] :=
  (by decide +kernel : ∀ t : Fin grid1.N, _)

/-- A point's normed query latents are the rows of the array's. -/
theorem latent_blk0 (c : Dev nD) (t : Fin cfg1.N) (r : Fin 512) (k : Fin 512) (j : Fin 8192) (hj : (j : ℕ) = t.val * 512 + r) :
    latentAt (iblk1 V c 0 t) (iblk1 V c 4 t) (ix2 r k) = latent (V c main_arg0) (V c main_v61) 0 j k := by
  unfold latentAt latent
  blk_point [iblk1, idx1 t]

theorem latent_blk1 (c : Dev nD) (t : Fin cfg1.N) (r : Fin 512) (k : Fin 512) (j : Fin 8192) (hj : (j : ℕ) = t.val * 512 + r) :
    latentAt (iblk1 V c 1 t) (iblk1 V c 5 t) (ix2 r k) = latent (V c main_arg0) (V c main_v62) 1 j k := by
  unfold latentAt latent
  blk_point [iblk1, idx1 t]

theorem qSlots_apply (C : FVec Ideal S8192x1024 .f32) (g : FVec Ideal S1x512 .f32) (cs sn : FVec Ideal S4096x256 .f32)
    (w wr : FVec Ideal S512x2048 .bf16) (i : S8192x2048.Idx) : qSlots C g cs sn w wr i
      = ((∑ k : Fin 512, latent C g 0 (i 0) k * w (ix2 k (i 1))) * cs (ix2 (pos (i 0)) (lane (i 1)))
        + (∑ k : Fin 512, latent C g 0 (i 0) k * wr (ix2 k (i 1))) * sn (ix2 (pos (i 0)) (lane (i 1))))
      * Ideal.ofBits .f32 0x3D93CD3A#32 := rfl

theorem kSlots_apply (C : FVec Ideal S8192x1024 .f32) (g : FVec Ideal S1x512 .f32) (kr : FVec Ideal S8192x512 .f32)
    (cs sn : FVec Ideal S4096x256 .f32) (w : FVec Ideal S512x2048 .bf16) (i : S8192x2048.Idx) : kSlots C g kr cs sn w i
      = (∑ k : Fin 512, latent C g 1 (i 0) k * w (ix2 k (i 1)))
        + (kr (ix2 (i 0) (klane (i 1))) * cs (ix2 (pos (i 0)) (lane (i 1)))
          + kr (ix2 (i 0) (rlane (i 1))) * sn (ix2 (pos (i 0)) (lane (i 1)))) := rfl

theorem vSlots_value (C : FVec Ideal S8192x1024 .f32) (g : FVec Ideal S1x512 .f32) (w : FVec Ideal S512x1024 .bf16)
    (i : S8192x2048.Idx) (h : (i 1 : ℕ) % 256 < 128) :
    vSlots C g w i = ∑ k : Fin 512, latent C g 1 (i 0) k * w (ix2 k (vcol (i 1) h)) := dif_pos h

theorem vSlots_one (C : FVec Ideal S8192x1024 .f32) (g : FVec Ideal S1x512 .f32) (w : FVec Ideal S512x1024 .bf16)
    (i : S8192x2048.Idx) (h : ¬ (i 1 : ℕ) % 256 < 128) :
    vSlots C g w i = if (i 1 : ℕ) % 256 = 128 then 1 else 0 := dif_neg h

theorem point12 (c : Dev nD) (t : Fin cfg1.N) (y : S512x2048.Idx) (i : S8192x2048.Idx)
    (e0 : (i 0 : ℕ) = t.val * 512 + (y 0 : ℕ)) (e1 : (i 1 : ℕ) = (y 1 : ℕ)) :
    qBlock (k1_pay1 (F := Ideal) (iblk1 V c 0 t) (iblk1 V c 4 t)) (iblk1 V c 6 t) (iblk1 V c 7 t) (iblk1 V c 8 t) (iblk1 V c 9 t) y
      = qSlots (V c main_arg0) (V c main_v61) (V c main_v21) (V c main_v23) (V c main_v57) (V c main_v58)
          i := by
  have ht : t.val < 16 := lt_of_lt_of_eq t.isLt (by decide)
  have eL : ∀ k : Fin 512, k1_pay1 (F := Ideal) (iblk1 V c 0 t) (iblk1 V c 4 t) (ix2 (y 0) k)
      = latent (V c main_arg0) (V c main_v61) 0 (i 0) k := fun k =>
    (latent_q _ _ _).trans (latent_blk0 V c t (y 0) k _ e0)
  rw [qSlots_apply]; unfold qBlock
  simp only [eL]
  blk_point [iblk1, idx1 t]

theorem point13 (c : Dev nD) (t : Fin cfg1.N) (y : S512x2048.Idx) (i : S8192x2048.Idx)
    (e0 : (i 0 : ℕ) = t.val * 512 + (y 0 : ℕ)) (e1 : (i 1 : ℕ) = (y 1 : ℕ)) :
    kBlock (k1_pay2 (F := Ideal) (iblk1 V c 1 t) (iblk1 V c 5 t)) (iblk1 V c 2 t) (iblk1 V c 3 t) (iblk1 V c 6 t) (iblk1 V c 7 t)
        (iblk1 V c 10 t) y
      = kSlots (V c main_arg0) (V c main_v62) (V c main_v56) (V c main_v21) (V c main_v23) (V c main_v59)
          i := by
  have ht : t.val < 16 := lt_of_lt_of_eq t.isLt (by decide)
  have eL : ∀ k : Fin 512, k1_pay2 (F := Ideal) (iblk1 V c 1 t) (iblk1 V c 5 t) (ix2 (y 0) k)
      = latent (V c main_arg0) (V c main_v62) 1 (i 0) k := fun k =>
    (latent_kv _ _ _).trans (latent_blk1 V c t (y 0) k _ e0)
  rw [kSlots_apply]; unfold kBlock
  simp only [eL]
  blk_point [iblk1, idx1 t]

theorem point14 (c : Dev nD) (t : Fin cfg1.N) (y : S512x2048.Idx) (i : S8192x2048.Idx)
    (e0 : (i 0 : ℕ) = t.val * 512 + (y 0 : ℕ)) (e1 : (i 1 : ℕ) = (y 1 : ℕ)) :
    vBlock (k1_pay2 (F := Ideal) (iblk1 V c 1 t) (iblk1 V c 5 t)) (iblk1 V c 11 t) y
      = vSlots (V c main_arg0) (V c main_v62) (V c main_v60) i := by
  have ht : t.val < 16 := lt_of_lt_of_eq t.isLt (by decide)
  have eL : ∀ k : Fin 512, k1_pay2 (F := Ideal) (iblk1 V c 1 t) (iblk1 V c 5 t) (ix2 (y 0) k)
      = latent (V c main_arg0) (V c main_v62) 1 (i 0) k := fun k =>
    (latent_kv _ _ _).trans (latent_blk1 V c t (y 0) k _ e0)
  by_cases h : (y 1 : ℕ) % 256 < 128
  · rw [vSlots_value _ _ _ _ (by rw [e1]; exact h), vBlock_value _ _ _ h]
    simp only [eL]
    blk_point [iblk1, idx1 t]
  · rw [vSlots_one _ _ _ _ (by rw [e1]; exact h), vBlock_one _ _ _ h, e1]

/-- The queries after the second region. -/
theorem final12 (c : Dev nD) : (dat1 V c).arrAt 12 cfg1.N
    = qSlots (V c main_arg0) (V c main_v61) (V c main_v21) (V c main_v23) (V c main_v57) (V c main_v58) := by
  refine (dat1 V c).arrAt_eq_of_covers 12 _ (by decide +kernel) fun t _ y => ?_
  blk_simp
  rw [after1_12, out_q]
  exact point12 V c t y _ (by blk_simp [idx1 t]) (by blk_simp [idx1 t])

/-- The keys after the second region. -/
theorem final13 (c : Dev nD) : (dat1 V c).arrAt 13 cfg1.N
    = kSlots (V c main_arg0) (V c main_v62) (V c main_v56) (V c main_v21) (V c main_v23) (V c main_v59) := by
  refine (dat1 V c).arrAt_eq_of_covers 13 _ (by decide +kernel) fun t _ y => ?_
  blk_simp
  rw [after1_13, out_k]
  exact point13 V c t y _ (by blk_simp [idx1 t]) (by blk_simp [idx1 t])

/-- The values after the second region. -/
theorem final14 (c : Dev nD) : (dat1 V c).arrAt 14 cfg1.N = vSlots (V c main_arg0) (V c main_v62) (V c main_v60) := by
  refine (dat1 V c).arrAt_eq_of_covers 14 _ (by decide +kernel) fun t _ y => ?_
  blk_simp
  rw [after1_14, out_v]
  exact point14 V c t y _ (by blk_simp [idx1 t]) (by blk_simp [idx1 t])

end Cert.MlaIdeal.Attn

end
-- ==== Proof.MlaMath.lean ====
/- Mathematics of the latent attention over the extended reals, free of any program: finite values and what keeps them
   finite, the rotation, and the softmax of scores laid out in zero-padded slots. -/
module

public import Idealize.ShloMosaic.Lib.Pipeline.ValueKit
public import Idealize.ShloMosaic.PureOps.Ideal.Laws

@[expose] public section

set_option maxRecDepth 16384

noncomputable section

open Idealize.ShloMosaic

namespace Cert.MlaMath

/-! ### Finite values -/

/-- A finite value: a real number read as an extended one. -/
def Fine (x : EReal) : Prop := ∃ r : ℝ, x = (r : EReal)

theorem Fine.coe (r : ℝ) : Fine (r : EReal) := ⟨r, rfl⟩
theorem Fine.zero : Fine 0 := ⟨0, rfl⟩
theorem Fine.add {x y : EReal} (hx : Fine x) (hy : Fine y) : Fine (x + y) := by
  obtain ⟨a, rfl⟩ := hx; obtain ⟨b, rfl⟩ := hy; exact ⟨a + b, (EReal.coe_add a b).symm⟩
theorem Fine.mul {x y : EReal} (hx : Fine x) (hy : Fine y) : Fine (x * y) := by
  obtain ⟨a, rfl⟩ := hx; obtain ⟨b, rfl⟩ := hy; exact ⟨a * b, (EReal.coe_mul a b).symm⟩
theorem Fine.neg {x : EReal} (hx : Fine x) : Fine (-x) := by
  obtain ⟨a, rfl⟩ := hx; exact ⟨-a, (EReal.coe_neg a).symm⟩
theorem Fine.sub {x y : EReal} (hx : Fine x) (hy : Fine y) : Fine (x - y) := by
  rw [sub_eq_add_neg]; exact hx.add hy.neg
/-- A finite sum of reals, term by term. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]
theorem Fine.sum {ι : Type} (s : Finset ι) (f : ι → EReal) (hf : ∀ i, Fine (f i)) : Fine (∑ i ∈ s, f i) := by
  choose g hg using hf
  exact ⟨∑ i ∈ s, g i, by rw [coe_sum]; exact Finset.sum_congr rfl fun i _ => hg i⟩
theorem Fine.cos {x : EReal} (hx : Fine x) : Fine (Ideal.cos x) := by
  obtain ⟨a, rfl⟩ := hx; exact ⟨_, Ideal.cos_coe a⟩
theorem Fine.sin {x : EReal} (hx : Fine x) : Fine (Ideal.sin x) := by
  obtain ⟨a, rfl⟩ := hx; exact ⟨_, Ideal.sin_coe a⟩
/-- What lies below the infinite word in absolute value is finite. -/
theorem Fine.of_abs {x : EReal} (h : max x (-x) < ⊤) : Fine x := by
  induction x using EReal.rec with
  | bot => simp at h
  | top => simp at h
  | coe r => exact ⟨r, rfl⟩

/-- The negated terms of a finite sum sum to its negative. -/
theorem sum_neg {ι : Type} (s : Finset ι) (f : ι → EReal) (hf : ∀ i, Fine (f i)) : ∑ i ∈ s, -f i = -∑ i ∈ s, f i := by
  choose g hg using hf
  simp only [hg, ← EReal.coe_neg, ← coe_sum]
  rw [Finset.sum_neg_distrib]

/-! ### The program's constants -/

theorem c_one : Ideal.ofBits .f32 0x3F800000#32 = 1 := Ideal.ofBits_one_f32
theorem c_bot : Ideal.ofBits .f32 0xFF800000#32 = ⊥ := by simp [Ideal.ofBits, Ideal.ieee]
theorem c_top : Ideal.ofBits .f32 0x7F800000#32 = ⊤ := by simp [Ideal.ofBits, Ideal.ieee]
theorem c_512 : Ideal.ofBits .f32 0x44000000#32 = ((512 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_1e4 : Ideal.ofBits .f32 0x461C4000#32 = ((10000 : ℝ) : EReal) := by
  simp [Ideal.ofBits, Ideal.ieee, -EReal.coe_mul]; norm_num
/-- The epsilon of the norms is positive. -/
theorem c_eps : ∃ r : ℝ, 0 < r ∧ Ideal.ofBits .f32 0x358637BD#32 = (r : EReal) := by
  simp only [Ideal.ofBits, Ideal.ieee]
  refine ⟨_, ?_, if_neg (by decide) |>.trans (if_neg (by decide))⟩
  simp
/-- The scale of the scores is finite. -/
theorem c_scale : Fine (Ideal.ofBits .f32 0x3D93CD3A#32) := by
  simp only [Ideal.ofBits, Ideal.ieee]
  exact ⟨_, if_neg (by decide) |>.trans (if_neg (by decide))⟩

/-! ### The norm and the rotation -/

/-- The reciprocal root of a mean of squares plus the epsilon is finite. -/
theorem Fine.rms {n : ℕ} (x : Fin n → EReal) (hx : ∀ k, Fine (x k)) :
    Fine (Ideal.rsqrt (Ideal.div (∑ k, x k * x k) (Ideal.ofBits .f32 0x44000000#32) + Ideal.ofBits .f32 0x358637BD#32)) := by
  choose y hy using hx
  obtain ⟨e, he, hc⟩ := c_eps
  have hs : 0 ≤ ∑ k, y k * y k := Finset.sum_nonneg fun k _ => mul_self_nonneg _
  simp only [hy, ← EReal.coe_mul, ← coe_sum]
  rw [c_512, hc, Ideal.div_coe (by norm_num), ← EReal.coe_mul, ← EReal.coe_add, Ideal.rsqrt_coe,
    if_neg (by positivity |> not_lt.mpr), if_neg (by positivity)]
  exact Fine.coe _

/-- The angle of a frequency at a position. -/
def angle (p f : ℕ) : EReal :=
  FloatOps.sitofp (F := Ideal) .f32 (BitVec.ofNat 32 p) *
    Ideal.div 1 (Ideal.pow (Ideal.ofBits .f32 0x461C4000#32)
      (Ideal.div (Ideal.ofBits .f32 0x40000000#32 * FloatOps.sitofp (F := Ideal) .f32 (BitVec.ofNat 32 f))
        (Ideal.ofBits .f32 0x42800000#32)))

theorem Fine.angle (p f : ℕ) : Fine (angle p f) := by
  unfold MlaMath.angle
  refine (Fine.coe _).mul ?_
  rw [c_1e4, c_2, c_64]
  have h2 : (FloatOps.sitofp (F := Ideal) .f32 (BitVec.ofNat 32 f) : EReal) = (((BitVec.ofNat 32 f).toInt : ℝ) : EReal) := rfl
  rw [h2, ← EReal.coe_mul, Ideal.div_coe (by norm_num), ← EReal.coe_mul, Ideal.pow_coe_coe,
    Ideal.div_coe (show Real.rpow 10000 _ ≠ 0 from (Real.rpow_pos_of_pos (by norm_num) _).ne')]
  exact Fine.mul ⟨1, rfl⟩ (Fine.coe _)

/-- The rotation of a row of 64 at a position: its halves paired, each pair turned by its angle. -/
def rot (x : Fin 64 → EReal) (p : ℕ) (e : Fin 64) : EReal :=
  if h : (e : ℕ) < 32 then x e * Ideal.cos (angle p e) - x ⟨32 + e, by omega⟩ * Ideal.sin (angle p e)
  else x e * Ideal.cos (angle p (e - 32)) + x ⟨e - 32, by omega⟩ * Ideal.sin (angle p (e - 32))

theorem Fine.rot {x : Fin 64 → EReal} (hx : ∀ e, Fine (x e)) (p : ℕ) (e : Fin 64) : Fine (rot x p e) := by
  unfold MlaMath.rot
  split_ifs
  · exact ((hx _).mul (Fine.angle _ _).cos).sub ((hx _).mul (Fine.angle _ _).sin)
  · exact ((hx _).mul (Fine.angle _ _).cos).add ((hx _).mul (Fine.angle _ _).sin)

/-! ### The softmax -/

/-- The greatest of finitely many finite values, one or more, over −∞ is finite. -/
theorem fold_max_fine {ι : Type} (s : Finset ι) (f : ι → ℝ) (hs : s.Nonempty) :
    Fine (s.fold max ⊥ fun i => (f i : EReal)) := by
  classical
  induction hs using Finset.Nonempty.cons_induction with
  | singleton a => exact ⟨f a, by simp⟩
  | cons a s ha hs ih =>
    obtain ⟨r, hr⟩ := ih
    rw [Finset.fold_cons, hr]
    exact ⟨max (f a) r, (EReal.coe_strictMono.monotone.map_max).symm⟩

/-- A sum over a slot of 256: its 128 plain lanes, its 64 rotated ones, and 64 lanes of zeros. -/
theorem sum_slot (f : Fin 256 → ℝ) (a : Fin 128 → ℝ) (b : Fin 64 → ℝ)
    (ha : ∀ d : Fin 128, f ⟨d, by omega⟩ = a d) (hb : ∀ e : Fin 64, f ⟨128 + e, by omega⟩ = b e)
    (hz : ∀ e : Fin 64, f ⟨192 + e, by omega⟩ = 0) : ∑ d, f d = ∑ d, a d + ∑ e, b e := by
  have h1 := Fin.sum_univ_add (a := 128) (b := 128) (f := f)
  have h2 := Fin.sum_univ_add (a := 64) (b := 64) (f := fun i => f (Fin.natAdd 128 i))
  rw [show ∑ d, f d = _ from h1, show ∑ i : Fin 128, f (Fin.natAdd 128 i) = _ from h2]
  congr 1
  · exact Finset.sum_congr rfl fun d _ => ha d
  · have e1 : ∑ e : Fin 64, f (Fin.natAdd 128 (Fin.castAdd 64 e)) = ∑ e, b e :=
      Finset.sum_congr rfl fun e _ => hb e
    have e2 : ∑ e : Fin 64, f (Fin.natAdd 128 (Fin.natAdd 64 e)) = 0 :=
      Finset.sum_eq_zero fun e _ => by
        rw [← hz e]; congr 1; ext; simp [Fin.natAdd]; omega
    rw [e1, e2, add_zero]

/-- The softmax of finite scores against finite values: the weighted sum over the sum of the weights is the sum of the
    values by the weights' shares. -/
theorem softmax_eq {n : ℕ} (hn : 0 < n) (s v : Fin n → ℝ) :
    Ideal.div
      (∑ j, Ideal.exp ((s j : EReal) - Finset.univ.fold max ⊥ fun j => (s j : EReal)) * (v j : EReal))
      (∑ j, Ideal.exp ((s j : EReal) - Finset.univ.fold max ⊥ fun j => (s j : EReal)) * 1)
    = ∑ j, (v j : EReal) * Ideal.div
        (Ideal.exp ((s j : EReal) - max ⊥ (Finset.univ.fold max ⊥ fun j => (s j : EReal))))
        (∑ j, Ideal.exp ((s j : EReal) - max ⊥ (Finset.univ.fold max ⊥ fun j => (s j : EReal)))) := by
  obtain ⟨M, hM⟩ := fold_max_fine Finset.univ s ⟨⟨0, hn⟩, Finset.mem_univ _⟩
  have hZ : (0 : ℝ) < ∑ j, Real.exp (s j - M) :=
    Finset.sum_pos (fun j _ => Real.exp_pos _) ⟨⟨0, hn⟩, Finset.mem_univ _⟩
  rw [max_eq_right bot_le, hM]
  simp only [← EReal.coe_sub, Ideal.exp_coe, mul_one, ← EReal.coe_mul, ← coe_sum]
  simp only [Ideal.div_coe hZ.ne', ← EReal.coe_mul, ← coe_sum]
  congr 1
  rw [Finset.sum_mul]
  exact Finset.sum_congr rfl fun j _ => by ring

end Cert.MlaMath

end
-- ==== Proof.MlaHost.lean ====
/- The arrays the host prepares for the latent attention, read at an index: the padded and the half-swapped weights, the
   rotation tables, the shared key's columns. -/
module

public import proofs.«01_k».proof.Proof.MlaPrep
public import proofs.«01_k».proof.Proof.MlaMath
public import Idealize.ShloMosaic.Lib.StableHlo.RunRead

@[expose] public section

set_option maxRecDepth 16384

noncomputable section

open Idealize.ShloMosaic Idealize.ShloMosaic.TcCoe Idealize.SL.Sem

namespace Cert.MlaIdeal.Attn

open Cert.MlaIdeal Cert.MlaIdeal.Gen Cert.MlaMath

variable (m : (ℓ : Loc nD τ sig) → Buf (Elt Ideal) ℓ) (ρ : Dev nD → PrngReg) (c : Dev nD)

/-! ### The argument arrays -/

abbrev argC : FVec Ideal S8192x1024 .f32 := m ((c : Thread nD τ).loc main_arg0)
abbrev argH : FVec Ideal S8192x2048 .bf16 := m ((c : Thread nD τ).loc main_arg1)
abbrev argW : FVec Ideal S2x2048x6208 .f32 := m ((c : Thread nD τ).loc main_arg2)
abbrev argG : FVec Ideal S512 .f32 := m ((c : Thread nD τ).loc main_arg3)
abbrev argGK : FVec Ideal S512 .f32 := m ((c : Thread nD τ).loc main_arg4)
abbrev argU : FVec Ideal S512x1536 .f32 := m ((c : Thread nD τ).loc main_arg5)
abbrev argX : FVec Ideal S512x2048 .f32 := m ((c : Thread nD τ).loc main_arg6)

/-! ### What the host wrote before the first region -/

theorem v31_at (k : Fin 512) (y : Fin 2048) : (V1 m ρ c main_v31 : FVec Ideal S512x2048 .f32) (ix2 k y)
    = if h : (y : ℕ) % 256 < 128 then argU m c (ix2 k ⟨(y : ℕ) / 256 * 192 + (y : ℕ) % 256, by omega⟩)
      else if h : (y : ℕ) % 256 - 128 < 64 then argU m c (ix2 k ⟨(y : ℕ) / 256 * 192 + (128 + ((y : ℕ) % 256 - 128)), by omega⟩)
      else (0 : EReal) := by
  unfold_abbrev_sides
  after_reads_simp
  pointwise []
  after_reads_simp
  pointwise []
theorem v38_at (k : Fin 512) (y : Fin 2048) : (V1 m ρ c main_v38 : FVec Ideal S512x2048 .f32) (ix2 k y)
    = if h : (y : ℕ) % 256 < 128 then (0 : EReal)
      else if h : (y : ℕ) % 256 - 128 < 64 then
        if h' : (y : ℕ) % 256 - 128 < 32 then -argU m c (ix2 k ⟨(y : ℕ) / 256 * 192 + (128 + (32 + ((y : ℕ) % 256 - 128))), by omega⟩)
        else argU m c (ix2 k ⟨(y : ℕ) / 256 * 192 + (128 + ((y : ℕ) % 256 - 128 - 32)), by omega⟩)
      else (0 : EReal) := by
  unfold_abbrev_sides
  after_reads_simp
  pointwise []
  after_reads_simp
  pointwise []
theorem v44_at (k : Fin 512) (y : Fin 2048) : (V1 m ρ c main_v44 : FVec Ideal S512x2048 .f32) (ix2 k y)
    = if h : (y : ℕ) % 256 < 128 then argX m c (ix2 k ⟨(y : ℕ) / 256 * 256 + (y : ℕ) % 256, by omega⟩) else (0 : EReal) := by
  unfold_abbrev_sides
  after_reads_simp
  pointwise []
  after_reads_simp
  pointwise []
theorem v45_at (k : Fin 512) (y : Fin 1024) : (V1 m ρ c main_v45 : FVec Ideal S512x1024 .f32) (ix2 k y)
    = argX m c (ix2 k ⟨(y : ℕ) / 128 * 256 + (128 + (y : ℕ) % 128), by omega⟩) := by
  unfold_abbrev_sides
  after_reads_simp
  pointwise []
theorem v21_at (p : Fin 4096) (l : Fin 256) : (V1 m ρ c main_v21 : FVec Ideal S4096x256 .f32) (ix2 p l)
    = if h : (l : ℕ) < 128 then (1 : EReal)
      else if h : (l : ℕ) - 128 < 32 then Ideal.cos (angle p (l - 128))
      else if h : (l : ℕ) - 128 - 32 < 32 then Ideal.cos (angle p (l - 128 - 32)) else 0 := by
  unfold_abbrev_sides
  after_reads_simp
  pointwise []
  after_reads_simp
  pointwise [angle]
theorem v23_at (p : Fin 4096) (l : Fin 256) : (V1 m ρ c main_v23 : FVec Ideal S4096x256 .f32) (ix2 p l)
    = if h : (l : ℕ) < 128 then (0 : EReal)
      else if h : (l : ℕ) - 128 < 32 then Ideal.sin (angle p (l - 128))
      else if h : (l : ℕ) - 128 - 32 < 32 then Ideal.sin (angle p (l - 128 - 32)) else 0 := by
  unfold_abbrev_sides
  after_reads_simp
  pointwise []
  after_reads_simp
  pointwise [angle]
theorem v55_at (k : Fin 2048) (y : Fin 512) : (V1 m ρ c main_v55 : FVec Ideal S2048x512 .bf16) (ix2 k y)
    = if h : (y : ℕ) < 256 then
        if h : (y : ℕ) < 128 then (0 : EReal)
        else if h' : (y : ℕ) - 128 < 64 then argW m c (ix3 0 k ⟨6144 + ((y : ℕ) - 128), by omega⟩) else 0
      else if h : (y : ℕ) - 256 < 128 then 0
      else if h' : (y : ℕ) - 256 - 128 < 64 then
        if h'' : (y : ℕ) - 256 - 128 < 32 then -argW m c (ix3 0 k ⟨6144 + (32 + ((y : ℕ) - 256 - 128)), by omega⟩)
        else argW m c (ix3 0 k ⟨6144 + ((y : ℕ) - 256 - 128 - 32), by omega⟩)
      else 0 := by
  unfold_abbrev_sides
  after_reads_simp
  pointwise []
  after_reads_simp
  pointwise []
  after_reads_simp
  pointwise []

/-! ### What the second region finds -/

theorem V3_arg0 : V3 m ρ c main_arg0 = argC m c := W3_args m ρ c main_arg0 (by decide)
theorem V3_v21 : V3 m ρ c main_v21 = V1 m ρ c main_v21 :=
  (W3_of m ρ c main_v21 (by decide)).trans (W2_of m ρ c main_v21 (by decide))
theorem V3_v23 : V3 m ρ c main_v23 = V1 m ρ c main_v23 :=
  (W3_of m ρ c main_v23 (by decide)).trans (W2_of m ρ c main_v23 (by decide))
theorem V3_v56 : V3 m ρ c main_v56 = keyOf (argH m c) (V1 m ρ c main_v55) :=
  (W3_of m ρ c main_v56 (by decide)).trans ((W2_arr m ρ c 2).trans ((final0 (V1 m ρ) c).trans
    (congrArg (fun x => keyOf x (V1 m ρ c main_v55)) (W1_args m ρ c main_arg1 (by decide)))))
theorem V3_v57 : (V3 m ρ c main_v57 : S512x2048.Idx → EReal) = (V1 m ρ c main_v31 : S512x2048.Idx → EReal) := by
  refine Eq.trans ?_ (W2_of m ρ c main_v31 (by decide))
  unfold_abbrev_sides
  after_results
  rfl
theorem V3_v58 : (V3 m ρ c main_v58 : S512x2048.Idx → EReal) = (V1 m ρ c main_v38 : S512x2048.Idx → EReal) := by
  refine Eq.trans ?_ (W2_of m ρ c main_v38 (by decide))
  unfold_abbrev_sides
  after_results
  rfl
theorem V3_v59 : (V3 m ρ c main_v59 : S512x2048.Idx → EReal) = (V1 m ρ c main_v44 : S512x2048.Idx → EReal) := by
  refine Eq.trans ?_ (W2_of m ρ c main_v44 (by decide))
  unfold_abbrev_sides
  after_results
  rfl
theorem V3_v60 : (V3 m ρ c main_v60 : S512x1024.Idx → EReal) = (V1 m ρ c main_v45 : S512x1024.Idx → EReal) := by
  refine Eq.trans ?_ (W2_of m ρ c main_v45 (by decide))
  unfold_abbrev_sides
  after_results
  rfl
theorem V3_v61 (k : Fin 512) : (V3 m ρ c main_v61 : FVec Ideal S1x512 .f32) (ix2 0 k) = argG m c (ix1 k) := by
  rw [show argG m c = W2 m ρ c (Proc.devRef .tc main_arg3) from (W2_args m ρ c main_arg3 (by decide)).symm]
  unfold_abbrev_sides
  after_results
  pointwise []
theorem V3_v62 (k : Fin 512) : (V3 m ρ c main_v62 : FVec Ideal S1x512 .f32) (ix2 0 k) = argGK m c (ix1 k) := by
  rw [show argGK m c = W2 m ρ c (Proc.devRef .tc main_arg4) from (W2_args m ρ c main_arg4 (by decide)).symm]
  unfold_abbrev_sides
  after_results
  pointwise []

/-! ### What the third region finds -/

theorem V4_q : V4 m ρ c main_v63_0 = qSlots (argC m c) (V3 m ρ c main_v61) (V1 m ρ c main_v21) (V1 m ρ c main_v23)
    (V3 m ρ c main_v57) (V3 m ρ c main_v58) :=
  (W4_arr m ρ c 12).trans ((final12 (V3 m ρ) c).trans (by rw [V3_arg0, V3_v21, V3_v23]))
theorem V4_k : V4 m ρ c main_v63_1 = kSlots (argC m c) (V3 m ρ c main_v62) (keyOf (argH m c) (V1 m ρ c main_v55))
    (V1 m ρ c main_v21) (V1 m ρ c main_v23) (V3 m ρ c main_v59) :=
  (W4_arr m ρ c 13).trans ((final13 (V3 m ρ) c).trans (by rw [V3_arg0, V3_v21, V3_v23, V3_v56]))
theorem V4_v : V4 m ρ c main_v63_2 = vSlots (argC m c) (V3 m ρ c main_v62) (V3 m ρ c main_v60) :=
  (W4_arr m ρ c 14).trans ((final14 (V3 m ρ) c).trans (by rw [V3_arg0]))

end Cert.MlaIdeal.Attn

end
-- ==== Proof.MlaRef.lean ====
/- The reference of the latent attention read at an index: its norms, projections, rotations, scores and results as sums
   over the argument arrays. -/
module

public import proofs.«01_k».proof.Proof.Gen.MlaRefIdeal.Read
public import proofs.«01_k».proof.Proof.MlaMath

@[expose] public section

set_option maxRecDepth 16384

noncomputable section

open Idealize.ShloMosaic Idealize.ShloMosaic.TcCoe Idealize.SL.Sem

namespace Cert.MlaRefIdeal.Attn

open Cert.MlaRefIdeal Cert.MlaRefIdeal.Read Cert.MlaMath

variable (C : FVec Ideal S8192x1024 .f32) (H : FVec Ideal S8192x2048 .bf16) (W : FVec Ideal S2x2048x6208 .f32)
  (g gk : FVec Ideal S512 .f32) (U : FVec Ideal S512x1536 .f32) (X : FVec Ideal S512x2048 .f32)

/-- A row's normed query latent. -/
def normQ (r : Fin 8192) (k : Fin 512) : EReal :=
  C (ix2 r ⟨k, by omega⟩) * Ideal.rsqrt (Ideal.div (∑ j : Fin 512, C (ix2 r ⟨j, by omega⟩) * C (ix2 r ⟨j, by omega⟩))
    (Ideal.ofBits .f32 0x44000000#32) + Ideal.ofBits .f32 0x358637BD#32) * g (ix1 k)
/-- A row's normed key and value latent. -/
def normK (r : Fin 8192) (k : Fin 512) : EReal :=
  C (ix2 r ⟨512 + k, by omega⟩) * Ideal.rsqrt (Ideal.div (∑ j : Fin 512, C (ix2 r ⟨512 + j, by omega⟩) * C (ix2 r ⟨512 + j, by omega⟩))
    (Ideal.ofBits .f32 0x44000000#32) + Ideal.ofBits .f32 0x358637BD#32) * gk (ix1 k)

/-- A row's query of a head: 128 plain lanes, then 64 to be rotated. -/
def query (r : Fin 8192) (h : Fin 8) (e : Fin 192) : EReal :=
  ∑ k : Fin 512, normQ C g r k * U (ix2 k ⟨h * 192 + e, by omega⟩)
/-- A row's key of a head (128 lanes), then its value (128 lanes). -/
def keyVal (r : Fin 8192) (h : Fin 8) (e : Fin 256) : EReal :=
  ∑ k : Fin 512, normK C gk r k * X (ix2 k ⟨h * 256 + e, by omega⟩)
/-- A row's shared key, to be rotated. -/
def shared (r : Fin 8192) (e : Fin 64) : EReal :=
  ∑ k : Fin 2048, H (ix2 r k) * W (ix3 0 k ⟨6144 + e, by omega⟩)

/-- The row of a key of a row's batch entry. -/
abbrev keyAt (r : Fin 8192) (j : Fin 4096) : Fin 8192 := ⟨(r : ℕ) / 4096 * 4096 + j, by omega⟩
/-- The row of a batch entry's position. -/
abbrev rowOf (b : Fin 2) (q : Fin 4096) : Fin 8192 := ⟨b * 4096 + q, by omega⟩

theorem at22 (i : S2x4096x512.Idx) : val_main_v22 (F := Ideal) C g i = normQ C g (rowOf (i 0) (i 1)) (i 2) := by
  pointwise [val_main_v22, val_main_v21, val_main_v20, val_main_v19, val_main_v18, val_main_v17, val_main_v16, val_main_v15, val_main_cst_1, val_main_v14, val_main_v13, val_main_cst_0, val_main_v12, val_main_v11, val_main_cst, val_main_v10, val_main_v1, val_main_v0]
  unfold normQ
  blk_point []
theorem at37 (i : S2x4096x512.Idx) : val_main_v37 (F := Ideal) C gk i = normK C gk (rowOf (i 0) (i 1)) (i 2) := by
  pointwise [val_main_v37, val_main_v36, val_main_v35, val_main_v34, val_main_v33, val_main_v32, val_main_v31, val_main_v30, val_main_cst_4, val_main_v29, val_main_v28, val_main_cst_3, val_main_v27, val_main_v26, val_main_cst_2, val_main_v25, val_main_v3, val_main_v2]
  unfold normK
  blk_point []
theorem at24 (i : S2x4096x8x192.Idx) : val_main_v24 (F := Ideal) C g U i = query C g U (rowOf (i 0) (i 1)) (i 2) (i 3) := by
  pointwise [val_main_v24, val_main_v23, at22, query]
  try blk_point []
theorem at39 (i : S2x4096x8x256.Idx) : val_main_v39 (F := Ideal) C gk X i = keyVal C gk X (rowOf (i 0) (i 1)) (i 2) (i 3) := by
  pointwise [val_main_v39, val_main_v38, at37, keyVal]
  try blk_point []
theorem at9 (i : S2x4096x64.Idx) : val_main_v9 (F := Ideal) H W i = shared H W (rowOf (i 0) (i 1)) (i 2) := by
  pointwise [val_main_v9, val_main_v8, val_main_v7, val_main_v6, val_main_v5, val_main_v4, shared]
  try blk_point []
theorem at61 (i : S4096x32.Idx) : val_main_v61 (F := Ideal) i = Ideal.cos (angle (i 0) (i 1)) := by
  pointwise [val_main_v61, val_main_v60, val_main_v59, val_main_v58, val_main_v57, val_main_v56, val_main_v55, val_main_v54, val_main_v53, val_main_cst_9, val_main_v52, val_main_v51, val_main_cst_8, val_main_v50, val_main_v49, val_main_cst_7, val_main_v48, val_main_v47, val_main_cst_6, val_main_v46, val_main_v45, val_main_cst_5, val_main_v44, angle]
theorem at62 (i : S4096x32.Idx) : val_main_v62 (F := Ideal) i = Ideal.sin (angle (i 0) (i 1)) := by
  pointwise [val_main_v62, val_main_v60, val_main_v59, val_main_v58, val_main_v57, val_main_v56, val_main_v55, val_main_v54, val_main_v53, val_main_cst_9, val_main_v52, val_main_v51, val_main_cst_8, val_main_v50, val_main_v49, val_main_cst_7, val_main_v48, val_main_v47, val_main_cst_6, val_main_v46, val_main_v45, val_main_cst_5, val_main_v44, angle]
/-- A lane of the second half is 32 past its partner. -/
theorem back_half {α : Type} (e : Fin 64) (h : ¬ (e : ℕ) < 32) (f : (n : ℕ) → n < 64 → α) :
    f (32 + ((e : ℕ) - 32)) (by omega) = f e e.isLt := by
  congr 1; omega
theorem at81 (i : S2x4096x8x64.Idx) : val_main_v81 (F := Ideal) C g U i
    = rot (fun e => query C g U (rowOf (i 0) (i 1)) (i 2) ⟨128 + e, by omega⟩) (i 1) (i 3) := by
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v41, at24, at61, at62, rot]
  refine dite_congr rfl (fun _ => rfl) fun h => ?_
  exact congrArg (fun y => y * _ + _) (back_half (i 3) h (fun n hn => query C g U (rowOf (i 0) (i 1)) (i 2) ⟨128 + n, by omega⟩))
theorem at98 (i : S2x4096x64.Idx) : val_main_v98 (F := Ideal) H W i = rot (shared H W (rowOf (i 0) (i 1))) (i 1) (i 2) := by
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, at9, at61, at62, rot]
  refine dite_congr rfl (fun _ => rfl) fun h => ?_
  exact congrArg (fun y => y * _ + _) (back_half (i 2) h (fun n hn => shared H W (rowOf (i 0) (i 1)) ⟨n, hn⟩))
/-- One score of the reference: the plain lanes, the rotated ones, scaled. -/
def refScore (r : Fin 8192) (h : Fin 8) (j : Fin 4096) : EReal :=
  (∑ d : Fin 128, query C g U r h ⟨d, by omega⟩ * keyVal C gk X (keyAt r j) h ⟨d, by omega⟩
    + ∑ e : Fin 64, rot (shared H W (keyAt r j)) j e * rot (fun e => query C g U r h ⟨128 + e, by omega⟩) ((r : ℕ) % 4096) e)
  * Ideal.ofBits .f32 0x3D93CD3A#32
theorem keyAt_row (b : Fin 2) (q j : Fin 4096) : keyAt (rowOf b q) j = rowOf b j := by ext; simp only [rowOf, keyAt]; omega
theorem pos_row (b : Fin 2) (q : Fin 4096) : ((b : ℕ) * 4096 + q) % 4096 = q := by omega
theorem row_div (r : Fin 8192) (j : Fin 4096) : rowOf ⟨(r : ℕ) / 4096, by omega⟩ j = keyAt r j := rfl
theorem row_self (r : Fin 8192) : rowOf ⟨(r : ℕ) / 4096, by omega⟩ ⟨(r : ℕ) % 4096, by omega⟩ = r := by
  ext; simp only [rowOf]; omega
theorem at104 (i : S2x8x4096x4096.Idx) : val_main_v104 (F := Ideal) C H W g gk U X i
    = refScore C H W g gk U X (rowOf (i 0) (i 2)) (i 1) (i 3) := by
  pointwise [val_main_v104, val_main_v103, val_main_cst_10, val_main_v102, val_main_v101, val_main_v100, val_main_v99, val_main_v40, val_main_v42, at24, at39, at98, at81, refScore]
  rw [keyAt_row (i 0) (i 2) (i 3), pos_row (i 0) (i 2)]
theorem at105 (i : S2x8x4096.Idx) : val_main_v105 (F := Ideal) C H W g gk U X i
    = Finset.univ.fold max (Ideal.ofBits .f32 0xFF800000#32) fun x => val_main_v104 (F := Ideal) C H W g gk U X (ix4 (i 0) (i 1) (i 2) x) := by
  unfold val_main_v105
  generalize val_main_v104 (F := Ideal) C H W g gk U X = y
  pointwise [val_main_cst_11]
theorem at107 (i : S2x8x4096.Idx) : val_main_v107 (F := Ideal) C H W g gk U X i
    = max (Ideal.ofBits .f32 0xFF800000#32) (val_main_v105 (F := Ideal) C H W g gk U X i) := by
  rw [val_main_v107_apply, val_main_v106_apply, val_main_cst_12_apply]
  rfl
theorem at109 (i : S2x8x4096x4096.Idx) : val_main_v109 (F := Ideal) C H W g gk U X i
    = val_main_v107 (F := Ideal) C H W g gk U X (ix3 (i 0) (i 1) (i 2)) := by
  unfold val_main_v109 val_main_v108
  generalize val_main_v107 (F := Ideal) C H W g gk U X = y
  pointwise []
theorem at111 (i : S2x8x4096x4096.Idx) : val_main_v111 (F := Ideal) C H W g gk U X i = Ideal.exp
    (val_main_v104 (F := Ideal) C H W g gk U X i - max (Ideal.ofBits .f32 0xFF800000#32)
      (Finset.univ.fold max (Ideal.ofBits .f32 0xFF800000#32) fun x => val_main_v104 (F := Ideal) C H W g gk U X (ix4 (i 0) (i 1) (i 2) x))) := by
  rw [val_main_v111_apply, val_main_v110_apply, at109, at107, at105]
  generalize val_main_v104 (F := Ideal) C H W g gk U X = y
  rfl
/-- The head of a result column, and its lane. -/
abbrev headAt (x : Fin 1024) : Fin 8 := ⟨(x : ℕ) / 128, by omega⟩
theorem core119 (i : S8192x1024.Idx) (r : Fin 8192)
    (hr : r = rowOf ⟨(i 0 : ℕ) / 4096, Nat.div_lt_of_lt_mul (i 0).isLt⟩ ⟨(i 0 : ℕ) % 4096, Nat.mod_lt _ (by decide)⟩) : val_main_v119 (F := Ideal) C H W g gk U X i
    = ∑ j : Fin 4096, keyVal C gk X (rowOf ⟨(i 0 : ℕ) / 4096, Nat.div_lt_of_lt_mul (i 0).isLt⟩ j) (headAt (i 1)) ⟨128 + (i 1 : ℕ) % 128, by omega⟩ *
        Ideal.div
          (Ideal.exp (refScore C H W g gk U X r (headAt (i 1)) j - max (Ideal.ofBits .f32 0xFF800000#32)
            (Finset.univ.fold max (Ideal.ofBits .f32 0xFF800000#32) (refScore C H W g gk U X r (headAt (i 1))))))
          (∑ j : Fin 4096, Ideal.exp (refScore C H W g gk U X r (headAt (i 1)) j - max (Ideal.ofBits .f32 0xFF800000#32)
            (Finset.univ.fold max (Ideal.ofBits .f32 0xFF800000#32) (refScore C H W g gk U X r (headAt (i 1)))))) := by
  subst hr
  pointwise [val_main_v119, val_main_v118, val_main_v117, val_main_v116, val_main_v115, val_main_v114, val_main_v113, val_main_v112, val_main_cst_13, val_main_v43, at39, at111, at104]

/-- The reference's result: the softmax of the scores against the head's values. -/
theorem at119 (i : S8192x1024.Idx) : val_main_v119 (F := Ideal) C H W g gk U X i
    = ∑ j : Fin 4096, keyVal C gk X (keyAt (i 0) j) (headAt (i 1)) ⟨128 + (i 1 : ℕ) % 128, by omega⟩ *
        Ideal.div
          (Ideal.exp (refScore C H W g gk U X (i 0) (headAt (i 1)) j - max (Ideal.ofBits .f32 0xFF800000#32)
            (Finset.univ.fold max (Ideal.ofBits .f32 0xFF800000#32) (refScore C H W g gk U X (i 0) (headAt (i 1))))))
          (∑ j : Fin 4096, Ideal.exp (refScore C H W g gk U X (i 0) (headAt (i 1)) j - max (Ideal.ofBits .f32 0xFF800000#32)
            (Finset.univ.fold max (Ideal.ofBits .f32 0xFF800000#32) (refScore C H W g gk U X (i 0) (headAt (i 1)))))) := by
  exact core119 C H W g gk U X i (i 0) (row_self (i 0)).symm

end Cert.MlaRefIdeal.Attn

end
-- ==== Proof.MlaSlots.lean ====
/- The three slot arrays of the latent attention, lane by lane, as the reference's queries, keys and values: the plain
   lanes, the rotated lanes (where a weight with swapped and negated halves stands for the rotation's second term, which
   takes finite arguments), the padding. -/
module

public import proofs.«01_k».proof.Proof.MlaHost
public import proofs.«01_k».proof.Proof.MlaRef

@[expose] public section

set_option maxRecDepth 16384

noncomputable section

open Idealize.ShloMosaic Idealize.ShloMosaic.TcCoe Idealize.SL.Sem

namespace Cert.MlaIdeal.Attn

open Cert.MlaIdeal Cert.MlaIdeal.Gen Cert.MlaMath
open Cert.MlaRefIdeal.Attn (normQ normK query keyVal shared)

variable (m : (ℓ : Loc nD τ sig) → Buf (Elt Ideal) ℓ) (ρ : Dev nD → PrngReg) (c : Dev nD)

/-- A read of a matrix depends on its column's number only. -/
theorem col_congr {n p : ℕ} (f : (⟨2, ![n, p]⟩ : Shape).Idx → EReal) (k : Fin n) {a b : Fin p} (h : (a : ℕ) = b) :
    f (ix2 k a) = f (ix2 k b) := by rw [Fin.ext h]
theorem col_congr3 {l n p : ℕ} (f : (⟨3, ![l, n, p]⟩ : Shape).Idx → EReal) (j : Fin l) (k : Fin n) {a b : Fin p}
    (h : (a : ℕ) = b) : f (ix3 j k a) = f (ix3 j k b) := by rw [Fin.ext h]

/-! ### The norms -/

theorem latent_q_at (r : Fin 8192) (k : Fin 512) :
    latent (argC m c) (V3 m ρ c main_v61) 0 r k = normQ (argC m c) (argG m c) r k := by
  unfold latent normQ
  rw [V3_v61]
  have e : ∀ j : Fin 512, argC m c (ix2 r ⟨512 * ((0 : Fin 2) : ℕ) + j, by simp; omega⟩) = argC m c (ix2 r ⟨j, by omega⟩) :=
    fun j => col_congr (argC m c) r (by simp)
  simp only [e]
theorem latent_k_at (r : Fin 8192) (k : Fin 512) :
    latent (argC m c) (V3 m ρ c main_v62) 1 r k = normK (argC m c) (argGK m c) r k := by
  unfold latent normK
  rw [V3_v62]
  rfl

/-! ### The tables -/

theorem cos_plain (p : Fin 4096) (l : Fin 256) (h : (l : ℕ) < 128) : (V1 m ρ c main_v21 : S4096x256.Idx → EReal) (ix2 p l) = (1 : EReal) :=
  (v21_at m ρ c p l).trans (dif_pos h)
theorem sin_plain (p : Fin 4096) (l : Fin 256) (h : (l : ℕ) < 128) : (V1 m ρ c main_v23 : S4096x256.Idx → EReal) (ix2 p l) = (0 : EReal) :=
  (v23_at m ρ c p l).trans (dif_pos h)
theorem cos_low (p : Fin 4096) (l : Fin 256) (e : ℕ) (he : e < 32) (h : (l : ℕ) = 128 + e) :
    (V1 m ρ c main_v21 : S4096x256.Idx → EReal) (ix2 p l) = Ideal.cos (angle p e) :=
  (v21_at m ρ c p l).trans ((dif_neg (by omega)).trans ((dif_pos (by omega)).trans (by rw [h]; simp)))
theorem sin_low (p : Fin 4096) (l : Fin 256) (e : ℕ) (he : e < 32) (h : (l : ℕ) = 128 + e) :
    (V1 m ρ c main_v23 : S4096x256.Idx → EReal) (ix2 p l) = Ideal.sin (angle p e) :=
  (v23_at m ρ c p l).trans ((dif_neg (by omega)).trans ((dif_pos (by omega)).trans (by rw [h]; simp)))
theorem cos_high (p : Fin 4096) (l : Fin 256) (e : ℕ) (he : 32 ≤ e) (he' : e < 64) (h : (l : ℕ) = 128 + e) :
    (V1 m ρ c main_v21 : S4096x256.Idx → EReal) (ix2 p l) = Ideal.cos (angle p (e - 32)) :=
  (v21_at m ρ c p l).trans ((dif_neg (by omega)).trans ((dif_neg (by omega)).trans ((dif_pos (by omega)).trans (by rw [h]; simp))))
theorem sin_high (p : Fin 4096) (l : Fin 256) (e : ℕ) (he : 32 ≤ e) (he' : e < 64) (h : (l : ℕ) = 128 + e) :
    (V1 m ρ c main_v23 : S4096x256.Idx → EReal) (ix2 p l) = Ideal.sin (angle p (e - 32)) :=
  (v23_at m ρ c p l).trans ((dif_neg (by omega)).trans ((dif_neg (by omega)).trans ((dif_pos (by omega)).trans (by rw [h]; simp))))
theorem cos_pad (p : Fin 4096) (l : Fin 256) (h : 192 ≤ (l : ℕ)) : (V1 m ρ c main_v21 : S4096x256.Idx → EReal) (ix2 p l) = (0 : EReal) :=
  (v21_at m ρ c p l).trans ((dif_neg (by omega)).trans ((dif_neg (by omega)).trans (dif_neg (by omega))))
theorem sin_pad (p : Fin 4096) (l : Fin 256) (h : 192 ≤ (l : ℕ)) : (V1 m ρ c main_v23 : S4096x256.Idx → EReal) (ix2 p l) = (0 : EReal) :=
  (v23_at m ρ c p l).trans ((dif_neg (by omega)).trans ((dif_neg (by omega)).trans (dif_neg (by omega))))

/-! ### The weights -/

section
variable (k : Fin 512) (y : Fin 2048) (h : Fin 8)

theorem wq_plain (d : Fin 128) (hy : (y : ℕ) = h * 256 + d) : (V3 m ρ c main_v57 : S512x2048.Idx → EReal) (ix2 k y)
    = argU m c (ix2 k ⟨h * 192 + d, by omega⟩) := by
  rw [V3_v57]
  exact (v31_at m ρ c k y).trans ((dif_pos (by omega)).trans (col_congr (argU m c) k (by dsimp only; omega)))
theorem wq_rot (e : Fin 64) (hy : (y : ℕ) = h * 256 + 128 + e) : (V3 m ρ c main_v57 : S512x2048.Idx → EReal) (ix2 k y)
    = argU m c (ix2 k ⟨h * 192 + (128 + e), by omega⟩) := by
  rw [V3_v57]
  exact (v31_at m ρ c k y).trans ((dif_neg (by omega)).trans ((dif_pos (by omega)).trans
    (col_congr (argU m c) k (by dsimp only; omega))))
theorem wr_low (e : Fin 64) (he : (e : ℕ) < 32) (hy : (y : ℕ) = h * 256 + 128 + e) :
    (V3 m ρ c main_v58 : S512x2048.Idx → EReal) (ix2 k y) = -argU m c (ix2 k ⟨h * 192 + (128 + (32 + e)), by omega⟩) := by
  rw [V3_v58]
  exact (v38_at m ρ c k y).trans ((dif_neg (by omega)).trans ((dif_pos (by omega)).trans ((dif_pos (by omega)).trans
    (congrArg (fun x : EReal => -x) (col_congr (argU m c) k (by dsimp only; omega))))))
theorem wr_high (e : Fin 64) (he : ¬ (e : ℕ) < 32) (hy : (y : ℕ) = h * 256 + 128 + e) :
    (V3 m ρ c main_v58 : S512x2048.Idx → EReal) (ix2 k y) = argU m c (ix2 k ⟨h * 192 + (128 + (e - 32)), by omega⟩) := by
  rw [V3_v58]
  exact (v38_at m ρ c k y).trans ((dif_neg (by omega)).trans ((dif_pos (by omega)).trans ((dif_neg (by omega)).trans
    (col_congr (argU m c) k (by dsimp only; omega)))))
theorem wk_plain (d : Fin 128) (hy : (y : ℕ) = h * 256 + d) : (V3 m ρ c main_v59 : S512x2048.Idx → EReal) (ix2 k y)
    = argX m c (ix2 k ⟨h * 256 + d, by omega⟩) := by
  rw [V3_v59]
  exact (v44_at m ρ c k y).trans ((dif_pos (by omega)).trans (col_congr (argX m c) k (by dsimp only; omega)))
theorem wk_pad (hy : 128 ≤ (y : ℕ) % 256) : (V3 m ρ c main_v59 : S512x2048.Idx → EReal) (ix2 k y) = (0 : EReal) := by
  rw [V3_v59]
  exact (v44_at m ρ c k y).trans (dif_neg (by omega))
end

/-! ### The shared key's columns -/

section
variable (r : Fin 8192) (y : Fin 512)

/-- The shared key's columns as the host prepared them. -/
abbrev krW : S2048x512.Idx → EReal := V1 m ρ c main_v55

theorem keyOf_at : keyOf (argH m c) (V1 m ρ c main_v55) (ix2 r y) = ∑ k : Fin 2048, argH m c (ix2 r k) * krW m ρ c (ix2 k y) := rfl

theorem kr_rot (e : Fin 64) (hy : (y : ℕ) = 128 + e) :
    keyOf (argH m c) (V1 m ρ c main_v55) (ix2 r y) = shared (argH m c) (argW m c) r e := by
  have w : ∀ k, krW m ρ c (ix2 k y) = argW m c (ix3 0 k ⟨6144 + e, by omega⟩) := fun k =>
    (v55_at m ρ c k y).trans ((dif_pos (by omega)).trans ((dif_neg (by omega)).trans ((dif_pos (by omega)).trans
      (col_congr3 (argW m c) 0 k (by dsimp only; omega)))))
  rw [keyOf_at]
  simp only [w]
  rfl
theorem kr_zero (hy : (y : ℕ) % 256 < 128) : keyOf (argH m c) (V1 m ρ c main_v55) (ix2 r y) = (0 : EReal) := by
  have w : ∀ k, krW m ρ c (ix2 k y) = 0 := fun k => by
    by_cases h : (y : ℕ) < 256
    · exact (v55_at m ρ c k y).trans ((dif_pos h).trans (dif_pos (by omega)))
    · exact (v55_at m ρ c k y).trans ((dif_neg h).trans (dif_pos (by omega)))
  rw [keyOf_at]
  simp only [w, mul_zero, Finset.sum_const_zero]
theorem kr_high (e : Fin 64) (he : ¬ (e : ℕ) < 32) (hy : (y : ℕ) = 256 + (128 + e)) :
    keyOf (argH m c) (V1 m ρ c main_v55) (ix2 r y) = shared (argH m c) (argW m c) r ⟨e - 32, by omega⟩ := by
  have w : ∀ k, krW m ρ c (ix2 k y) = argW m c (ix3 0 k ⟨6144 + (e - 32), by omega⟩) := fun k =>
    (v55_at m ρ c k y).trans ((dif_neg (by omega)).trans ((dif_neg (by omega)).trans ((dif_pos (by omega)).trans
      ((dif_neg (by omega)).trans (col_congr3 (argW m c) 0 k (by dsimp only; omega))))))
  rw [keyOf_at]
  simp only [w]
  rfl
theorem kr_low (hH : ∀ i, Fine (argH m c i)) (hW : ∀ i, Fine (argW m c i)) (e : Fin 64) (he : (e : ℕ) < 32)
    (hy : (y : ℕ) = 256 + (128 + e)) :
    keyOf (argH m c) (V1 m ρ c main_v55) (ix2 r y) = -shared (argH m c) (argW m c) r ⟨32 + e, by omega⟩ := by
  have w : ∀ k, krW m ρ c (ix2 k y) = -argW m c (ix3 0 k ⟨6144 + (32 + e), by omega⟩) := fun k =>
    (v55_at m ρ c k y).trans ((dif_neg (by omega)).trans ((dif_neg (by omega)).trans ((dif_pos (by omega)).trans
      ((dif_pos (by omega)).trans (congrArg (fun x : EReal => -x) (col_congr3 (argW m c) 0 k (by dsimp only; omega)))))))
  rw [keyOf_at]
  simp only [w, mul_neg]
  exact sum_neg _ _ fun k => (hH _).mul (hW _)
end

/-! ### The slots -/

/-- The arguments' elements are finite. -/
structure Finite : Prop where
  C : ∀ i, Fine (argC m c i)
  H : ∀ i, Fine (argH m c i)
  W : ∀ i, Fine (argW m c i)
  G : ∀ i, Fine (argG m c i)
  GK : ∀ i, Fine (argGK m c i)
  U : ∀ i, Fine (argU m c i)
  X : ∀ i, Fine (argX m c i)

theorem Finite.normQ (f : Finite m c) (r : Fin 8192) (k : Fin 512) : Fine (normQ (argC m c) (argG m c) r k) :=
  ((f.C _).mul (Fine.rms _ fun _ => f.C _)).mul (f.G _)
theorem Finite.normK (f : Finite m c) (r : Fin 8192) (k : Fin 512) : Fine (normK (argC m c) (argGK m c) r k) :=
  ((f.C _).mul (Fine.rms _ fun _ => f.C _)).mul (f.GK _)
theorem Finite.query (f : Finite m c) (r : Fin 8192) (h : Fin 8) (e : Fin 192) : Fine (query (argC m c) (argG m c) (argU m c) r h e) :=
  Fine.sum _ _ fun k => (f.normQ m c r k).mul (f.U _)
theorem Finite.keyVal (f : Finite m c) (r : Fin 8192) (h : Fin 8) (e : Fin 256) : Fine (keyVal (argC m c) (argGK m c) (argX m c) r h e) :=
  Fine.sum _ _ fun k => (f.normK m c r k).mul (f.X _)
theorem Finite.shared (f : Finite m c) (r : Fin 8192) (e : Fin 64) : Fine (shared (argH m c) (argW m c) r e) :=
  Fine.sum _ _ fun k => (f.H _).mul (f.W _)

section
variable (r : Fin 8192) (y : Fin 2048) (h : Fin 8)

/-- The query slots the third region finds. -/
abbrev qArr : FVec Ideal S8192x2048 .bf16 := qSlots (argC m c) (V3 m ρ c main_v61) (V1 m ρ c main_v21) (V1 m ρ c main_v23)
  (V3 m ρ c main_v57) (V3 m ρ c main_v58)
/-- The key slots. -/
abbrev kArr : FVec Ideal S8192x2048 .bf16 := kSlots (argC m c) (V3 m ρ c main_v62) (keyOf (argH m c) (V1 m ρ c main_v55))
  (V1 m ρ c main_v21) (V1 m ρ c main_v23) (V3 m ρ c main_v59)
/-- The value slots. -/
abbrev vArr : FVec Ideal S8192x2048 .bf16 := vSlots (argC m c) (V3 m ρ c main_v62) (V3 m ρ c main_v60)

theorem q_at : qArr m ρ c (ix2 r y)
    = ((∑ k : Fin 512, latent (argC m c) (V3 m ρ c main_v61) 0 r k * (V3 m ρ c main_v57 : S512x2048.Idx → EReal) (ix2 k y))
          * (V1 m ρ c main_v21 : S4096x256.Idx → EReal) (ix2 (pos r) (lane y))
        + (∑ k : Fin 512, latent (argC m c) (V3 m ρ c main_v61) 0 r k * (V3 m ρ c main_v58 : S512x2048.Idx → EReal) (ix2 k y))
          * (V1 m ρ c main_v23 : S4096x256.Idx → EReal) (ix2 (pos r) (lane y)))
      * Ideal.ofBits .f32 0x3D93CD3A#32 := rfl
theorem k_at : kArr m ρ c (ix2 r y)
    = (∑ k : Fin 512, latent (argC m c) (V3 m ρ c main_v62) 1 r k * (V3 m ρ c main_v59 : S512x2048.Idx → EReal) (ix2 k y))
      + (keyOf (argH m c) (V1 m ρ c main_v55) (ix2 r (klane y)) * (V1 m ρ c main_v21 : S4096x256.Idx → EReal) (ix2 (pos r) (lane y))
        + keyOf (argH m c) (V1 m ρ c main_v55) (ix2 r (rlane y)) * (V1 m ρ c main_v23 : S4096x256.Idx → EReal) (ix2 (pos r) (lane y))) := rfl

theorem q_plain (d : Fin 128) (hy : (y : ℕ) = h * 256 + d) : qArr m ρ c (ix2 r y)
    = query (argC m c) (argG m c) (argU m c) r h ⟨d, by omega⟩ * Ideal.ofBits .f32 0x3D93CD3A#32 := by
  rw [q_at]
  refine congrArg (· * _) ?_
  rw [cos_plain m ρ c (pos r) (lane y) (show (y : ℕ) % 256 < 128 by omega),
    sin_plain m ρ c (pos r) (lane y) (show (y : ℕ) % 256 < 128 by omega),
    mul_one, mul_zero, add_zero]
  exact Finset.sum_congr rfl fun k _ => congr (congrArg HMul.hMul (latent_q_at m ρ c r k)) (wq_plain m ρ c k y h d hy)

theorem q_pad (hy : 192 ≤ (y : ℕ) % 256) : qArr m ρ c (ix2 r y) = 0 := by
  rw [q_at]
  rw [cos_pad m ρ c (pos r) (lane y) hy,
    sin_pad m ρ c (pos r) (lane y) hy,
    mul_zero, mul_zero, add_zero, zero_mul]

theorem q_rot (f : Finite m c) (e : Fin 64) (hy : (y : ℕ) = h * 256 + 128 + e) : qArr m ρ c (ix2 r y)
    = rot (fun e => query (argC m c) (argG m c) (argU m c) r h ⟨128 + e, by omega⟩) ((r : ℕ) % 4096) e * Ideal.ofBits .f32 0x3D93CD3A#32 := by
  rw [q_at]
  refine congrArg (· * _) ?_
  have s1 : ∑ k, latent (argC m c) (V3 m ρ c main_v61) 0 r k * (V3 m ρ c main_v57 : S512x2048.Idx → EReal) (ix2 k y)
      = query (argC m c) (argG m c) (argU m c) r h ⟨128 + e, by omega⟩ :=
    Finset.sum_congr rfl fun k _ => congr (congrArg HMul.hMul (latent_q_at m ρ c r k)) (wq_rot m ρ c k y h e hy)
  have hl : ((lane y : Fin 256) : ℕ) = 128 + e := show (y : ℕ) % 256 = 128 + e by omega
  unfold rot
  by_cases he : (e : ℕ) < 32
  · rw [dif_pos he]
    have s2 : ∑ k, latent (argC m c) (V3 m ρ c main_v61) 0 r k * (V3 m ρ c main_v58 : S512x2048.Idx → EReal) (ix2 k y)
        = -query (argC m c) (argG m c) (argU m c) r h ⟨128 + (32 + e), by omega⟩ := by
      refine Eq.trans (Finset.sum_congr rfl fun k _ => ?_) (sum_neg _ _ fun k => (f.normQ m c r k).mul (f.U _))
      exact (congr (congrArg HMul.hMul (latent_q_at m ρ c r k)) (wr_low m ρ c k y h e he hy)).trans (mul_neg _ _)
    refine (congr (congrArg HAdd.hAdd (congr (congrArg HMul.hMul s1) (cos_low m ρ c _ _ e he hl)))
      (congr (congrArg HMul.hMul s2) (sin_low m ρ c _ _ e he hl))).trans ?_
    rw [neg_mul, ← sub_eq_add_neg]
  · rw [dif_neg he]
    have s2 : ∑ k, latent (argC m c) (V3 m ρ c main_v61) 0 r k * (V3 m ρ c main_v58 : S512x2048.Idx → EReal) (ix2 k y)
        = query (argC m c) (argG m c) (argU m c) r h ⟨128 + (e - 32), by omega⟩ :=
      Finset.sum_congr rfl fun k _ => congr (congrArg HMul.hMul (latent_q_at m ρ c r k)) (wr_high m ρ c k y h e he hy)
    exact congr (congrArg HAdd.hAdd (congr (congrArg HMul.hMul s1) (cos_high m ρ c _ _ e (by omega) e.isLt hl)))
      (congr (congrArg HMul.hMul s2) (sin_high m ρ c _ _ e (by omega) e.isLt hl))

theorem k_plain (d : Fin 128) (hy : (y : ℕ) = h * 256 + d) : kArr m ρ c (ix2 r y)
    = keyVal (argC m c) (argGK m c) (argX m c) r h ⟨d, by omega⟩ := by
  rw [k_at]
  rw [kr_zero m ρ c r (klane y) (show (y : ℕ) % 256 % 256 < 128 by omega),
    kr_zero m ρ c r (rlane y) (show (256 + (y : ℕ) % 256) % 256 < 128 by omega),
    zero_mul, zero_mul, add_zero, add_zero]
  exact Finset.sum_congr rfl fun k _ => congr (congrArg HMul.hMul (latent_k_at m ρ c r k)) (wk_plain m ρ c k y h d hy)

theorem k_nope_pad (hy : 128 ≤ (y : ℕ) % 256) :
    ∑ k, latent (argC m c) (V3 m ρ c main_v62) 1 r k * (V3 m ρ c main_v59 : S512x2048.Idx → EReal) (ix2 k y) = (0 : EReal) :=
  Finset.sum_eq_zero fun k _ => (congrArg (_ * ·) (wk_pad m ρ c k y hy)).trans (mul_zero _)

theorem k_pad (hy : 192 ≤ (y : ℕ) % 256) : kArr m ρ c (ix2 r y) = 0 := by
  rw [k_at]
  rw [cos_pad m ρ c (pos r) (lane y) hy,
    sin_pad m ρ c (pos r) (lane y) hy,
    mul_zero, mul_zero, add_zero, add_zero]
  exact k_nope_pad m ρ c r y (by omega)

theorem k_rot (f : Finite m c) (e : Fin 64) (hy : (y : ℕ) = h * 256 + 128 + e) : kArr m ρ c (ix2 r y)
    = rot (shared (argH m c) (argW m c) r) ((r : ℕ) % 4096) e := by
  rw [k_at]
  refine (congrArg (· + _) (k_nope_pad m ρ c r y (by omega))).trans ((zero_add _).trans ?_)
  have hl : ((lane y : Fin 256) : ℕ) = 128 + e := show (y : ℕ) % 256 = 128 + e by omega
  have s1 := kr_rot m ρ c r (klane y) e (show (y : ℕ) % 256 = 128 + e by omega)
  have hr : ((rlane y : Fin 512) : ℕ) = 256 + (128 + e) := show 256 + (y : ℕ) % 256 = 256 + (128 + e) by omega
  unfold rot
  by_cases he : (e : ℕ) < 32
  · rw [dif_pos he]
    refine (congr (congrArg HAdd.hAdd (congr (congrArg HMul.hMul s1) (cos_low m ρ c _ _ e he hl)))
      (congr (congrArg HMul.hMul (kr_low m ρ c r (rlane y) f.H f.W e he hr)) (sin_low m ρ c _ _ e he hl))).trans ?_
    rw [neg_mul, ← sub_eq_add_neg]
  · rw [dif_neg he]
    exact congr (congrArg HAdd.hAdd (congr (congrArg HMul.hMul s1) (cos_high m ρ c _ _ e (by omega) e.isLt hl)))
      (congr (congrArg HMul.hMul (kr_high m ρ c r (rlane y) e he hr)) (sin_high m ρ c _ _ e (by omega) e.isLt hl))

theorem v_plain (d : Fin 128) (hy : (y : ℕ) = h * 256 + d) : vArr m ρ c (ix2 r y)
    = keyVal (argC m c) (argGK m c) (argX m c) r h ⟨128 + d, by omega⟩ := by
  rw [vArr, vSlots_value (argC m c) (V3 m ρ c main_v62) (V3 m ρ c main_v60) (ix2 r y) (show (y : ℕ) % 256 < 128 by omega)]
  refine Finset.sum_congr rfl fun k _ => congr (congrArg HMul.hMul (latent_k_at m ρ c r k)) ?_
  rw [V3_v60]
  refine (v45_at m ρ c k _).trans (col_congr (argX m c) k ?_)
  show ((y : ℕ) / 256 * 128 + (y : ℕ) % 256) / 128 * 256 + (128 + ((y : ℕ) / 256 * 128 + (y : ℕ) % 256) % 128) = (h : ℕ) * 256 + (128 + (d : ℕ))
  omega
theorem v_one (hy : (y : ℕ) % 256 = 128) : vArr m ρ c (ix2 r y) = (1 : EReal) :=
  (vSlots_one (argC m c) (V3 m ρ c main_v62) (V3 m ρ c main_v60) (ix2 r y) (show ¬ (y : ℕ) % 256 < 128 by omega)).trans (if_pos hy)
end

end Cert.MlaIdeal.Attn

end
-- ==== Proof.MlaScore.lean ====
/- The third region of the latent attention: per head and batch entry, the softmax of the scores of 4096 keys, its sum kept
   as a column of the value slot. The result array as a function of the three slot arrays. -/
module

public import proofs.«01_k».proof.Proof.Gen.MlaIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaIdeal.Attn

open Cert.MlaIdeal Cert.MlaIdeal.Gen

variable (V : (c : Dev nD) → (b : Ref sig .tc) → Buf (Elt Ideal) ((c : Thread nD τ).loc b))

/-- One score of the slots: a query row against a key row. -/
def score (q : Fin 256 → EReal) (k : Fin 4096 → Fin 256 → EReal) (j : Fin 4096) : EReal := ∑ d : Fin 256, q d * k j d

/-- One result of the slots: the exponentials of the scores below their maximum, against a value column, over the same
    against the column of ones. -/
def attend (q : Fin 256 → EReal) (k v : Fin 4096 → Fin 256 → EReal) (d : Fin 256) : EReal :=
  Ideal.div
    (∑ j : Fin 4096, Ideal.exp (score q k j - Finset.univ.fold max (Ideal.ofBits .f32 0xFF800000#32) (score q k)) * v j d)
    (∑ j : Fin 4096, Ideal.exp (score q k j - Finset.univ.fold max (Ideal.ofBits .f32 0xFF800000#32) (score q k)) * v j 128)

theorem score_def (q : Fin 256 → EReal) (k : Fin 4096 → Fin 256 → EReal) :
    score q k = fun j => ∑ d : Fin 256, q d * k j d := rfl

/-- A block of results, of a block of queries and a head's keys and values. -/
abbrev wide (d : Fin 128) : Fin 256 := ⟨d, by omega⟩
def oBlock (q : FVec Ideal S2048x256 .bf16) (k v : FVec Ideal S4096x256 .bf16) : FVec Ideal S2048x128 .bf16 :=
  fun y => attend (fun d => q (ix2 (y 0) d)) (fun j d => k (ix2 j d)) (fun j d => v (ix2 j d)) (wide (y 1))

theorem oBlock_apply (q : FVec Ideal S2048x256 .bf16) (k v : FVec Ideal S4096x256 .bf16) (y : S2048x128.Idx) :
    oBlock q k v y = attend (fun d => q (ix2 (y 0) d)) (fun j d => k (ix2 j d)) (fun j d => v (ix2 j d)) (wide (y 1)) := rfl

theorem out_o (x0 : FVec Ideal S2048x256 .bf16) (x1 x2 : FVec Ideal S4096x256 .bf16) :
    out2_3 (F := Ideal) x0 x1 x2 = oBlock x0 x1 x2 := by
  funext y
  canon_tiles x h
  all_goals
    open_payloads
    pointwise [oBlock_apply, attend, score_def]
    blk_point []

/-- The row of a head's keys and values a query row attends to. -/
abbrev keyRow (r : Fin 8192) (j : Fin 4096) : Fin 8192 := ⟨(r : ℕ) / 4096 * 4096 + j, by omega⟩
/-- The slot column of a head's result column. -/
abbrev slotCol (x : Fin 1024) (d : Fin 256) : Fin 2048 := ⟨(x : ℕ) / 128 * 256 + d, by omega⟩
/-- A result column inside its head. -/
abbrev headCol (x : Fin 1024) : Fin 256 := ⟨(x : ℕ) % 128, by omega⟩

/-- The results of all heads, of the slot arrays. -/
def attended (Q K W : FVec Ideal S8192x2048 .bf16) : FVec Ideal S8192x1024 .bf16 :=
  fun i => attend (fun d => Q (ix2 (i 0) (slotCol (i 1) d))) (fun j d => K (ix2 (keyRow (i 0) j) (slotCol (i 1) d)))
    (fun j d => W (ix2 (keyRow (i 0) j) (slotCol (i 1) d))) (headCol (i 1))

theorem attended_apply (Q K W : FVec Ideal S8192x2048 .bf16) (i : S8192x1024.Idx) :
    attended Q K W i = attend (fun d => Q (ix2 (i 0) (slotCol (i 1) d))) (fun j d => K (ix2 (keyRow (i 0) j) (slotCol (i 1) d)))
      (fun j d => W (ix2 (keyRow (i 0) j) (slotCol (i 1) d))) (headCol (i 1)) := rfl

/-- The block each window of the third region stands on: point `(b * 8 + h) * 2 + i`. -/
theorem idx2 : ∀ t : Fin cfg2.N,
    win2_0.index t = ![t.val / 16 * 2 + t.val % 2, t.val / 2 % 8] ∧ win2_1.index t = ![t.val / 16, t.val / 2 % 8]
    ∧ win2_2.index t = ![t.val / 16, t.val / 2 % 8] ∧ win2_3.index t = ![t.val / 16 * 2 + t.val % 2, t.val / 2 % 8] :=
  (by decide +kernel : ∀ t : Fin grid2.N, _)

theorem point3 (c : Dev nD) (t : Fin cfg2.N) (y : S2048x128.Idx) (i : S8192x1024.Idx)
    (e0 : (i 0 : ℕ) = (t.val / 16 * 2 + t.val % 2) * 2048 + (y 0 : ℕ)) (e1 : (i 1 : ℕ) = t.val / 2 % 8 * 128 + (y 1 : ℕ)) :
    oBlock (iblk2 V c 0 t) (iblk2 V c 1 t) (iblk2 V c 2 t) y
      = attended (V c main_v63_0) (V c main_v63_1) (V c main_v63_2) i := by
  rw [oBlock_apply, attended_apply]
  have ht : t.val < 32 := lt_of_lt_of_eq t.isLt (by decide)
  have h0 : (y 0 : ℕ) < 2048 := (y 0).isLt
  have h1 : (y 1 : ℕ) < 128 := (y 1).isLt
  congr 1
  · funext d; blk_point [iblk2, idx2 t]
  · funext j d; blk_point [iblk2, idx2 t]
  · funext j d; blk_point [iblk2, idx2 t]
  · exact Fin.ext (show (y 1 : ℕ) = (i 1 : ℕ) % 128 by omega)

/-- The attention's result after the third region. -/
theorem final3 (c : Dev nD) : (dat2 V c).arrAt 3 cfg2.N = attended (V c main_v63_0) (V c main_v63_1) (V c main_v63_2) := by
  refine (dat2 V c).arrAt_eq_of_covers 3 _ (by decide +kernel) fun t _ y => ?_
  blk_simp
  rw [after2_3, out_o]
  exact point3 V c t y _ (by blk_simp [idx2 t]) (by blk_simp [idx2 t])

end Cert.MlaIdeal.Attn

end
-- ==== Proof.MlaValue.lean ====
/- The latent attention's result is the reference's, for finite arguments. -/
module

public import proofs.«01_k».proof.Proof.MlaSlots
public import proofs.«01_k».proof.Proof.MlaScore
public import proofs.«01_k».proof.Pre_mla_finite_inputs
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.MlaIdeal.Attn

open Cert.MlaIdeal Cert.MlaIdeal.Gen Cert.MlaMath
open Cert.MlaRefIdeal.Attn (query keyVal shared refScore keyAt headAt)

variable (m : (ℓ : Loc nD τ sig) → Buf (Elt Ideal) ℓ) (ρ : Dev nD → PrngReg) (c : Dev nD)

/-! ### The precondition gives finite elements -/

/-- An element whose comparison with the infinite word is one is finite. -/
theorem fine_of_cmp {s : Shape} (x : FVec Ideal s .f32) (b : S_.BroadcastsInDim s (![] : Fin 0 → Fin s.rank)) (i : s.Idx)
    (h : cmpf (F := Ideal) .olt (Host.absf x) (broadcastInDim s ![] b (constant (F := Ideal) S_ .f32 0x7F800000#32)) i = 1#1) : Fine (x i) := by
  have h' : BitVec.ofBool (decide (max (x i) (-(x i)) < Ideal.ofBits .f32 0x7F800000#32)) = 1#1 := h
  rw [c_top] at h'
  exact Fine.of_abs (of_decide_eq_true ((BitVec.ofBool_eq_iff_eq (b' := true)).mp h'))

instance : Subsingleton S_.Idx := ⟨fun a b => funext fun d => d.elim0⟩

/-- All comparisons of an array with the infinite word are one where their conjunction is. -/
theorem fine_of_all {s : Shape} {ds : List (Fin s.rank)} (x : FVec Ideal s .f32) (b : S_.BroadcastsInDim s (![] : Fin 0 → Fin s.rank))
    (hr : s.ReducesTo ds S_) (h0 : 0 < S_.numel) (j : S_.Idx)
    (h : Host.reduce IntOp.andi (cmpf (F := Ideal) .olt (Host.absf x)
      (broadcastInDim s ![] b (constant (F := Ideal) S_ .f32 0x7F800000#32))) (constantI S_ 1 1#1) hr h0 j = 1#1) (i : s.Idx) : Fine (x i) :=
  fine_of_cmp x b i (Host.reduce_andi_all _ _ _ _ j h i)

/-- Arrays of which the precondition holds are finite. -/
theorem finite_of_pre [Cert.Pre_mla_finite_inputs.Facts]
    (hp : Cert.Pre_mla_finite_inputs.fn (F := Ideal) (argC m c) (argH m c) (argW m c) (argG m c) (argGK m c) (argU m c) (argX m c)
      = fun _ => 1#1) : Finite m c := by
  have h := congrFun hp (fun d : Fin 0 => d.elim0)
  dsimp only [Cert.Pre_mla_finite_inputs.fn, Cert.Pre_mla_finite_inputs.fn_part1, Cert.Pre_mla_finite_inputs.fn_part2] at h
  obtain ⟨h, hX⟩ := IntOp.andi_eq_one.1 h
  replace hX := fine_of_all (argX m c) _ _ _ _ hX
  obtain ⟨h, hU⟩ := IntOp.andi_eq_one.1 h
  replace hU := fine_of_all (argU m c) _ _ _ _ hU
  obtain ⟨h, hGK⟩ := IntOp.andi_eq_one.1 h
  replace hGK := fine_of_all (argGK m c) _ _ _ _ hGK
  obtain ⟨h, hG⟩ := IntOp.andi_eq_one.1 h
  replace hG := fine_of_all (argG m c) _ _ _ _ hG
  obtain ⟨h, hW⟩ := IntOp.andi_eq_one.1 h
  replace hW := fine_of_all (argW m c) _ _ _ _ hW
  obtain ⟨hC, hH⟩ := IntOp.andi_eq_one.1 h
  replace hC := fine_of_all (argC m c) _ _ _ _ hC
  replace hH := fine_of_all (extf .f32 (argH m c) Cert.Pre_mla_finite_inputs.Facts.bitsLt_bf16_f32) _ _ _ _ hH
  exact ⟨hC, hH, hW, hG, hGK, hU, hX⟩

/-- The softmax of finite scores against finite values, with the ones' column as the divisor. -/
theorem softmax_pair {n : ℕ} (hn : 0 < n) (s v w o : Fin n → EReal) (hs : ∀ j, Fine (s j)) (hv : ∀ j, Fine (v j))
    (hw : ∀ j, w j = v j) (ho : ∀ j, o j = 1) (b : EReal) (hb : b = ⊥) :
    Ideal.div (∑ j, Ideal.exp (s j - Finset.univ.fold max b s) * w j) (∑ j, Ideal.exp (s j - Finset.univ.fold max b s) * o j)
    = ∑ j, v j * Ideal.div (Ideal.exp (s j - max b (Finset.univ.fold max b s)))
        (∑ j, Ideal.exp (s j - max b (Finset.univ.fold max b s))) := by
  choose S hS using hs
  choose v' hv' using hv
  obtain rfl : w = v := funext hw
  obtain rfl : o = fun _ => 1 := funext ho
  obtain rfl : s = fun j => ((S j : ℝ) : EReal) := funext hS
  obtain rfl : w = fun j => ((v' j : ℝ) : EReal) := funext hv'
  subst hb
  exact softmax_eq hn S v'

end Cert.MlaIdeal.Attn

namespace Cert.MlaIdeal.Attn

open Cert.MlaIdeal Cert.MlaIdeal.Gen Cert.MlaMath
open Cert.MlaRefIdeal.Attn (query keyVal shared refScore keyAt headAt)

variable (m : (ℓ : Loc nD τ sig) → Buf (Elt Ideal) ℓ) (ρ : Dev nD → PrngReg) (c : Dev nD)

/-! ### The scores -/

section
variable (f : Finite m c) (r : Fin 8192) (x : Fin 1024)

/-- The slot columns of a head's lanes. -/
abbrev slot (h : Fin 8) (d : Fin 256) : Fin 2048 := ⟨h * 256 + d, by omega⟩

theorem score_eq (f : Finite m c) (h : Fin 8) (j : Fin 4096) :
    score (fun d => qArr m ρ c (ix2 r (slot h d))) (fun j d => kArr m ρ c (ix2 (keyRow r j) (slot h d))) j
      = refScore (argC m c) (argH m c) (argW m c) (argG m c) (argGK m c) (argU m c) (argX m c) r h j := by
  choose qa hqa using fun e => f.query m c r h e
  choose ka hka using fun e => f.keyVal m c (keyRow r j) h e
  choose qr hqr using Fine.rot (x := fun e => query (argC m c) (argG m c) (argU m c) r h ⟨128 + e, by omega⟩)
    (fun e => f.query m c r h _) ((r : ℕ) % 4096)
  choose kr hkr using Fine.rot (x := shared (argH m c) (argW m c) (keyRow r j)) (f.shared m c _) (j : ℕ)
  obtain ⟨s, hs⟩ := c_scale
  have hj : ((keyRow r j : Fin 8192) : ℕ) % 4096 = j := by show ((r : ℕ) / 4096 * 4096 + j) % 4096 = j; omega
  -- the slots as reals
  let Q : Fin 256 → ℝ := fun d => if h : (d : ℕ) < 128 then qa ⟨d, by omega⟩ * s
    else if h : (d : ℕ) < 192 then qr ⟨d - 128, by omega⟩ * s else 0
  let K : Fin 256 → ℝ := fun d => if h : (d : ℕ) < 128 then ka ⟨d, by omega⟩
    else if h : (d : ℕ) < 192 then kr ⟨d - 128, by omega⟩ else 0
  have hQ : ∀ d, qArr m ρ c (ix2 r (slot h d)) = ((Q d : ℝ) : EReal) := fun d => by
    by_cases h1 : (d : ℕ) < 128
    · rw [q_plain m ρ c r (slot h d) h ⟨d, h1⟩ rfl, hqa, hs, ← EReal.coe_mul]
      simp only [Q, dif_pos h1]
    · by_cases h2 : (d : ℕ) < 192
      · rw [q_rot m ρ c r (slot h d) h f ⟨d - 128, by omega⟩ (by dsimp only [slot]; omega), hqr, hs, ← EReal.coe_mul]
        simp only [Q, dif_neg h1, dif_pos h2]
      · rw [q_pad m ρ c r (slot h d) (by dsimp only [slot]; omega)]
        simp only [Q, dif_neg h1, dif_neg h2, EReal.coe_zero]
  have hK : ∀ d, kArr m ρ c (ix2 (keyRow r j) (slot h d)) = ((K d : ℝ) : EReal) := fun d => by
    by_cases h1 : (d : ℕ) < 128
    · rw [k_plain m ρ c (keyRow r j) (slot h d) h ⟨d, h1⟩ rfl, hka]
      simp only [K, dif_pos h1]
    · by_cases h2 : (d : ℕ) < 192
      · rw [k_rot m ρ c (keyRow r j) (slot h d) h f ⟨d - 128, by omega⟩ (by dsimp only [slot]; omega), hj, hkr]
        simp only [K, dif_neg h1, dif_pos h2]
      · rw [k_pad m ρ c (keyRow r j) (slot h d) (by dsimp only [slot]; omega)]
        simp only [K, dif_neg h1, dif_neg h2, EReal.coe_zero]
  have hl : score (fun d => qArr m ρ c (ix2 r (slot h d))) (fun j d => kArr m ρ c (ix2 (keyRow r j) (slot h d))) j
      = ((∑ d, Q d * K d : ℝ) : EReal) := by
    unfold score
    rw [coe_sum]
    exact Finset.sum_congr rfl fun d _ => (congr (congrArg HMul.hMul (hQ d)) (hK d)).trans (EReal.coe_mul _ _).symm
  have hr : refScore (argC m c) (argH m c) (argW m c) (argG m c) (argGK m c) (argU m c) (argX m c) r h j
      = (((∑ d : Fin 128, qa ⟨d, by omega⟩ * ka ⟨d, by omega⟩ + ∑ e : Fin 64, kr e * qr e) * s : ℝ) : EReal) := by
    unfold refScore
    rw [hs, EReal.coe_mul, EReal.coe_add, coe_sum, coe_sum]
    refine congrArg (· * _) (congr (congrArg HAdd.hAdd (Finset.sum_congr rfl fun d _ => ?_)) (Finset.sum_congr rfl fun e _ => ?_))
    · rw [hqa, EReal.coe_mul]; exact congrArg (_ * ·) (hka _)
    · rw [hqr, EReal.coe_mul]; exact congrArg (· * _) (hkr _)
  rw [hl, hr]
  congr 1
  rw [sum_slot (fun d => Q d * K d) (fun d => qa ⟨d, by omega⟩ * ka ⟨d, by omega⟩ * s) (fun e => kr e * qr e * s)
    (fun d => by simp only [Q, K, dif_pos d.isLt]; ring)
    (fun e => by
      have h1 : ¬ 128 + (e : ℕ) < 128 := by omega
      have h2 : 128 + (e : ℕ) < 192 := by omega
      simp only [Q, K, dif_neg h1, dif_pos h2, Nat.add_sub_cancel_left]; ring)
    (fun e => by
      have h1 : ¬ 192 + (e : ℕ) < 128 := by omega
      have h2 : ¬ 192 + (e : ℕ) < 192 := by omega
      simp only [Q, K, dif_neg h1, dif_neg h2]; ring)]
  rw [← Finset.sum_mul, ← Finset.sum_mul, add_mul]

theorem refScore_fine (f : Finite m c) (h : Fin 8) (j : Fin 4096) :
    Fine (refScore (argC m c) (argH m c) (argW m c) (argG m c) (argGK m c) (argU m c) (argX m c) r h j) :=
  ((Fine.sum _ _ fun d => (f.query m c r h _).mul (f.keyVal m c _ h _)).add
    (Fine.sum _ _ fun e => (Fine.rot (f.shared m c _) _ e).mul (Fine.rot (fun e => f.query m c r h _) _ e))).mul c_scale

/-- One result: the slots' attention is the reference's softmax against the head's values. -/
theorem attend_eq (f : Finite m c) (h : Fin 8) (d : Fin 128) :
    attend (fun d => qArr m ρ c (ix2 r (slot h d))) (fun j d => kArr m ρ c (ix2 (keyRow r j) (slot h d)))
      (fun j d => vArr m ρ c (ix2 (keyRow r j) (slot h d))) ⟨d, by omega⟩
    = ∑ j : Fin 4096, keyVal (argC m c) (argGK m c) (argX m c) (keyAt r j) h ⟨128 + d, by omega⟩ *
        Ideal.div
          (Ideal.exp (refScore (argC m c) (argH m c) (argW m c) (argG m c) (argGK m c) (argU m c) (argX m c) r h j
            - max (Ideal.ofBits .f32 0xFF800000#32) (Finset.univ.fold max (Ideal.ofBits .f32 0xFF800000#32)
              (refScore (argC m c) (argH m c) (argW m c) (argG m c) (argGK m c) (argU m c) (argX m c) r h))))
          (∑ j : Fin 4096, Ideal.exp (refScore (argC m c) (argH m c) (argW m c) (argG m c) (argGK m c) (argU m c) (argX m c) r h j
            - max (Ideal.ofBits .f32 0xFF800000#32) (Finset.univ.fold max (Ideal.ofBits .f32 0xFF800000#32)
              (refScore (argC m c) (argH m c) (argW m c) (argG m c) (argGK m c) (argU m c) (argX m c) r h)))) := by
  unfold attend
  rw [show score (fun d => qArr m ρ c (ix2 r (slot h d))) (fun j d => kArr m ρ c (ix2 (keyRow r j) (slot h d)))
      = refScore (argC m c) (argH m c) (argW m c) (argG m c) (argGK m c) (argU m c) (argX m c) r h
    from funext fun j => score_eq m ρ c r f h j]
  exact softmax_pair (n := 4096) (by norm_num) _ (fun j => keyVal (argC m c) (argGK m c) (argX m c) (keyAt r j) h ⟨128 + d, by omega⟩)
    _ _ (refScore_fine m c r f h) (fun j => f.keyVal m c _ h _) (fun j => v_plain m ρ c (keyRow r j) _ h d rfl)
    (fun j => v_one m ρ c (keyRow r j) _ (show ((h : ℕ) * 256 + 128) % 256 = 128 by omega)) _ c_bot
end

/-- The result array of the program is the reference's. -/
theorem final (f : Finite m c) : (dat2 (V4 m ρ) c).arrAt 3 cfg2.N
    = Cert.MlaRefIdeal.Read.val_main_v119 (F := Ideal) (argC m c) (argH m c) (argW m c) (argG m c) (argGK m c) (argU m c) (argX m c) := by
  rw [final3, V4_q, V4_k, V4_v]
  funext i
  rw [attended_apply, Cert.MlaRefIdeal.Attn.at119]
  exact attend_eq m ρ c (i 0) f (headAt (i 1)) ⟨(i 1 : ℕ) % 128, Nat.mod_lt _ (by decide)⟩

end Cert.MlaIdeal.Attn

end
-- ==== Proof.GateValue.lean ====
/- The gated merge of the three branch outputs: what its result arrays hold after the run, as the reference's term of
   the argument arrays. A grid point (j, i) works on 512 rows and 512 columns of the merged output, and casts 256 rows
   of each expert table on the side; the blocks of the 64 points tile the three result arrays. -/
module

public import proofs.«01_k».proof.Proof.Gen.GateIdeal.Value
public import proofs.«01_k».proof.Proof.Gen.GateRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Merge

open Cert.GateIdeal Cert.GateIdeal.Gen

variable (m : (ℓ : Loc nD τ sig) → Buf (Elt Ideal) ℓ)

/-- The block each window stands on at a grid point, in the point's number `t = j * 16 + i`. -/
theorem idx : ∀ t : Fin cfg0.N,
    win0_0.index t = ![t.val % 16, 0] ∧ win0_1.index t = ![t.val % 16, 0] ∧ win0_2.index t = ![t.val % 16, 0]
    ∧ win0_3.index t = ![t.val % 16, 0] ∧ win0_4.index t = ![0, t.val / 16] ∧ win0_5.index t = ![0, 4 + t.val / 16]
    ∧ win0_6.index t = ![0, 8 + t.val / 16] ∧ win0_7.index t = ![0, 0, t.val / 16]
    ∧ win0_8.index t = ![0, 0, 4 + t.val / 16] ∧ win0_9.index t = ![0, 0, 8 + t.val / 16]
    ∧ win0_10.index t = ![0, t.val / 16] ∧ win0_11.index t = ![0, t.val / 16] ∧ win0_12.index t = ![0, t.val / 16]
    ∧ win0_13.index t = ![0, t.val, 0] ∧ win0_14.index t = ![0, t.val, 0]
    ∧ win0_15.index t = ![t.val % 16, t.val / 16] ∧ win0_16.index t = ![t.val, 0] ∧ win0_17.index t = ![t.val, 0] :=
  (by decide +kernel : ∀ t : Fin grid0.N, _)

/-- The merged output the reference computes, of the kernel's argument arrays. -/
abbrev merged (c : Dev nD) : FVec Ideal S8192x2048 .bf16 :=
  Cert.GateRefIdeal.Read.val_main_v35 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- One expert table of the layer, cast. -/
abbrev table (T : FVec Ideal S2x16384x2048 .f32) : FVec Ideal S16384x2048 .bf16 :=
  Cert.GateRefIdeal.Read.val_main_v38 (F := Ideal) T

open Cert.GateRefIdeal.Read in
set_option maxHeartbeats 1600000 in
/-- What a grid point stores of the merged output, at a block index, is the reference's merged output at the array
    index under it. -/
theorem point15 (c : Dev nD) (t : Fin cfg0.N) (y : S512x512.Idx) :
    k0_pay1 (k0_pay4 (iblk m c 0 t) (iblk m c 4 t) (iblk m c 7 t) (iblk m c 1 t) (iblk m c 10 t) (iblk m c 5 t)
        (iblk m c 8 t) (iblk m c 2 t) (iblk m c 11 t)) (k0_pay5 (iblk m c 0 t) (iblk m c 6 t)) (k0_pay6 (iblk m c 9 t))
        (iblk m c 3 t) (iblk m c 12 t) y
      = merged m c (((cfg0.win 15).blk t).view.emb y) := by
  pointwise [k0_pay1, k0_pay4, k0_pay5, k0_pay6, merged, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0]
  simp only [Ideal.logistic]
  blk_point [iblk, V, idx t]

open Cert.GateRefIdeal.Read in
/-- What a grid point stores of the first cast table. -/
theorem point16 (c : Dev nD) (t : Fin cfg0.N) (y : S256x2048.Idx) :
    k0_pay2 (iblk m c 13 t) y
      = table (m ((c : Thread nD τ).loc main_arg9)) (((cfg0.win 16).blk t).view.emb y) := by
  pointwise [k0_pay2, table, val_main_v38, val_main_v37, val_main_v36]
  blk_point [iblk, V, idx t]

open Cert.GateRefIdeal.Read in
/-- What a grid point stores of the second cast table. -/
theorem point17 (c : Dev nD) (t : Fin cfg0.N) (y : S256x2048.Idx) :
    k0_pay3 (iblk m c 14 t) y
      = table (m ((c : Thread nD τ).loc main_arg10)) (((cfg0.win 17).blk t).view.emb y) := by
  pointwise [k0_pay3, table, val_main_v38, val_main_v37, val_main_v36]
  blk_point [iblk, V, idx t]

/-- The merged output after the run. -/
theorem final15 (c : Dev nD) : (dats m 0 c).arrAt 15 cfg0.N = merged m c := by
  refine (dats m 0 c).arrAt_eq_of_covers 15 _ (by decide +kernel) fun t _ y => ?_
  blk_simp
  rw [after0_15]; frame_out
  exact point15 m c t y

/-- The first cast table after the run. -/
theorem final16 (c : Dev nD) : (dats m 0 c).arrAt 16 cfg0.N = table (m ((c : Thread nD τ).loc main_arg9)) := by
  refine (dats m 0 c).arrAt_eq_of_covers 16 _ (by decide +kernel) fun t _ y => ?_
  blk_simp
  rw [after0_16]; frame_out
  exact point16 m c t y

/-- The second cast table after the run. -/
theorem final17 (c : Dev nD) : (dats m 0 c).arrAt 17 cfg0.N = table (m ((c : Thread nD τ).loc main_arg10)) := by
  refine (dats m 0 c).arrAt_eq_of_covers 17 _ (by decide +kernel) fun t _ y => ?_
  blk_simp
  rw [after0_17]; frame_out
  exact point17 m c t y

end Cert.GateIdeal.Merge

end
-- ==== Proof.QkvValue.lean ====
/- The projection to the neighbourhood attention's queries, keys and values: what its result arrays hold after the run, as
   the reference's terms of the argument arrays. The kernel casts a column block of the weight once, at the first row block,
   keeps it in a scratch buffer, and multiplies each row block by it; on the side it casts the gates' weight. -/
module

public import proofs.«01_k».proof.Proof.Gen.QkvIdeal.Value
public import proofs.«01_k».proof.Proof.Gen.QkvRefIdeal.Read
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.QkvIdeal.Proj

open Cert.QkvIdeal Cert.QkvIdeal.Gen

variable (m : (ℓ : Loc nD τ sig) → Buf (Elt Ideal) ℓ)

/-- The block each window stands on at a grid point, in the point's number `t = j * 8 + i` (column block `j`, row block `i`). -/
theorem idx : ∀ t : Fin cfg0.N,
    win0_0.index t = ![t.val % 8, 0] ∧ win0_1.index t = ![0, 0, t.val / 8] ∧ win0_2.index t = ![0, t.val % 8, t.val / 8]
    ∧ win0_3.index t = ![t.val % 8, t.val / 8] ∧ win0_4.index t = ![t.val % 8, t.val / 8] :=
  (by decide +kernel : ∀ t : Fin grid0.N, _)

/-- The scratch buffer holds, after every point, the weight columns cast at the first row block of the column block. -/
theorem held (c : Dev nD) (t : Fin cfg0.N) :
    (outsAt0 m c t.val t.isLt).2.2
      = k0_pay1 (X0_1 m c ⟨8 * (t.val / 8), Pipeline.run_start_lt t⟩) :=
  Pipeline.eq_of_write_hold (fun n h => (outsAt0 m c n h).2.2) 8 (fun t => k0_pay1 (X0_1 m c t))
    (fun t h => by
      show (outsAt0 m c t.val t.isLt).2.2 = _
      rw [outsAt0_A m c t h]; frame_out)
    (fun t h => by
      show (outsAt0 m c t.val t.isLt).2.2 = _
      rw [outsAt0_B m c t h]; rfl) t

/-- A point's result buffer is its rows times the weight columns cast at a point `s` of the same column block. -/
theorem left (c : Dev nD) (t : Fin cfg0.N) : ∃ s : Fin cfg0.N, s.val / 8 = t.val / 8 ∧
    (outsAt0 m c t.val t.isLt).1 = k0_pay2 (iblk m c 0 t) (k0_pay1 (X0_1 m c s)) := by
  by_cases h : t.val % 8 = 0
  · exact ⟨t, rfl, by rw [outsAt0_A m c t h]; frame_out⟩
  · refine ⟨⟨8 * ((t.val - 1) / 8), Pipeline.run_start_lt (⟨t.val - 1, by omega⟩ : Fin cfg0.N)⟩, ?_, ?_⟩
    · show 8 * ((t.val - 1) / 8) / 8 = t.val / 8
      omega
    · rw [outsAt0_B m c t h, held m c ⟨t.val - 1, by omega⟩]; frame_out
      exact congrArg _ (Memref.IsWhole.read_unread _ _)

/-- The weight block a point reads is layer 0's columns of the weight array, from its column block on. -/
theorem weight (c : Dev nD) (s : Fin cfg0.N) (hs : s.val / 8 < 3) (k : Fin 2048) (n : Fin 1024) :
    (X0_1 m c s : FVec Ideal S1x2048x1024 .f32) (ix3 0 k n)
      = m ((c : Thread nD τ).loc main_arg1) (ix3 (0 : Fin 2) k (⟨0 + s.val / 8 * 1024 + n.val, by omega⟩ : Fin 6208)) := by
  unfold X0_1 Pipeline.Window.fill
  rw [dif_pos (moved0_1 s _)]
  blk_ext [iblk, V, idx s]

/-- The projection the reference computes, of the kernel's argument arrays. -/
abbrev proj (c : Dev nD) : FVec Ideal S8192x3072 .bf16 :=
  Cert.QkvRefIdeal.Read.val_main_v5 (F := Ideal) (m ((c : Thread nD τ).loc main_arg0)) (m ((c : Thread nD τ).loc main_arg1))

open Cert.QkvRefIdeal.Read in
/-- What a grid point stores, at a block index, is the reference's projection at the array index under it. -/
theorem point (c : Dev nD) (t s : Fin cfg0.N) (hst : s.val / 8 = t.val / 8) (y : S1024x1024.Idx) :
    k0_pay2 (iblk m c 0 t) (k0_pay1 (X0_1 m c s)) y = proj m c (((cfg0.win 3).blk t).view.emb y) := by
  have hN : cfg0.N = 24 := N_0
  have ht := t.isLt
  have hs : s.val / 8 < 3 := by omega
  pointwise [k0_pay1, k0_pay2, proj, val_main_v5, val_main_v4, val_main_v3, val_main_v2, val_main_v1, val_main_v0]
  refine Finset.sum_congr rfl fun x _ => ?_
  refine congrArg₂ (fun a b : EReal => a * b) ?_ ((weight m c s hs x (y 1)).trans ?_)
  · blk_ext [iblk, V, idx t]
  · blk_ext [iblk, V, idx t, hst]

/-- The projection's array after the run. -/
theorem final (c : Dev nD) : (dats m 0 c).arrAt 3 cfg0.N = proj m c := by
  refine (dats m 0 c).arrAt_eq_of_covers 3 _ (by decide +kernel) fun t _ y => ?_
  blk_simp
  rw [after0_3]
  obtain ⟨s, hst, hs⟩ := left m c t
  rw [hs]
  exact point m c t s hst y

/-- The weight of a later product cast on the side, as the reference casts it. -/
abbrev side4 (W : FVec Ideal S2x2048x6144 .f32) : FVec Ideal S2048x6144 .bf16 := Cert.QkvRefIdeal.Read.val_main_v8 (F := Ideal) W

open Cert.QkvRefIdeal.Read in
/-- What a grid point stores of it. -/
theorem point4 (c : Dev nD) (t : Fin cfg0.N) (y : S256x2048.Idx) :
    k0_pay3 (iblk m c 2 t) y = side4 (m ((c : Thread nD τ).loc main_arg2)) (((cfg0.win 4).blk t).view.emb y) := by
  pointwise [k0_pay3, side4, val_main_v8, val_main_v7, val_main_v6]
  blk_point [iblk, V, idx t]

/-- The cast weight's array after the run. -/
theorem final4 (c : Dev nD) : (dats m 0 c).arrAt 4 cfg0.N = side4 (m ((c : Thread nD τ).loc main_arg2)) := by
  refine (dats m 0 c).arrAt_eq_of_covers 4 _ (by decide +kernel) fun t _ y => ?_
  blk_simp
  rw [after0_4]
  have e : (outsAt0 m c t.val t.isLt).2.1 = k0_pay3 (iblk m c 2 t) := by
    by_cases h : t.val % 8 = 0
    · rw [outsAt0_A m c t h]; frame_out
    · rw [outsAt0_B m c t h]; frame_out
  rw [e]
  exact point4 m c t y

end Cert.QkvIdeal.Proj

end
-- ==== Proof.ZpValue.lean ====
/- The projection to the spatial gating unit's channels: what its result arrays hold after the run, as the reference's terms
   of the argument arrays. The kernel casts a column block of the weight once, at the first row block, keeps it in a scratch
   buffer, and multiplies each row block by it; on the side it casts the three branches' output weights. -/
module

public import proofs.«01_k».proof.Proof.Gen.ZpIdeal.Value
public import proofs.«01_k».proof.Proof.Gen.ZpRefIdeal.Read
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.ZpIdeal.Proj

open Cert.ZpIdeal Cert.ZpIdeal.Gen

variable (m : (ℓ : Loc nD τ sig) → Buf (Elt Ideal) ℓ)

/-- The block each window stands on at a grid point, in the point's number `t = j * 8 + i` (column block `j`, row block `i`). -/
theorem idx : ∀ t : Fin cfg0.N,
    win0_0.index t = ![t.val % 8, 0] ∧ win0_1.index t = ![0, 0, 3 + t.val / 8] ∧ win0_2.index t = ![0, t.val % 8, t.val / 8]
    ∧ win0_3.index t = ![0, t.val % 8, t.val / 8] ∧ win0_4.index t = ![0, t.val % 8, t.val / 8] ∧ win0_5.index t = ![t.val % 8, t.val / 8]
    ∧ win0_6.index t = ![t.val % 8, t.val / 8] ∧ win0_7.index t = ![t.val % 8, t.val / 8] ∧ win0_8.index t = ![t.val % 8, t.val / 8] :=
  (by decide +kernel : ∀ t : Fin grid0.N, _)

/-- The scratch buffer holds, after every point, the weight columns cast at the first row block of the column block. -/
theorem held (c : Dev nD) (t : Fin cfg0.N) :
    (outsAt0 m c t.val t.isLt).2.2.2.2
      = k0_pay1 (X0_1 m c ⟨8 * (t.val / 8), Pipeline.run_start_lt t⟩) :=
  Pipeline.eq_of_write_hold (fun n h => (outsAt0 m c n h).2.2.2.2) 8 (fun t => k0_pay1 (X0_1 m c t))
    (fun t h => by
      show (outsAt0 m c t.val t.isLt).2.2.2.2 = _
      rw [outsAt0_A m c t h]; frame_out)
    (fun t h => by
      show (outsAt0 m c t.val t.isLt).2.2.2.2 = _
      rw [outsAt0_B m c t h]; rfl) t

/-- A point's result buffer is its rows times the weight columns cast at a point `s` of the same column block. -/
theorem left (c : Dev nD) (t : Fin cfg0.N) : ∃ s : Fin cfg0.N, s.val / 8 = t.val / 8 ∧
    (outsAt0 m c t.val t.isLt).1 = k0_pay2 (iblk m c 0 t) (k0_pay1 (X0_1 m c s)) := by
  by_cases h : t.val % 8 = 0
  · exact ⟨t, rfl, by rw [outsAt0_A m c t h]; frame_out⟩
  · refine ⟨⟨8 * ((t.val - 1) / 8), Pipeline.run_start_lt (⟨t.val - 1, by omega⟩ : Fin cfg0.N)⟩, ?_, ?_⟩
    · show 8 * ((t.val - 1) / 8) / 8 = t.val / 8
      omega
    · rw [outsAt0_B m c t h, held m c ⟨t.val - 1, by omega⟩]; frame_out
      exact congrArg _ (Memref.IsWhole.read_unread _ _)

/-- The weight block a point reads is layer 0's columns of the weight array, from its column block on. -/
theorem weight (c : Dev nD) (s : Fin cfg0.N) (hs : s.val / 8 < 2) (k : Fin 2048) (n : Fin 1024) :
    (X0_1 m c s : FVec Ideal S1x2048x1024 .f32) (ix3 0 k n)
      = m ((c : Thread nD τ).loc main_arg1) (ix3 (0 : Fin 2) k (⟨3072 + s.val / 8 * 1024 + n.val, by omega⟩ : Fin 6208)) := by
  unfold X0_1 Pipeline.Window.fill
  rw [dif_pos (moved0_1 s _)]
  blk_ext [iblk, V, idx s]

/-- The projection the reference computes, of the kernel's argument arrays. -/
abbrev proj (c : Dev nD) : FVec Ideal S8192x2048 .f32 :=
  Cert.ZpRefIdeal.Read.val_main_v4 (F := Ideal) (m ((c : Thread nD τ).loc main_arg0)) (m ((c : Thread nD τ).loc main_arg1))

open Cert.ZpRefIdeal.Read in
/-- What a grid point stores, at a block index, is the reference's projection at the array index under it. -/
theorem point (c : Dev nD) (t s : Fin cfg0.N) (hst : s.val / 8 = t.val / 8) (y : S1024x1024.Idx) :
    k0_pay2 (iblk m c 0 t) (k0_pay1 (X0_1 m c s)) y = proj m c (((cfg0.win 5).blk t).view.emb y) := by
  have hN : cfg0.N = 16 := N_0
  have ht := t.isLt
  have hs : s.val / 8 < 2 := by omega
  pointwise [k0_pay1, k0_pay2, proj, val_main_v4, val_main_v3, val_main_v2, val_main_v1, val_main_v0]
  refine Finset.sum_congr rfl fun x _ => ?_
  refine congrArg₂ (fun a b : EReal => a * b) ?_ ((weight m c s hs x (y 1)).trans ?_)
  · blk_ext [iblk, V, idx t]
  · blk_ext [iblk, V, idx t, hst]

/-- The projection's array after the run. -/
theorem final (c : Dev nD) : (dats m 0 c).arrAt 5 cfg0.N = proj m c := by
  refine (dats m 0 c).arrAt_eq_of_covers 5 _ (by decide +kernel) fun t _ y => ?_
  blk_simp
  rw [after0_5]
  obtain ⟨s, hst, hs⟩ := left m c t
  rw [hs]
  exact point m c t s hst y

/-- The weight of a later product cast on the side, as the reference casts it. -/
abbrev side6 (W : FVec Ideal S2x1024x2048 .f32) : FVec Ideal S1024x2048 .bf16 := Cert.ZpRefIdeal.Read.val_main_v7 (F := Ideal) W

open Cert.ZpRefIdeal.Read in
/-- What a grid point stores of it. -/
theorem point6 (c : Dev nD) (t : Fin cfg0.N) (y : S128x1024.Idx) :
    k0_pay3 (iblk m c 2 t) y = side6 (m ((c : Thread nD τ).loc main_arg2)) (((cfg0.win 6).blk t).view.emb y) := by
  pointwise [k0_pay3, side6, val_main_v7, val_main_v6, val_main_v5]
  blk_point [iblk, V, idx t]

/-- The cast weight's array after the run. -/
theorem final6 (c : Dev nD) : (dats m 0 c).arrAt 6 cfg0.N = side6 (m ((c : Thread nD τ).loc main_arg2)) := by
  refine (dats m 0 c).arrAt_eq_of_covers 6 _ (by decide +kernel) fun t _ y => ?_
  blk_simp
  rw [after0_6]
  have e : (outsAt0 m c t.val t.isLt).2.1 = k0_pay3 (iblk m c 2 t) := by
    by_cases h : t.val % 8 = 0
    · rw [outsAt0_A m c t h]; frame_out
    · rw [outsAt0_B m c t h]; frame_out
  rw [e]
  exact point6 m c t y

/-- The weight of a later product cast on the side, as the reference casts it. -/
abbrev side7 (W : FVec Ideal S2x1024x2048 .f32) : FVec Ideal S1024x2048 .bf16 := Cert.ZpRefIdeal.Read.val_main_v10 (F := Ideal) W

open Cert.ZpRefIdeal.Read in
/-- What a grid point stores of it. -/
theorem point7 (c : Dev nD) (t : Fin cfg0.N) (y : S128x1024.Idx) :
    k0_pay4 (iblk m c 3 t) y = side7 (m ((c : Thread nD τ).loc main_arg3)) (((cfg0.win 7).blk t).view.emb y) := by
  pointwise [k0_pay4, side7, val_main_v10, val_main_v9, val_main_v8]
  blk_point [iblk, V, idx t]

/-- The cast weight's array after the run. -/
theorem final7 (c : Dev nD) : (dats m 0 c).arrAt 7 cfg0.N = side7 (m ((c : Thread nD τ).loc main_arg3)) := by
  refine (dats m 0 c).arrAt_eq_of_covers 7 _ (by decide +kernel) fun t _ y => ?_
  blk_simp
  rw [after0_7]
  have e : (outsAt0 m c t.val t.isLt).2.2.1 = k0_pay4 (iblk m c 3 t) := by
    by_cases h : t.val % 8 = 0
    · rw [outsAt0_A m c t h]; frame_out
    · rw [outsAt0_B m c t h]; frame_out
  rw [e]
  exact point7 m c t y

/-- The weight of a later product cast on the side, as the reference casts it. -/
abbrev side8 (W : FVec Ideal S2x1024x2048 .f32) : FVec Ideal S1024x2048 .bf16 := Cert.ZpRefIdeal.Read.val_main_v13 (F := Ideal) W

open Cert.ZpRefIdeal.Read in
/-- What a grid point stores of it. -/
theorem point8 (c : Dev nD) (t : Fin cfg0.N) (y : S128x1024.Idx) :
    k0_pay5 (iblk m c 4 t) y = side8 (m ((c : Thread nD τ).loc main_arg4)) (((cfg0.win 8).blk t).view.emb y) := by
  pointwise [k0_pay5, side8, val_main_v13, val_main_v12, val_main_v11]
  blk_point [iblk, V, idx t]

/-- The cast weight's array after the run. -/
theorem final8 (c : Dev nD) : (dats m 0 c).arrAt 8 cfg0.N = side8 (m ((c : Thread nD τ).loc main_arg4)) := by
  refine (dats m 0 c).arrAt_eq_of_covers 8 _ (by decide +kernel) fun t _ y => ?_
  blk_simp
  rw [after0_8]
  have e : (outsAt0 m c t.val t.isLt).2.2.2.1 = k0_pay5 (iblk m c 4 t) := by
    by_cases h : t.val % 8 = 0
    · rw [outsAt0_A m c t h]; frame_out
    · rw [outsAt0_B m c t h]; frame_out
  rw [e]
  exact point8 m c t y

end Cert.ZpIdeal.Proj

end
-- ==== Proof.CpValue.lean ====
/- The projection to the latent attention's compressed queries and keys: what its result array holds after the run, as
   the reference's term of the argument arrays. The kernel casts the weight's columns once, at the first row block, keeps
   them in a scratch buffer, and multiplies each row block by them. -/
module

public import proofs.«01_k».proof.Proof.Gen.CpIdeal.Value
public import proofs.«01_k».proof.Proof.Gen.CpRefIdeal.Read
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.CpIdeal.Proj

open Cert.CpIdeal Cert.CpIdeal.Gen

variable (m : (ℓ : Loc nD τ sig) → Buf (Elt Ideal) ℓ)

/-- The block each window stands on at a grid point: the row block is the point's number. -/
theorem idx : ∀ t : Fin cfg0.N,
    win0_0.index t = ![t.val, 0] ∧ win0_1.index t = ![0, 0, 5] ∧ win0_2.index t = ![t.val, 0] :=
  (by decide +kernel : ∀ t : Fin grid0.N, _)

/-- The scratch buffer holds, after every point, the weight columns cast at the first one. -/
theorem held (c : Dev nD) (t : Fin cfg0.N) :
    (outsAt0 m c t.val t.isLt).2
      = k0_pay1 (X0_1 m c ⟨8 * (t.val / 8), Pipeline.run_start_lt t⟩) :=
  Pipeline.eq_of_write_hold (fun n h => (outsAt0 m c n h).2) 8 (fun t => k0_pay1 (X0_1 m c t))
    (fun t h => by
      show (outsAt0 m c t.val t.isLt).2 = _
      rw [outsAt0_A m c t h]; frame_out)
    (fun t h => by
      show (outsAt0 m c t.val t.isLt).2 = _
      rw [outsAt0_B m c t h]; rfl) t

/-- The projection the reference computes, of the kernel's argument arrays. -/
abbrev proj (c : Dev nD) : FVec Ideal S8192x1024 .f32 :=
  Cert.CpRefIdeal.Read.val_main_v4 (F := Ideal) (m ((c : Thread nD τ).loc main_arg0)) (m ((c : Thread nD τ).loc main_arg1))

/-- A point's result buffer is its rows times the weight columns cast at a point `s`, whichever. -/
theorem left (c : Dev nD) (t : Fin cfg0.N) : ∃ s : Fin cfg0.N,
    (outsAt0 m c t.val t.isLt).1 = k0_pay2 (iblk m c 0 t) (k0_pay1 (X0_1 m c s)) := by
  by_cases h : t.val % 8 = 0
  · exact ⟨t, by rw [outsAt0_A m c t h]; frame_out⟩
  · refine ⟨⟨8 * ((t.val - 1) / 8), Pipeline.run_start_lt (⟨t.val - 1, by omega⟩ : Fin cfg0.N)⟩, ?_⟩
    rw [outsAt0_B m c t h, held m c ⟨t.val - 1, by omega⟩]; frame_out
    exact congrArg _ (Memref.IsWhole.read_unread _ _)

/-- The weight block a point reads is layer 0's columns of the weight array from column 5120 on. -/
theorem weight (c : Dev nD) (s : Fin cfg0.N) (k : Fin 2048) (n : Fin 1024) :
    (X0_1 m c s : FVec Ideal S1x2048x1024 .f32) (ix3 0 k n)
      = m ((c : Thread nD τ).loc main_arg1) (ix3 (0 : Fin 2) k (⟨5120 + n.val, by omega⟩ : Fin 6208)) := by
  unfold X0_1 Pipeline.Window.fill
  rw [dif_pos (moved0_1 s _)]
  blk_ext [iblk, V, idx s]

open Cert.CpRefIdeal.Read in
/-- What a grid point stores, at a block index, is the reference's projection at the array index under it. -/
theorem point (c : Dev nD) (t s : Fin cfg0.N) (y : S1024x1024.Idx) :
    k0_pay2 (iblk m c 0 t) (k0_pay1 (X0_1 m c s)) y = proj m c (((cfg0.win 2).blk t).view.emb y) := by
  pointwise [k0_pay1, k0_pay2, proj, val_main_v4, val_main_v3, val_main_v2, val_main_v1, val_main_v0]
  refine Finset.sum_congr rfl fun x _ => ?_
  refine congrArg₂ (fun a b : EReal => a * b) ?_ ((weight m c s x (y 1)).trans ?_)
  · blk_ext [iblk, V, idx t]
  · blk_ext [iblk, V, idx t]

/-- The result array after the run. -/
theorem final (c : Dev nD) : (dats m 0 c).arrAt 2 cfg0.N = proj m c := by
  refine (dats m 0 c).arrAt_eq_of_covers 2 _ (by decide +kernel) fun t _ y => ?_
  blk_simp
  rw [after0_2]
  obtain ⟨s, hs⟩ := left m c t
  rw [hs]
  exact point m c t s y

end Cert.CpIdeal.Proj

end
-- ==== Proof.OutPValue.lean ====
/- The output projection, the residual and the second norm: what the two result arrays hold after the run, as the
   reference's terms of the argument arrays. The kernel casts the weight once, at the first row block, keeps it in a scratch
   buffer, and each row block gets its product, its residual and its norm. -/
module

public import proofs.«01_k».proof.Proof.Gen.OutPIdeal.Value
public import proofs.«01_k».proof.Proof.Gen.OutPRefIdeal.Read
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.OutPIdeal.Proj

open Cert.OutPIdeal Cert.OutPIdeal.Gen

variable (m : (ℓ : Loc nD τ sig) → Buf (Elt Ideal) ℓ)

/-- The block each window stands on at a grid point: the row block is the point's number. -/
theorem idx : ∀ t : Fin cfg0.N,
    win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The scratch buffer holds, after every point, the weight cast at the first one. -/
theorem held (c : Dev nD) (t : Fin cfg0.N) :
    (outsAt0 m c t.val t.isLt).2.2
      = k0_pay1 (iblk m c 1 ⟨32 * (t.val / 32), Pipeline.run_start_lt t⟩) :=
  Pipeline.eq_of_write_hold (fun n h => (outsAt0 m c n h).2.2) 32 (fun t => k0_pay1 (iblk m c 1 t))
    (fun t h => by
      show (outsAt0 m c t.val t.isLt).2.2 = _
      rw [outsAt0_A m c t h]; frame_out)
    (fun t h => by
      show (outsAt0 m c t.val t.isLt).2.2 = _
      rw [outsAt0_B m c t h]; rfl) t

/-- A point's two result buffers are the body's terms with the weight cast at a point `s`, whichever. -/
theorem left (c : Dev nD) (t : Fin cfg0.N) : ∃ s : Fin cfg0.N,
    (outsAt0 m c t.val t.isLt).1 = k0_pay2 (iblk m c 2 t) (iblk m c 0 t) (k0_pay1 (iblk m c 1 s))
    ∧ (outsAt0 m c t.val t.isLt).2.1 = k0_pay3 (iblk m c 2 t) (iblk m c 0 t) (k0_pay1 (iblk m c 1 s)) (iblk m c 3 t) := by
  by_cases h : t.val % 32 = 0
  · exact ⟨t, by rw [outsAt0_A m c t h]; frame_out, by rw [outsAt0_A m c t h]; frame_out⟩
  · refine ⟨⟨32 * ((t.val - 1) / 32), Pipeline.run_start_lt (⟨t.val - 1, by omega⟩ : Fin cfg0.N)⟩, ?_, ?_⟩
    · rw [outsAt0_B m c t h, held m c ⟨t.val - 1, by omega⟩]; frame_out
      exact congrArg _ (Memref.IsWhole.read_unread _ _)
    · rw [outsAt0_B m c t h, held m c ⟨t.val - 1, by omega⟩]; frame_out
      exact congrArg (fun w => k0_pay3 _ _ w _) (Memref.IsWhole.read_unread _ _)

/-- The residual stream the reference computes, of the kernel's argument arrays. -/
abbrev stream (c : Dev nD) : FVec Ideal S8192x2048 .f32 :=
  Cert.OutPRefIdeal.Read.val_main_v4 (F := Ideal) (m ((c : Thread nD τ).loc main_arg0)) (m ((c : Thread nD τ).loc main_arg1))
    (m ((c : Thread nD τ).loc main_arg2))

/-- The normed stream the reference computes. -/
abbrev normed (c : Dev nD) : FVec Ideal S8192x2048 .bf16 :=
  Cert.OutPRefIdeal.Read.val_main_v20 (F := Ideal) (m ((c : Thread nD τ).loc main_arg0)) (m ((c : Thread nD τ).loc main_arg1))
    (m ((c : Thread nD τ).loc main_arg2)) (m ((c : Thread nD τ).loc main_arg3))

open Cert.OutPRefIdeal.Read in
/-- What a grid point stores of the stream, at a block index. -/
theorem point4 (c : Dev nD) (t s : Fin cfg0.N) (y : S256x2048.Idx) :
    k0_pay2 (iblk m c 2 t) (iblk m c 0 t) (k0_pay1 (iblk m c 1 s)) y = stream m c (((cfg0.win 4).blk t).view.emb y) := by
  pointwise [k0_pay1, k0_pay2, stream, val_main_v4, val_main_v3, val_main_v2, val_main_v1, val_main_v0]
  blk_point [iblk, V, idx t, idx s]

open Cert.OutPRefIdeal.Read in
/-- What a grid point stores of the normed stream, at a block index. -/
theorem point5 (c : Dev nD) (t s : Fin cfg0.N) (y : S256x2048.Idx) :
    k0_pay3 (iblk m c 2 t) (iblk m c 0 t) (k0_pay1 (iblk m c 1 s)) (iblk m c 3 t) y
      = normed m c (((cfg0.win 5).blk t).view.emb y) := by
  pointwise [k0_pay1, k0_pay2, k0_pay3, normed, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t, idx s]

/-- The stream's array after the run. -/
theorem final4 (c : Dev nD) : (dats m 0 c).arrAt 4 cfg0.N = stream m c := by
  refine (dats m 0 c).arrAt_eq_of_covers 4 _ (by decide +kernel) fun t _ y => ?_
  blk_simp
  rw [after0_4]
  obtain ⟨s, hs, -⟩ := left m c t
  rw [hs]
  exact point4 m c t s y

/-- The normed stream's array after the run. -/
theorem final5 (c : Dev nD) : (dats m 0 c).arrAt 5 cfg0.N = normed m c := by
  refine (dats m 0 c).arrAt_eq_of_covers 5 _ (by decide +kernel) fun t _ y => ?_
  blk_simp
  rw [after0_5]
  obtain ⟨s, -, hs⟩ := left m c t
  rw [hs]
  exact point5 m c t s y

end Cert.OutPIdeal.Proj

end
-- ==== Proof.SguMath.lean ====
/- The spatial gating unit's two sides at one element: the kernel's stages over a grid point's blocks, and the reference's
   stages over the argument arrays, both in the same gelu and the same norm of a row. -/
module

public import proofs.«01_k».proof.Proof.Gen.SguIdeal.Value
public import proofs.«01_k».proof.Proof.Gen.SguRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SguIdeal.Proj

open Cert.SguIdeal Cert.SguIdeal.Gen

/-- The gelu's tanh form, in the kernel's order of products. -/
def geluAt (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- A row's mean. -/
def mean (f : Fin 1024 → EReal) : EReal := Ideal.div (∑ k : Fin 1024, f k) (Ideal.ofBits .f32 0x44800000#32)

/-- The layer norm of a row, at a column, with its gain and its shift. -/
def normRow (f : Fin 1024 → EReal) (g s : EReal) (j : Fin 1024) : EReal :=
  (f j - mean f) * Ideal.rsqrt (Ideal.div (∑ k : Fin 1024, (f k - mean f) * (f k - mean f)) (Ideal.ofBits .f32 0x44800000#32)
    + Ideal.ofBits .f32 0x358637BD#32) * g + s

/-- The first half: the gelu of each element. -/
theorem pay3_apply (u : FVec Ideal S512x1024 .f32) (y : S512x1024.Idx) : k0_pay3 (F := Ideal) u y = geluAt (u y) := by
  pointwise [k0_pay3, geluAt]

/-- The second half: the gelu less the row's mean. -/
theorem pay4_apply (v : FVec Ideal S512x1024 .f32) (y : S512x1024.Idx) :
    k0_pay4 (F := Ideal) v y = geluAt (v y) - mean fun k => geluAt (v (ix2 (y 0) k)) := by
  pointwise [k0_pay4, geluAt, mean]

/-- The reciprocal root of a centred row's mean square plus the guard. -/
theorem pay5_apply (v : FVec Ideal S512x1024 .f32) (y : S512x1.Idx) :
    k0_pay5 (F := Ideal) v y = Ideal.rsqrt (Ideal.div (∑ k : Fin 1024, k0_pay4 (F := Ideal) v (ix2 (y 0) k) * k0_pay4 (F := Ideal) v (ix2 (y 0) k))
      (Ideal.ofBits .f32 0x44800000#32) + Ideal.ofBits .f32 0x358637BD#32) := by
  unfold k0_pay5
  generalize k0_pay4 (F := Ideal) v = w
  pointwise []

/-- The centred element scaled, with gain and shift. -/
theorem pay6_apply (n : FVec Ideal S512x1024 .f32) (r : FVec Ideal S512x1 .f32) (g s : FVec Ideal S1x1024 .f32)
    (y : S512x1024.Idx) :
    k0_pay6 (F := Ideal) n r g s y = n y * r (ix2 (y 0) 0) * g (ix2 0 (y 1)) + s (ix2 0 (y 1)) := by
  pointwise [k0_pay6]

/-- The flat row of a batch entry's row. -/
abbrev flat (b : Fin 2) (p : Fin 4096) : Fin 8192 := ⟨(b : ℕ) * 4096 + (p : ℕ), by have := b.isLt; have := p.isLt; omega⟩

/-- A column of the second half. -/
abbrev second (j : Fin 1024) : Fin 2048 := ⟨1024 + (j : ℕ), by have := j.isLt; omega⟩

/-- A column of the first half. -/
abbrev first (j : Fin 1024) : Fin 2048 := ⟨(j : ℕ), by have := j.isLt; omega⟩

section Reference
open Cert.SguRefIdeal.Read

variable (z : FVec Ideal S8192x2048 .f32) (g s : FVec Ideal S2x1024 .f32)

/-- The reference's gelu of the flat array in batch entries. -/
theorem ref_gelu (b : Fin 2) (p : Fin 4096) (j : Fin 2048) :
    val_main_v13 (F := Ideal) z (ix3 b p j) = geluAt (z (ix2 (flat b p) j)) := by
  have h : val_main_v0 (F := Ideal) z (ix3 b p j) = z (ix2 (flat b p) j) := by
    rw [val_main_v0_apply]; exact congrArg z (by blk_ext [])
  rw [val_main_v13_apply, val_main_v12_apply, val_main_v10_apply, val_main_v8_apply, val_main_v7_apply, val_main_v5_apply,
    val_main_v4_apply, val_main_v2_apply, val_main_v1_apply, h]
  generalize z (ix2 (flat b p) j) = a
  pointwise [val_main_v3, val_main_v6, val_main_v9, val_main_v11, val_main_cst, val_main_cst_0, val_main_cst_1, val_main_cst_2, geluAt]
  rw [mul_comm (a * a) a]

/-- The reference's first half. -/
theorem ref_first (b : Fin 2) (p : Fin 4096) (j : Fin 1024) :
    val_main_v14 (F := Ideal) z (ix3 b p j) = geluAt (z (ix2 (flat b p) (first j))) := by
  rw [val_main_v14_apply, show idx_main_v14 (ix3 b p j) = ix3 b p (first j) by blk_ext []]
  exact ref_gelu z b p _

/-- The reference's second half. -/
theorem ref_second (b : Fin 2) (p : Fin 4096) (j : Fin 1024) :
    val_main_v15 (F := Ideal) z (ix3 b p j) = geluAt (z (ix2 (flat b p) (second j))) := by
  rw [val_main_v15_apply, show idx_main_v15 (ix3 b p j) = ix3 b p (second j) by blk_ext []]
  exact ref_gelu z b p _

/-- The reference's layer norm of the second half. -/
theorem ref_norm (b : Fin 2) (p : Fin 4096) (j : Fin 1024) :
    val_main_v43 (F := Ideal) z g s (ix3 b p j)
      = normRow (fun k => geluAt (z (ix2 (flat b p) (second k)))) (g (ix2 0 j)) (s (ix2 0 j)) j := by
  have h : ∀ k : Fin 1024, val_main_v15 (F := Ideal) z (ix3 b p k) = geluAt (z (ix2 (flat b p) (second k))) := ref_second z b p
  generalize hf : (fun k => geluAt (z (ix2 (flat b p) (second k)))) = f
  replace h : ∀ k : Fin 1024, val_main_v15 (F := Ideal) z (ix3 b p k) = f k := fun k => (h k).trans (congrFun hf k)
  clear hf
  unfold val_main_v43 val_main_v40 val_main_v37 val_main_v36 val_main_v35 val_main_v34 val_main_v32 val_main_v31 val_main_v30 val_main_v28 val_main_v27 val_main_v26 val_main_v25 val_main_v24 val_main_v23 val_main_v21 val_main_v20
  generalize val_main_v15 (F := Ideal) z = a at h ⊢
  pointwise [val_main_v42, val_main_v41, val_main_v39, val_main_v38, val_main_v33, val_main_v29, val_main_v22, val_main_v19, val_main_v18, val_main_v17, val_main_v16, val_main_cst_3, val_main_cst_4, val_main_cst_5, val_main_cst_6, val_main_cst_7, normRow, mean]
  simp only [h]

/-- The reference's normed second half in groups and heads. -/
theorem ref_grouped (b : Fin 2) (n : Fin 32) (q : Fin 128) (h : Fin 8) (l : Fin 128) :
    val_main_v44 (F := Ideal) z g s (ix5 b n q h l)
      = val_main_v43 (F := Ideal) z g s (ix3 b ⟨(n : ℕ) * 128 + (q : ℕ), by omega⟩ ⟨(h : ℕ) * 128 + (l : ℕ), by omega⟩) := by
  rw [val_main_v44_apply]
  exact congrArg _ (by blk_ext [])

variable (w : FVec Ideal S2x8x128x128 .f32) (bs : FVec Ideal S2x8x128 .f32)

/-- The reference's mixed rows, bias added. -/
theorem ref_mixed (b : Fin 2) (n : Fin 32) (q : Fin 128) (h : Fin 8) (l : Fin 128) :
    val_main_v54 (F := Ideal) z g s w bs (ix5 b n q h l)
      = (∑ k : Fin 128, w (ix4 0 h q k) * val_main_v44 (F := Ideal) z g s (ix5 b n k h l)) + bs (ix3 0 h q) := by
  unfold val_main_v54 val_main_v48 val_main_v47
  generalize val_main_v44 (F := Ideal) z g s = a
  pointwise [val_main_v53, val_main_v52, val_main_v51, val_main_v50, val_main_v49, val_main_v46, val_main_v45]
  exact congrArg (· + _) (Finset.sum_congr rfl fun k _ => mul_comm _ _)

/-- The group-mate of a flat row at a given place. -/
abbrev mate (r : Fin 8192) (k : Fin 128) : Fin 8192 := ⟨(r : ℕ) / 128 * 128 + (k : ℕ), by have := r.isLt; have := k.isLt; omega⟩

/-- A flat row's place within its group. -/
abbrev placeOf (r : Fin 8192) : Fin 128 := ⟨(r : ℕ) % 128, Nat.mod_lt _ (by decide)⟩

/-- The head a column belongs to. -/
abbrev head (y : Fin 1024) : Fin 8 := ⟨(y : ℕ) / 128, by have := y.isLt; omega⟩

/-- The reference's result, at a flat row and a column. -/
theorem ref_apply (r : Fin 8192) (j : Fin 1024) :
    val_main_v58 (F := Ideal) z g s w bs (ix2 r j)
      = geluAt (z (ix2 r (first j))) * ((∑ k : Fin 128, w (ix4 0 (head j) (placeOf r) k)
          * normRow (fun i => geluAt (z (ix2 (mate r k) (second i)))) (g (ix2 0 j)) (s (ix2 0 j)) j)
        + bs (ix3 0 (head j) (placeOf r))) := by
  have hr := r.isLt
  have hj := j.isLt
  rw [val_main_v58_apply, val_main_v57_apply,
    show idx_main_v57 (ix2 r j) = ix3 (⟨(r : ℕ) / 4096, by omega⟩ : Fin 2) (⟨(r : ℕ) % 4096, by omega⟩ : Fin 4096) j by blk_ext [],
    val_main_v56_apply, val_main_v55_apply,
    show idx_main_v55 (ix3 (⟨(r : ℕ) / 4096, by omega⟩ : Fin 2) (⟨(r : ℕ) % 4096, by omega⟩ : Fin 4096) j)
      = ix5 (⟨(r : ℕ) / 4096, by omega⟩ : Fin 2) (⟨(r : ℕ) % 4096 / 128, by omega⟩ : Fin 32) (placeOf r) (head j)
        (⟨(j : ℕ) % 128, by omega⟩ : Fin 128) by blk_ext [],
    ref_first, ref_mixed]
  refine congrArg₂ (· * ·) (congrArg geluAt (congrArg z (by blk_ext [])))
    (congrArg (· + _) (Finset.sum_congr rfl fun k _ => congrArg (_ * ·) ?_))
  have hk := k.isLt
  rw [ref_grouped]
  refine Eq.trans (congrArg _ (?_ : _ = ix3 (⟨(r : ℕ) / 4096, by omega⟩ : Fin 2) (⟨(r : ℕ) % 4096 / 128 * 128 + (k : ℕ), by omega⟩ : Fin 4096) j)) ?_
  · blk_ext []
  rw [ref_norm]
  exact congrArg (fun f => normRow f _ _ _) (funext fun i => congrArg geluAt (congrArg z (by blk_ext [])))

end Reference

variable (m : (ℓ : Loc nD τ sig) → Buf (Elt Ideal) ℓ)

/-- The block each window stands on at a grid point. -/
theorem idx : ∀ t : Fin cfg0.N,
    win0_0.index t = ![t.val, 0] ∧ win0_1.index t = ![t.val, 1] ∧ win0_2.index t = ![0, 0] ∧ win0_3.index t = ![0, 0]
    ∧ win0_4.index t = ![0, 0, 0] ∧ win0_5.index t = ![0, 0, 0] ∧ win0_6.index t = ![t.val, 0] :=
  (by decide +kernel : ∀ t : Fin grid0.N, _)

/-- The flat row a grid point's row stands for. -/
abbrev rowOf (t : Fin cfg0.N) (y : Fin 512) : Fin 8192 :=
  ⟨(t : ℕ) * 512 + (y : ℕ), by have h : (t : ℕ) < 16 := t.isLt; have := y.isLt; omega⟩

/-- Where a block index stands in the result. -/
theorem emb_eq (t : Fin cfg0.N) (y : S512x1024.Idx) :
    (((cfg0.win 6).blk t).view.emb y : S8192x1024.Idx) = ix2 (rowOf t (y 0)) (y 1) := by
  blk_ext [idx t]

/-- A grid point's block of the first half. -/
theorem blk_u (c : Dev nD) (t : Fin cfg0.N) (r : Fin 512) (j : Fin 1024) :
    iblk m c 0 t (ix2 r j : S512x1024.Idx) = m ((c : Thread nD τ).loc main_arg0) (ix2 (rowOf t r) (first j) : S8192x2048.Idx) := by
  blk_point [iblk, V, idx t]

/-- A grid point's block of the second half. -/
theorem blk_v (c : Dev nD) (t : Fin cfg0.N) (r : Fin 512) (j : Fin 1024) :
    iblk m c 1 t (ix2 r j : S512x1024.Idx) = m ((c : Thread nD τ).loc main_arg0) (ix2 (rowOf t r) (second j) : S8192x2048.Idx) := by
  blk_point [iblk, V, idx t]

/-- The gains a grid point reads. -/
theorem blk_g (c : Dev nD) (t : Fin cfg0.N) (j : Fin 1024) :
    iblk m c 2 t (ix2 0 j : S1x1024.Idx) = m ((c : Thread nD τ).loc main_arg1) (ix2 0 j : S2x1024.Idx) := by
  blk_point [iblk, V, idx t]

/-- The shifts a grid point reads. -/
theorem blk_s (c : Dev nD) (t : Fin cfg0.N) (j : Fin 1024) :
    iblk m c 3 t (ix2 0 j : S1x1024.Idx) = m ((c : Thread nD τ).loc main_arg2) (ix2 0 j : S2x1024.Idx) := by
  blk_point [iblk, V, idx t]

/-- The mixing matrices a grid point reads. -/
theorem blk_w (c : Dev nD) (t : Fin cfg0.N) (h : Fin 8) (p k : Fin 128) :
    iblk m c 4 t (ix3 h p k : S8x128x128.Idx) = m ((c : Thread nD τ).loc main_arg3) (ix4 0 h p k : S2x8x128x128.Idx) := by
  blk_point [iblk, V, idx t]

/-- The biases a grid point reads, the same at every column of a head. -/
theorem blk_b (c : Dev nD) (t : Fin cfg0.N) (h : Fin 8) (p k : Fin 128) :
    iblk m c 5 t (ix3 h p k : S8x128x128.Idx) = m ((c : Thread nD τ).loc main_arg4) (ix3 0 h p : S2x8x128.Idx) := by
  blk_point [iblk, V, idx t]

end Cert.SguIdeal.Proj

end
-- ==== Proof.SguPieces.lean ====
/- The spatial gating unit's block: the 32 pieces of 128 rows and 128 columns a grid point stores are one function of the
   block's gelu, normed rows, mixing matrices and biases. -/
module

public import proofs.«01_k».proof.Proof.SguMath

@[expose] public section

set_option maxRecDepth 16384

noncomputable section

open Idealize.ShloMosaic Idealize.ShloMosaic.TcCoe Idealize.SL.Sem

namespace Cert.SguIdeal.Proj

open Cert.SguIdeal Cert.SguIdeal.Gen

/-- A column's place within its head. -/
abbrev lane (y : Fin 1024) : Fin 128 := ⟨(y : ℕ) % 128, Nat.mod_lt _ (by decide)⟩

/-- A row's place within its group. -/
abbrev place (y : Fin 512) : Fin 128 := ⟨(y : ℕ) % 128, Nat.mod_lt _ (by decide)⟩

/-- The row of a row's group that stands at a given place. -/
abbrev rowAt (y : Fin 512) (k : Fin 128) : Fin 512 := ⟨(y : ℕ) / 128 * 128 + (k : ℕ), by have := y.isLt; have := k.isLt; omega⟩

/-- A block of the result, of the first half's gelu and the second half's normed rows: the rows of a group are mixed by the
    head's matrix, the bias is added, and the first half is multiplied by the sum. -/
def gated (u : FVec Ideal S512x1024 .f32) (v : FVec Ideal S512x1024 .bf16) (w : FVec Ideal S8x128x128 .bf16)
    (b : FVec Ideal S8x128x128 .f32) : FVec Ideal S512x1024 .bf16 :=
  fun y => u y * ((∑ k : Fin 128, w (ix3 (head (y 1)) (place (y 0)) k) * v (ix2 (rowAt (y 0) k) (y 1)))
    + b (ix3 (head (y 1)) (place (y 0)) (lane (y 1))))

set_option maxHeartbeats 4000000 in
/-- The stored pieces together are the gated block: each piece is the block at the piece's rows and columns. -/
theorem pieces_gated (u : FVec Ideal S512x1024 .f32) (n : FVec Ideal S512x1024 .f32) (r : FVec Ideal S512x1 .f32)
    (g s : FVec Ideal S1x1024 .f32) (v : FVec Ideal S512x1024 .bf16) (hv : k0_pay6 (F := Ideal) n r g s = v)
    (w : FVec Ideal S8x128x128 .bf16) (b : FVec Ideal S8x128x128 .f32) (y : S512x1024.Idx) :
    (View.canon [⟨r0_41, k0_pay2 u v (View.ld w r0_16) (View.ld b r0_16)⟩,
      ⟨r0_40, k0_pay1 (k0_pay43 v (View.ld w r0_14) (View.ld b r0_14)) (k0_pay44 u)⟩,
      ⟨r0_39, k0_pay42 u v (View.ld w r0_12) (View.ld b r0_12)⟩,
      ⟨r0_38, k0_pay41 u v (View.ld w r0_10) (View.ld b r0_10)⟩,
      ⟨r0_37, k0_pay40 u v (View.ld w r0_8) (View.ld b r0_8)⟩,
      ⟨r0_36, k0_pay39 u v (View.ld w r0_6) (View.ld b r0_6)⟩,
      ⟨r0_35, k0_pay38 u v (View.ld w r0_4) (View.ld b r0_4)⟩,
      ⟨r0_34, k0_pay37 u v (View.ld w r0_2) (View.ld b r0_2)⟩,
      ⟨r0_33, k0_pay36 u v (View.ld w r0_16) (View.ld b r0_16)⟩,
      ⟨r0_32, k0_pay35 u v (View.ld w r0_14) (View.ld b r0_14)⟩,
      ⟨r0_31, k0_pay34 u v (View.ld w r0_12) (View.ld b r0_12)⟩,
      ⟨r0_30, k0_pay33 u v (View.ld w r0_10) (View.ld b r0_10)⟩,
      ⟨r0_29, k0_pay32 u (k0_pay30 (View.ld w r0_8)) (k0_pay31 v) (View.ld b r0_8)⟩,
      ⟨r0_28, k0_pay29 u v (View.ld w r0_6) (View.ld b r0_6)⟩,
      ⟨r0_27, k0_pay28 u v (View.ld w r0_4) (View.ld b r0_4)⟩,
      ⟨r0_26, k0_pay27 u (k0_pay26 v (View.ld w r0_2)) (View.ld b r0_2)⟩,
      ⟨r0_25, k0_pay25 u v (View.ld w r0_16) (View.ld b r0_16)⟩,
      ⟨r0_24, k0_pay24 u v (View.ld w r0_14) (View.ld b r0_14)⟩,
      ⟨r0_23, k0_pay23 u (k0_pay22 v (View.ld w r0_12)) (View.ld b r0_12)⟩,
      ⟨r0_22, k0_pay21 u v (View.ld w r0_10) (View.ld b r0_10)⟩,
      ⟨r0_21, k0_pay20 u v (View.ld w r0_8) (View.ld b r0_8)⟩,
      ⟨r0_20, k0_pay19 (k0_pay17 v (View.ld w r0_6) (View.ld b r0_6)) (k0_pay18 u)⟩,
      ⟨r0_19, k0_pay16 u v (View.ld w r0_4) (View.ld b r0_4)⟩,
      ⟨r0_18, k0_pay15 u v (View.ld w r0_2) (View.ld b r0_2)⟩,
      ⟨r0_17, k0_pay14 u v (View.ld w r0_16) (View.ld b r0_16)⟩,
      ⟨r0_15, k0_pay13 u v (View.ld w r0_14) (View.ld b r0_14)⟩,
      ⟨r0_13, k0_pay12 u v (View.ld w r0_12) (View.ld b r0_12)⟩,
      ⟨r0_11, k0_pay11 u v (View.ld w r0_10) (View.ld b r0_10)⟩,
      ⟨r0_9, k0_pay10 u v (View.ld w r0_8) (View.ld b r0_8)⟩,
      ⟨r0_7, k0_pay9 u v (View.ld w r0_6) (View.ld b r0_6)⟩,
      ⟨r0_5, k0_pay8 u n r g s (View.ld w r0_4) (View.ld b r0_4)⟩,
      ⟨r0_3, k0_pay7 u n r g s (View.ld w r0_2) (View.ld b r0_2)⟩] : Vec Ideal S512x1024 .bf16) y = gated u v w b y := by
  refine View.canon_apply_of_pieces (Val := Elt Ideal) (gated u v w b) _ ?_ y (cover0_6 (F := Ideal) _ _ _ _ _ _ _ _ _ _ _ _ _ _ _ _ _ _ _ _ _ _ _ _ _ _ _ _ _ _ _ _ y)
  unfold k0_pay7 k0_pay8
  rw [hv]
  iterate 32 (refine List.forall_mem_cons.mpr ⟨?_, ?_⟩; rotate_left)
  · exact fun _ h => absurd h List.not_mem_nil
  all_goals
    intro x
    change _ = gated u v w b (LoadRect.idx _ x)
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, gated]
    refine congrArg₂ (· * ·) rfl (congrArg₂ (· + ·) (Finset.sum_congr rfl fun k _ =>
      congrArg₂ (· * ·) (congrArg w ?_) (congrArg v ?_)) (congrArg b ?_)) <;> blk_ext []

end Cert.SguIdeal.Proj

end
-- ==== Proof.SguValue.lean ====
/- The spatial gating unit: what its result array holds after the run, as the reference's term of the argument arrays. Each
   grid point takes 512 rows, that is four groups of 128, applies the gelu to both halves, norms the second half's rows,
   mixes the rows of every group by a matrix per head of 128 columns, and gates the first half by the mixed rows. -/
module

public import proofs.«01_k».proof.Proof.SguPieces

@[expose] public section

set_option maxRecDepth 16384

noncomputable section

open Idealize.ShloMosaic Idealize.ShloMosaic.TcCoe Idealize.SL.Sem
open Idealize.ShloMosaic.Pipeline (Dat)

namespace Cert.SguIdeal.Proj

open Cert.SguIdeal Cert.SguIdeal.Gen

variable (m : (ℓ : Loc nD τ sig) → Buf (Elt Ideal) ℓ)

/-- The gated rows the reference computes, of the kernel's argument arrays. -/
abbrev gatedRef (c : Dev nD) : FVec Ideal S8192x1024 .bf16 :=
  Cert.SguRefIdeal.Read.val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's normed second half of a block, at an element. -/
theorem normed_apply (x : FVec Ideal S512x1024 .f32) (g s : FVec Ideal S1x1024 .f32) (y : S512x1024.Idx) :
    k0_pay6 (F := Ideal) (k0_pay4 x) (k0_pay5 x) g s y
      = normRow (fun k => geluAt (x (ix2 (y 0) k))) (g (ix2 0 (y 1))) (s (ix2 0 (y 1))) (y 1) := by
  rw [pay6_apply, pay5_apply]
  simp only [pay4_apply]
  unfold normRow
  exact congrArg (fun a => (geluAt (x a) - _) * _ * _ + _) (by blk_ext [])

/-- Equal rows, gains and shifts have equal norms. -/
theorem normRow_congr {f f' : Fin 1024 → EReal} {g g' s s' : EReal} (j : Fin 1024) (hf : ∀ i, f i = f' i) (hg : g = g')
    (hs : s = s') : normRow f g s j = normRow f' g' s' j := by
  rw [funext hf, hg, hs]

/-- What a grid point stores, at a block index. -/
theorem point (c : Dev nD) (t : Fin cfg0.N) (y : S512x1024.Idx) :
    gated (k0_pay3 (iblk m c 0 t)) (k0_pay6 (F := Ideal) (k0_pay4 (iblk m c 1 t)) (k0_pay5 (iblk m c 1 t)) (iblk m c 2 t) (iblk m c 3 t))
      (iblk m c 4 t) (iblk m c 5 t) y = gatedRef m c (((cfg0.win 6).blk t).view.emb y) := by
  rw [emb_eq t y]
  refine Eq.trans ?_ (ref_apply _ _ _ _ _ (rowOf t (y 0)) (y 1)).symm
  have ht : (t : ℕ) < 16 := t.isLt
  have hy : (y 0 : ℕ) < 512 := (y 0).isLt
  have hp : place (y 0) = placeOf (rowOf t (y 0)) := Fin.ext (by show (y 0 : ℕ) % 128 = ((t : ℕ) * 512 + (y 0 : ℕ)) % 128; omega)
  have hm : ∀ k : Fin 128, rowOf t (rowAt (y 0) k) = mate (rowOf t (y 0)) k := fun k => Fin.ext (by
    show (t : ℕ) * 512 + ((y 0 : ℕ) / 128 * 128 + (k : ℕ)) = ((t : ℕ) * 512 + (y 0 : ℕ)) / 128 * 128 + (k : ℕ); omega)
  unfold gated
  refine congrArg₂ (· * ·) ?_ (congrArg₂ (· + ·) (Finset.sum_congr rfl fun k _ => congrArg₂ (· * ·) ?_ ?_) ?_)
  · rw [pay3_apply]
    exact congrArg geluAt ((congrArg (iblk m c 0 t) (by blk_ext [])).trans (blk_u m c t (y 0) (y 1)))
  · rw [hp]; exact blk_w m c t _ _ _
  · rw [normed_apply, ← hm k]
    exact normRow_congr _ (fun i => congrArg geluAt (blk_v m c t (rowAt (y 0) k) i)) (blk_g m c t (y 1)) (blk_s m c t (y 1))
  · rw [hp]; exact blk_b m c t _ _ _

/-- The result array after the run. -/
theorem final (c : Dev nD) : (dats m 0 c).arrAt 6 cfg0.N = gatedRef m c := by
  refine (dats m 0 c).arrAt_eq_of_covers 6 _ (by decide +kernel) fun t _ y => ?_
  blk_simp
  rw [after0_6]
  refine Eq.trans ?_ (point m c t y)
  have l0 : ∀ x : Vec Ideal S512x1024 .f32, (View.ld x r0_0 : Vec Ideal S512x1024 .f32) = x := fun x => by frame_out
  have l1 : ∀ x : Vec Ideal S1x1024 .f32, (View.ld x r0_1 : Vec Ideal S1x1024 .f32) = x := fun x => by frame_out
  unfold out0_6 k0_pay48 k0_pay47 k0_pay46 k0_pay45
  rw [l0, l0, l1, l1]
  exact pieces_gated _ _ _ _ _ _ rfl _ _ y

end Cert.SguIdeal.Proj

end
-- ==== Proof.RmsValue.lean ====
/- The first root mean square norm: what its result array holds after the run, as the reference's term of the argument
   arrays. Each grid point norms 256 rows. -/
module

public import proofs.«01_k».proof.Proof.Gen.RmsIdeal.Value
public import proofs.«01_k».proof.Proof.Gen.RmsRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RmsIdeal.Proj

open Cert.RmsIdeal Cert.RmsIdeal.Gen

variable (m : (ℓ : Loc nD τ sig) → Buf (Elt Ideal) ℓ)

/-- The block each window stands on at a grid point: the row block is the point's number. -/
theorem idx : ∀ t : Fin cfg0.N,
    win0_0.index t = ![t.val, 0] ∧ win0_1.index t = ![0, 0] ∧ win0_2.index t = ![t.val, 0] :=
  (by decide +kernel : ∀ t : Fin grid0.N, _)

/-- The normed rows the reference computes, of the kernel's argument arrays. -/
abbrev normed (c : Dev nD) : FVec Ideal S8192x2048 .bf16 :=
  Cert.RmsRefIdeal.Read.val_main_v16 (F := Ideal) (m ((c : Thread nD τ).loc main_arg0)) (m ((c : Thread nD τ).loc main_arg1))

/-- The norm of a row, at a column: the element times the reciprocal root of the row's mean square plus the guard, times the
    gain. -/
def normRow (f : Fin 2048 → EReal) (g : EReal) (j : Fin 2048) : EReal :=
  f j * Ideal.rsqrt (Ideal.div (∑ k : Fin 2048, f k * f k) (Ideal.ofBits .f32 0x45000000#32)
      + Ideal.ofBits .f32 0x358637BD#32) * g

/-- The batch entry a row of the flat array belongs to. -/
abbrev batch (r : Fin 8192) : Fin 2 := ⟨(r : ℕ) / 4096, by have := r.isLt; omega⟩

/-- A flat row's place in its batch entry. -/
abbrev place (r : Fin 8192) : Fin 4096 := ⟨(r : ℕ) % 4096, Nat.mod_lt _ (by decide)⟩

open Cert.RmsRefIdeal.Read in
/-- The reference's norm before it is made flat. -/
theorem ref_row (x : FVec Ideal S2x4096x2048 .f32) (g : FVec Ideal S2x2048 .f32) (b : Fin 2) (p : Fin 4096) (j : Fin 2048) :
    val_main_v14 (F := Ideal) x g (ix3 b p j) = normRow (fun k => x (ix3 b p k)) (g (ix2 0 j)) j := by
  pointwise [normRow, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

open Cert.RmsRefIdeal.Read in
/-- The reference's result, at a flat row and a column. -/
theorem ref_apply (x : FVec Ideal S2x4096x2048 .f32) (g : FVec Ideal S2x2048 .f32) (i : S8192x2048.Idx) :
    val_main_v16 (F := Ideal) x g i
      = normRow (fun k => x (ix3 (batch (i 0)) (place (i 0)) k)) (g (ix2 0 (i 1))) (i 1) := by
  rw [val_main_v16_apply, val_main_v15_apply,
    show idx_main_v15 i = ix3 (batch (i 0)) (place (i 0)) (i 1) by blk_ext []]
  exact ref_row x g _ _ _

/-- The kernel's norm of a block of rows. -/
theorem pay_apply (x : FVec Ideal S256x2048 .f32) (g : FVec Ideal S1x2048 .f32) (y : S256x2048.Idx) :
    k0_pay1 (F := Ideal) x g y = normRow (fun k => x (ix2 (y 0) k)) (g (ix2 0 (y 1))) (y 1) := by
  pointwise [normRow, k0_pay1]

/-- The flat row a grid point's row stands for. -/
abbrev rowOf (t : Fin cfg0.N) (y : Fin 256) : Fin 8192 :=
  ⟨(t : ℕ) * 256 + (y : ℕ), by have h : (t : ℕ) < 32 := t.isLt; have := y.isLt; omega⟩

/-- Where a block index stands in the result. -/
theorem emb_eq (t : Fin cfg0.N) (y : S256x2048.Idx) :
    (((cfg0.win 2).blk t).view.emb y : S8192x2048.Idx) = ix2 (rowOf t (y 0)) (y 1) := by
  blk_ext [idx t]

/-- A grid point's block of rows. -/
theorem rows (c : Dev nD) (t : Fin cfg0.N) (r : Fin 256) (k : Fin 2048) :
    iblk m c 0 t (ix2 r k : S256x2048.Idx) = m ((c : Thread nD τ).loc main_arg0)
      (ix3 (batch (rowOf t r)) (place (rowOf t r)) k : S2x4096x2048.Idx) := by
  blk_point [iblk, V, idx t]

/-- A grid point's gains. -/
theorem gains (c : Dev nD) (t : Fin cfg0.N) (j : Fin 2048) :
    iblk m c 1 t (ix2 0 j : S1x2048.Idx) = m ((c : Thread nD τ).loc main_arg1) (ix2 0 j : S2x2048.Idx) := by
  blk_point [iblk, V, idx t]

/-- What a grid point stores, at a block index. -/
theorem point (c : Dev nD) (t : Fin cfg0.N) (y : S256x2048.Idx) :
    k0_pay1 (iblk m c 0 t) (iblk m c 1 t) y = normed m c (((cfg0.win 2).blk t).view.emb y) := by
  rw [emb_eq t y]
  refine (pay_apply _ _ y).trans (Eq.trans ?_ (ref_apply _ _ _).symm)
  exact congrArg₂ (fun f g => normRow f g _) (funext fun k => rows m c t (y 0) k) (gains m c t (y 1))

/-- The result array after the run. -/
theorem final (c : Dev nD) : (dats m 0 c).arrAt 2 cfg0.N = normed m c := by
  refine (dats m 0 c).arrAt_eq_of_covers 2 _ (by decide +kernel) fun t _ y => ?_
  blk_simp
  rw [after0_2]; frame_out
  exact point m c t y

end Cert.RmsIdeal.Proj

end
-- ==== Proof.NaMath.lean ====
/- The neighbourhood attention's arithmetic: a softmax in which some scores are −∞, over a band of keys or over the
   wider band that holds it. -/
module

public import proofs.«01_k».proof.Proof.MlaMath

@[expose] public section

noncomputable section

open Idealize.ShloMosaic

namespace Cert.NaMath

open Cert.MlaMath

/-- A sum over 768 keys that is zero off a run of 512 is the sum over the run. -/
theorem sum_band (f : Fin 768 → EReal) (g : Fin 512 → EReal) (o : ℕ) (ho : o + 512 ≤ 768)
    (hin : ∀ n : Fin 512, f ⟨o + n, by omega⟩ = g n) (hout : ∀ k : Fin 768, (k : ℕ) < o ∨ o + 512 ≤ k → f k = 0) :
    ∑ k, f k = ∑ n, g n := by
  refine (Fintype.sum_of_injective (fun n : Fin 512 => (⟨o + n, by omega⟩ : Fin 768)) ?_ g f ?_ ?_).symm
  · intro a b h
    have := congrArg Fin.val h
    ext; simp only at this; omega
  · intro k hk
    refine hout k ?_
    by_contra hc
    exact hk ⟨⟨k - o, by omega⟩, by ext; show o + ((k : ℕ) - o) = k; omega⟩
  · exact fun n => (hin n).symm

/-- A greatest value over 768 keys that is −∞ off a run of 512 is the greatest over the run. -/
theorem max_band (f : Fin 768 → EReal) (g : Fin 512 → EReal) (o : ℕ) (ho : o + 512 ≤ 768)
    (hin : ∀ n : Fin 512, f ⟨o + n, by omega⟩ = g n) (hout : ∀ k : Fin 768, (k : ℕ) < o ∨ o + 512 ≤ k → f k = ⊥) :
    Finset.univ.fold max ⊥ f = Finset.univ.fold max ⊥ g := by
  show Finset.univ.sup f = Finset.univ.sup g
  refine le_antisymm (Finset.sup_le fun k _ => ?_) (Finset.sup_le fun n _ => ?_)
  · by_cases hk : (k : ℕ) < o ∨ o + 512 ≤ k
    · rw [hout k hk]; exact bot_le
    · have h := hin ⟨k - o, by omega⟩
      have e : (⟨o + ((k : ℕ) - o), by omega⟩ : Fin 768) = k := by ext; show o + ((k : ℕ) - o) = k; omega
      rw [show f k = g ⟨k - o, by omega⟩ from (congrArg f e).symm.trans h]
      exact Finset.le_sup (f := g) (Finset.mem_univ _)
  · rw [← hin n]; exact Finset.le_sup (f := f) (Finset.mem_univ _)

/-- The softmax of scores that are finite or −∞, one of them finite, against finite values: the weighted sum over the
    sum of the weights is the sum of the values by the weights' shares. -/
theorem masked_softmax {n : ℕ} (s v : Fin n → EReal) (hs : ∀ k, s k = ⊥ ∨ Fine (s k)) (hex : ∃ k, Fine (s k))
    (hv : ∀ k, Fine (v k)) :
    Ideal.div (∑ k, Ideal.exp (s k - Finset.univ.fold max ⊥ s) * v k) (∑ k, Ideal.exp (s k - Finset.univ.fold max ⊥ s))
    = ∑ k, v k * Ideal.div (Ideal.exp (s k - max ⊥ (Finset.univ.fold max ⊥ s)))
        (∑ j, Ideal.exp (s j - max ⊥ (Finset.univ.fold max ⊥ s))) := by
  obtain ⟨kf, rf, hkf⟩ := hex
  rw [max_eq_right bot_le]
  obtain ⟨k0, -, hk0⟩ : ∃ k ∈ (Finset.univ : Finset (Fin n)), Finset.univ.sup s = s k :=
    Finset.exists_mem_eq_sup _ ⟨kf, Finset.mem_univ _⟩ s
  have hM : Finset.univ.fold max ⊥ s = s k0 := hk0
  have hle : s kf ≤ s k0 := by rw [← hk0]; exact Finset.le_sup (f := s) (Finset.mem_univ kf)
  obtain ⟨M, hMr⟩ : Fine (s k0) := by
    rcases hs k0 with h | h
    · rw [h, hkf, le_bot_iff] at hle; exact absurd hle (EReal.coe_ne_bot rf)
    · exact h
  rw [hM, hMr]
  have hp : ∀ k, ∃ p : ℝ, 0 ≤ p ∧ Ideal.exp (s k - (M : EReal)) = (p : EReal) := by
    intro k
    rcases hs k with h | ⟨r, h⟩
    · refine ⟨0, le_rfl, ?_⟩
      rw [h, sub_eq_add_neg, EReal.bot_add, Ideal.exp_bot, EReal.coe_zero]
    · exact ⟨Real.exp (r - M), (Real.exp_pos _).le, by rw [h, ← EReal.coe_sub, Ideal.exp_coe]⟩
  choose p hp0 hpe using hp
  choose w hw using hv
  have h0 : 0 < p k0 := by
    have := hpe k0
    rw [hMr, ← EReal.coe_sub, sub_self, Ideal.exp_coe, Real.exp_zero, EReal.coe_eq_coe_iff] at this
    rw [← this]; exact one_pos
  have hZ : (0 : ℝ) < ∑ j, p j := Finset.sum_pos' (fun j _ => hp0 j) ⟨k0, Finset.mem_univ _, h0⟩
  simp only [hpe, hw, ← EReal.coe_mul, ← coe_sum, Ideal.div_coe hZ.ne']
  congr 1
  rw [Finset.sum_mul]
  exact Finset.sum_congr rfl fun j _ => by ring

end Cert.NaMath

end
-- ==== Proof.NaHost.lean ====
/- The bias table the host prepares for the neighbourhood attention, read at an index. -/
module

public import proofs.«01_k».proof.Proof.Gen.NaIdeal.Frame
public import proofs.«01_k».proof.Proof.NaMath
public import proofs.«01_k».proof.Proof.MlaMath
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.NaIdeal.Attn

open Cert Cert.NaIdeal Cert.NaIdeal.Gen

variable (m : (ℓ : Loc nD τ sig) → Buf (Elt Ideal) ℓ) (c : Dev nD)

/-- The buffers after the window mask and the masked bias have been written, before the bands are laid out. -/
abbrev W : Valuation τ sig (Elt Ideal) :=
  StableHlo.after (List.flatten [hostOps0, hostOps0_1, hostOps0_2, hostOps0_3, hostOps0_4, hostOps0_5, hostOps0_6])
    (fun b => m (c, b))

theorem V_eq (b : Ref sig Kind.tc) : V m c b = StableHlo.after hostOps0_7 (W m c) (Proc.devRef (Proc.tc (τ := τ)) b) := by
  have h : List.flatten [hostOps0 (F := Ideal), hostOps0_1, hostOps0_2, hostOps0_3, hostOps0_4, hostOps0_5, hostOps0_6, hostOps0_7]
      = List.flatten [hostOps0, hostOps0_1, hostOps0_2, hostOps0_3, hostOps0_4, hostOps0_5, hostOps0_6] ++ hostOps0_7 := by
    rw [show ([hostOps0 (F := Ideal), hostOps0_1, hostOps0_2, hostOps0_3, hostOps0_4, hostOps0_5, hostOps0_6, hostOps0_7])
      = [hostOps0, hostOps0_1, hostOps0_2, hostOps0_3, hostOps0_4, hostOps0_5, hostOps0_6] ++ [hostOps0_7] from rfl,
      List.flatten_append, List.flatten_singleton]
  unfold V W
  rw [h, StableHlo.after_append]

/-- The masked bias: a displacement row, a query column, a key column. -/
abbrev biasW (X : Valuation τ sig (Elt Ideal)) : FVec Ideal S8x15x64x64 .f32 := X (Proc.devRef (Proc.tc (τ := τ)) main_v30)

theorem ix_congr (B : FVec Ideal S8x15x64x64 .f32) (h : Fin 8) {a a' : Fin 15} {q q' b b' : Fin 64}
    (ha : a.val = a'.val) (hq : q.val = q'.val) (hb : b.val = b'.val) : B (ix4 h a q b) = B (ix4 h a' q' b') := by
  rw [Fin.ext ha, Fin.ext hq, Fin.ext hb]

/-- What the host writes last: the bands laid out from the masked bias. -/
abbrev R (X : Valuation τ sig (Elt Ideal)) (b : Ref sig Kind.tc) := StableHlo.after hostOps0_7 X (Proc.devRef (Proc.tc (τ := τ)) b)

theorem g_congr (g : Fin 12 → Fin 64 → EReal) {i i' : Fin 12} {j j' : Fin 64} (hi : i.val = i'.val) (hj : j.val = j'.val) :
    g i j = g i' j' := by
  rw [Fin.ext hi, Fin.ext hj]

/-- Twelve pieces of 64 columns, one after the other, read at a column: piece `k / 64` at `k % 64`. -/
theorem ladder (k : Fin 768) (g : Fin 12 → Fin 64 → EReal) (f0 f1 f2 f3 f4 f5 f6 f7 f8 f9 f10 f11 : Fin 64 → EReal)
    (e0 : ∀ j, f0 j = g 0 j) (e1 : ∀ j, f1 j = g 1 j) (e2 : ∀ j, f2 j = g 2 j) (e3 : ∀ j, f3 j = g 3 j) (e4 : ∀ j, f4 j = g 4 j) (e5 : ∀ j, f5 j = g 5 j)
    (e6 : ∀ j, f6 j = g 6 j) (e7 : ∀ j, f7 j = g 7 j) (e8 : ∀ j, f8 j = g 8 j) (e9 : ∀ j, f9 j = g 9 j) (e10 : ∀ j, f10 j = g 10 j) (e11 : ∀ j, f11 j = g 11 j) :
    (if h0 : k.val < 64 then f0 ⟨k.val, h0⟩ else
    if h1 : k.val - 64 < 64 then f1 ⟨k.val - 64, h1⟩ else
    if h2 : k.val - 64 - 64 < 64 then f2 ⟨k.val - 64 - 64, h2⟩ else
    if h3 : k.val - 64 - 64 - 64 < 64 then f3 ⟨k.val - 64 - 64 - 64, h3⟩ else
    if h4 : k.val - 64 - 64 - 64 - 64 < 64 then f4 ⟨k.val - 64 - 64 - 64 - 64, h4⟩ else
    if h5 : k.val - 64 - 64 - 64 - 64 - 64 < 64 then f5 ⟨k.val - 64 - 64 - 64 - 64 - 64, h5⟩ else
    if h6 : k.val - 64 - 64 - 64 - 64 - 64 - 64 < 64 then f6 ⟨k.val - 64 - 64 - 64 - 64 - 64 - 64, h6⟩ else
    if h7 : k.val - 64 - 64 - 64 - 64 - 64 - 64 - 64 < 64 then f7 ⟨k.val - 64 - 64 - 64 - 64 - 64 - 64 - 64, h7⟩ else
    if h8 : k.val - 64 - 64 - 64 - 64 - 64 - 64 - 64 - 64 < 64 then f8 ⟨k.val - 64 - 64 - 64 - 64 - 64 - 64 - 64 - 64, h8⟩ else
    if h9 : k.val - 64 - 64 - 64 - 64 - 64 - 64 - 64 - 64 - 64 < 64 then f9 ⟨k.val - 64 - 64 - 64 - 64 - 64 - 64 - 64 - 64 - 64, h9⟩ else
    if h10 : k.val - 64 - 64 - 64 - 64 - 64 - 64 - 64 - 64 - 64 - 64 < 64 then f10 ⟨k.val - 64 - 64 - 64 - 64 - 64 - 64 - 64 - 64 - 64 - 64, h10⟩ else
    f11 ⟨k.val - 64 - 64 - 64 - 64 - 64 - 64 - 64 - 64 - 64 - 64 - 64, by omega⟩) = g ⟨k.val / 64, by omega⟩ ⟨k.val % 64, by omega⟩ := by
  by_cases h0 : k.val < 64
  · rw [dif_pos h0, e0]; exact g_congr g (by show 0 = k.val / 64; omega) (by show k.val = k.val % 64; omega)
  rw [dif_neg h0]
  by_cases h1 : k.val - 64 < 64
  · rw [dif_pos h1, e1]; exact g_congr g (by show 1 = k.val / 64; omega) (by show k.val - 64 = k.val % 64; omega)
  rw [dif_neg h1]
  by_cases h2 : k.val - 64 - 64 < 64
  · rw [dif_pos h2, e2]; exact g_congr g (by show 2 = k.val / 64; omega) (by show k.val - 64 - 64 = k.val % 64; omega)
  rw [dif_neg h2]
  by_cases h3 : k.val - 64 - 64 - 64 < 64
  · rw [dif_pos h3, e3]; exact g_congr g (by show 3 = k.val / 64; omega) (by show k.val - 64 - 64 - 64 = k.val % 64; omega)
  rw [dif_neg h3]
  by_cases h4 : k.val - 64 - 64 - 64 - 64 < 64
  · rw [dif_pos h4, e4]; exact g_congr g (by show 4 = k.val / 64; omega) (by show k.val - 64 - 64 - 64 - 64 = k.val % 64; omega)
  rw [dif_neg h4]
  by_cases h5 : k.val - 64 - 64 - 64 - 64 - 64 < 64
  · rw [dif_pos h5, e5]; exact g_congr g (by show 5 = k.val / 64; omega) (by show k.val - 64 - 64 - 64 - 64 - 64 = k.val % 64; omega)
  rw [dif_neg h5]
  by_cases h6 : k.val - 64 - 64 - 64 - 64 - 64 - 64 < 64
  · rw [dif_pos h6, e6]; exact g_congr g (by show 6 = k.val / 64; omega) (by show k.val - 64 - 64 - 64 - 64 - 64 - 64 = k.val % 64; omega)
  rw [dif_neg h6]
  by_cases h7 : k.val - 64 - 64 - 64 - 64 - 64 - 64 - 64 < 64
  · rw [dif_pos h7, e7]; exact g_congr g (by show 7 = k.val / 64; omega) (by show k.val - 64 - 64 - 64 - 64 - 64 - 64 - 64 = k.val % 64; omega)
  rw [dif_neg h7]
  by_cases h8 : k.val - 64 - 64 - 64 - 64 - 64 - 64 - 64 - 64 < 64
  · rw [dif_pos h8, e8]; exact g_congr g (by show 8 = k.val / 64; omega) (by show k.val - 64 - 64 - 64 - 64 - 64 - 64 - 64 - 64 = k.val % 64; omega)
  rw [dif_neg h8]
  by_cases h9 : k.val - 64 - 64 - 64 - 64 - 64 - 64 - 64 - 64 - 64 < 64
  · rw [dif_pos h9, e9]; exact g_congr g (by show 9 = k.val / 64; omega) (by show k.val - 64 - 64 - 64 - 64 - 64 - 64 - 64 - 64 - 64 = k.val % 64; omega)
  rw [dif_neg h9]
  by_cases h10 : k.val - 64 - 64 - 64 - 64 - 64 - 64 - 64 - 64 - 64 - 64 < 64
  · rw [dif_pos h10, e10]; exact g_congr g (by show 10 = k.val / 64; omega) (by show k.val - 64 - 64 - 64 - 64 - 64 - 64 - 64 - 64 - 64 - 64 = k.val % 64; omega)
  rw [dif_neg h10]
  rw [e11]; exact g_congr g (by show 11 = k.val / 64; omega) (by show k.val - 64 - 64 - 64 - 64 - 64 - 64 - 64 - 64 - 64 - 64 - 64 = k.val % 64; omega)

set_option maxHeartbeats 4000000 in
theorem v48_at (X : Valuation τ sig (Elt Ideal)) (h : Fin 8) (q : Fin 64) (k : Fin 768) :
    (R X main_v48 : FVec Ideal S8x64x768 .f32) (ix3 h q k)
    = if hk : k.val / 64 < 8 then biasW X (ix4 h ⟨k.val / 64 + 7 - 0, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : i.val < 8 then (B (ix4 h ⟨i.val + 7 - 0, by omega⟩ q j) : EReal) else ⊥)
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun j => B (ix4 h ⟨11, by omega⟩ q j))
    (fun j => B (ix4 h ⟨12, by omega⟩ q j))
    (fun j => B (ix4 h ⟨13, by omega⟩ q j))
    (fun j => B (ix4 h ⟨14, by omega⟩ q j))
    (fun _ => ⊥)
    (fun _ => ⊥)
    (fun _ => ⊥)
    (fun _ => ⊥)
    (fun _ => Eq.symm (dif_pos (show 0 < 8 by decide))) (fun _ => Eq.symm (dif_pos (show 1 < 8 by decide))) (fun _ => Eq.symm (dif_pos (show 2 < 8 by decide))) (fun _ => Eq.symm (dif_pos (show 3 < 8 by decide))) (fun _ => Eq.symm (dif_pos (show 4 < 8 by decide))) (fun _ => Eq.symm (dif_pos (show 5 < 8 by decide))) (fun _ => Eq.symm (dif_pos (show 6 < 8 by decide))) (fun _ => Eq.symm (dif_pos (show 7 < 8 by decide))) (fun _ => Eq.symm (dif_neg (show ¬(8 < 8) by decide))) (fun _ => Eq.symm (dif_neg (show ¬(9 < 8) by decide))) (fun _ => Eq.symm (dif_neg (show ¬(10 < 8) by decide))) (fun _ => Eq.symm (dif_neg (show ¬(11 < 8) by decide)))
  exact key (biasW X)

set_option maxHeartbeats 4000000 in
theorem v65_at (X : Valuation τ sig (Elt Ideal)) (h : Fin 8) (q : Fin 64) (k : Fin 768) :
    (R X main_v65 : FVec Ideal S8x64x768 .f32) (ix3 h q k)
    = if hk : k.val / 64 < 8 then biasW X (ix4 h ⟨k.val / 64 + 7 - 1, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : i.val < 8 then (B (ix4 h ⟨i.val + 7 - 1, by omega⟩ q j) : EReal) else ⊥)
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun j => B (ix4 h ⟨11, by omega⟩ q j))
    (fun j => B (ix4 h ⟨12, by omega⟩ q j))
    (fun j => B (ix4 h ⟨13, by omega⟩ q j))
    (fun _ => ⊥)
    (fun _ => ⊥)
    (fun _ => ⊥)
    (fun _ => ⊥)
    (fun _ => Eq.symm (dif_pos (show 0 < 8 by decide))) (fun _ => Eq.symm (dif_pos (show 1 < 8 by decide))) (fun _ => Eq.symm (dif_pos (show 2 < 8 by decide))) (fun _ => Eq.symm (dif_pos (show 3 < 8 by decide))) (fun _ => Eq.symm (dif_pos (show 4 < 8 by decide))) (fun _ => Eq.symm (dif_pos (show 5 < 8 by decide))) (fun _ => Eq.symm (dif_pos (show 6 < 8 by decide))) (fun _ => Eq.symm (dif_pos (show 7 < 8 by decide))) (fun _ => Eq.symm (dif_neg (show ¬(8 < 8) by decide))) (fun _ => Eq.symm (dif_neg (show ¬(9 < 8) by decide))) (fun _ => Eq.symm (dif_neg (show ¬(10 < 8) by decide))) (fun _ => Eq.symm (dif_neg (show ¬(11 < 8) by decide)))
  exact key (biasW X)

set_option maxHeartbeats 4000000 in
theorem v82_at (X : Valuation τ sig (Elt Ideal)) (h : Fin 8) (q : Fin 64) (k : Fin 768) :
    (R X main_v82 : FVec Ideal S8x64x768 .f32) (ix3 h q k)
    = if hk : k.val / 64 < 8 then biasW X (ix4 h ⟨k.val / 64 + 7 - 2, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : i.val < 8 then (B (ix4 h ⟨i.val + 7 - 2, by omega⟩ q j) : EReal) else ⊥)
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun j => B (ix4 h ⟨11, by omega⟩ q j))
    (fun j => B (ix4 h ⟨12, by omega⟩ q j))
    (fun _ => ⊥)
    (fun _ => ⊥)
    (fun _ => ⊥)
    (fun _ => ⊥)
    (fun _ => Eq.symm (dif_pos (show 0 < 8 by decide))) (fun _ => Eq.symm (dif_pos (show 1 < 8 by decide))) (fun _ => Eq.symm (dif_pos (show 2 < 8 by decide))) (fun _ => Eq.symm (dif_pos (show 3 < 8 by decide))) (fun _ => Eq.symm (dif_pos (show 4 < 8 by decide))) (fun _ => Eq.symm (dif_pos (show 5 < 8 by decide))) (fun _ => Eq.symm (dif_pos (show 6 < 8 by decide))) (fun _ => Eq.symm (dif_pos (show 7 < 8 by decide))) (fun _ => Eq.symm (dif_neg (show ¬(8 < 8) by decide))) (fun _ => Eq.symm (dif_neg (show ¬(9 < 8) by decide))) (fun _ => Eq.symm (dif_neg (show ¬(10 < 8) by decide))) (fun _ => Eq.symm (dif_neg (show ¬(11 < 8) by decide)))
  exact key (biasW X)

set_option maxHeartbeats 4000000 in
theorem v99_at (X : Valuation τ sig (Elt Ideal)) (h : Fin 8) (q : Fin 64) (k : Fin 768) :
    (R X main_v99 : FVec Ideal S8x64x768 .f32) (ix3 h q k)
    = if hk : k.val / 64 < 8 then biasW X (ix4 h ⟨k.val / 64 + 7 - 3, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : i.val < 8 then (B (ix4 h ⟨i.val + 7 - 3, by omega⟩ q j) : EReal) else ⊥)
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun j => B (ix4 h ⟨11, by omega⟩ q j))
    (fun _ => ⊥)
    (fun _ => ⊥)
    (fun _ => ⊥)
    (fun _ => ⊥)
    (fun _ => Eq.symm (dif_pos (show 0 < 8 by decide))) (fun _ => Eq.symm (dif_pos (show 1 < 8 by decide))) (fun _ => Eq.symm (dif_pos (show 2 < 8 by decide))) (fun _ => Eq.symm (dif_pos (show 3 < 8 by decide))) (fun _ => Eq.symm (dif_pos (show 4 < 8 by decide))) (fun _ => Eq.symm (dif_pos (show 5 < 8 by decide))) (fun _ => Eq.symm (dif_pos (show 6 < 8 by decide))) (fun _ => Eq.symm (dif_pos (show 7 < 8 by decide))) (fun _ => Eq.symm (dif_neg (show ¬(8 < 8) by decide))) (fun _ => Eq.symm (dif_neg (show ¬(9 < 8) by decide))) (fun _ => Eq.symm (dif_neg (show ¬(10 < 8) by decide))) (fun _ => Eq.symm (dif_neg (show ¬(11 < 8) by decide)))
  exact key (biasW X)

set_option maxHeartbeats 4000000 in
theorem v117_at (X : Valuation τ sig (Elt Ideal)) (h : Fin 8) (q : Fin 64) (k : Fin 768) :
    (R X main_v117 : FVec Ideal S8x64x768 .f32) (ix3 h q k)
    = if hk : k.val / 64 < 8 then biasW X (ix4 h ⟨k.val / 64 + 7 - 4, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : i.val < 8 then (B (ix4 h ⟨i.val + 7 - 4, by omega⟩ q j) : EReal) else ⊥)
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun _ => ⊥)
    (fun _ => ⊥)
    (fun _ => ⊥)
    (fun _ => ⊥)
    (fun _ => Eq.symm (dif_pos (show 0 < 8 by decide))) (fun _ => Eq.symm (dif_pos (show 1 < 8 by decide))) (fun _ => Eq.symm (dif_pos (show 2 < 8 by decide))) (fun _ => Eq.symm (dif_pos (show 3 < 8 by decide))) (fun _ => Eq.symm (dif_pos (show 4 < 8 by decide))) (fun _ => Eq.symm (dif_pos (show 5 < 8 by decide))) (fun _ => Eq.symm (dif_pos (show 6 < 8 by decide))) (fun _ => Eq.symm (dif_pos (show 7 < 8 by decide))) (fun _ => Eq.symm (dif_neg (show ¬(8 < 8) by decide))) (fun _ => Eq.symm (dif_neg (show ¬(9 < 8) by decide))) (fun _ => Eq.symm (dif_neg (show ¬(10 < 8) by decide))) (fun _ => Eq.symm (dif_neg (show ¬(11 < 8) by decide)))
  exact key (biasW X)

set_option maxHeartbeats 4000000 in
theorem v134_at (X : Valuation τ sig (Elt Ideal)) (h : Fin 8) (q : Fin 64) (k : Fin 768) :
    (R X main_v134 : FVec Ideal S8x64x768 .f32) (ix3 h q k)
    = if hk : 1 ≤ k.val / 64 ∧ k.val / 64 < 9 then biasW X (ix4 h ⟨k.val / 64 + 7 - 5, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 1 ≤ i.val ∧ i.val < 9 then (B (ix4 h ⟨i.val + 7 - 5, by omega⟩ q j) : EReal) else ⊥)
    (fun _ => ⊥)
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun _ => ⊥)
    (fun _ => ⊥)
    (fun _ => ⊥)
    (fun _ => Eq.symm (dif_neg (show ¬(1 ≤ 0 ∧ 0 < 9) by decide))) (fun _ => Eq.symm (dif_pos (show 1 ≤ 1 ∧ 1 < 9 by decide))) (fun _ => Eq.symm (dif_pos (show 1 ≤ 2 ∧ 2 < 9 by decide))) (fun _ => Eq.symm (dif_pos (show 1 ≤ 3 ∧ 3 < 9 by decide))) (fun _ => Eq.symm (dif_pos (show 1 ≤ 4 ∧ 4 < 9 by decide))) (fun _ => Eq.symm (dif_pos (show 1 ≤ 5 ∧ 5 < 9 by decide))) (fun _ => Eq.symm (dif_pos (show 1 ≤ 6 ∧ 6 < 9 by decide))) (fun _ => Eq.symm (dif_pos (show 1 ≤ 7 ∧ 7 < 9 by decide))) (fun _ => Eq.symm (dif_pos (show 1 ≤ 8 ∧ 8 < 9 by decide))) (fun _ => Eq.symm (dif_neg (show ¬(1 ≤ 9 ∧ 9 < 9) by decide))) (fun _ => Eq.symm (dif_neg (show ¬(1 ≤ 10 ∧ 10 < 9) by decide))) (fun _ => Eq.symm (dif_neg (show ¬(1 ≤ 11 ∧ 11 < 9) by decide)))
  exact key (biasW X)

set_option maxHeartbeats 4000000 in
theorem v151_at (X : Valuation τ sig (Elt Ideal)) (h : Fin 8) (q : Fin 64) (k : Fin 768) :
    (R X main_v151 : FVec Ideal S8x64x768 .f32) (ix3 h q k)
    = if hk : 2 ≤ k.val / 64 ∧ k.val / 64 < 10 then biasW X (ix4 h ⟨k.val / 64 + 7 - 6, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 2 ≤ i.val ∧ i.val < 10 then (B (ix4 h ⟨i.val + 7 - 6, by omega⟩ q j) : EReal) else ⊥)
    (fun _ => ⊥)
    (fun _ => ⊥)
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun _ => ⊥)
    (fun _ => ⊥)
    (fun _ => Eq.symm (dif_neg (show ¬(2 ≤ 0 ∧ 0 < 10) by decide))) (fun _ => Eq.symm (dif_neg (show ¬(2 ≤ 1 ∧ 1 < 10) by decide))) (fun _ => Eq.symm (dif_pos (show 2 ≤ 2 ∧ 2 < 10 by decide))) (fun _ => Eq.symm (dif_pos (show 2 ≤ 3 ∧ 3 < 10 by decide))) (fun _ => Eq.symm (dif_pos (show 2 ≤ 4 ∧ 4 < 10 by decide))) (fun _ => Eq.symm (dif_pos (show 2 ≤ 5 ∧ 5 < 10 by decide))) (fun _ => Eq.symm (dif_pos (show 2 ≤ 6 ∧ 6 < 10 by decide))) (fun _ => Eq.symm (dif_pos (show 2 ≤ 7 ∧ 7 < 10 by decide))) (fun _ => Eq.symm (dif_pos (show 2 ≤ 8 ∧ 8 < 10 by decide))) (fun _ => Eq.symm (dif_pos (show 2 ≤ 9 ∧ 9 < 10 by decide))) (fun _ => Eq.symm (dif_neg (show ¬(2 ≤ 10 ∧ 10 < 10) by decide))) (fun _ => Eq.symm (dif_neg (show ¬(2 ≤ 11 ∧ 11 < 10) by decide)))
  exact key (biasW X)

set_option maxHeartbeats 4000000 in
theorem v168_at (X : Valuation τ sig (Elt Ideal)) (h : Fin 8) (q : Fin 64) (k : Fin 768) :
    (R X main_v168 : FVec Ideal S8x64x768 .f32) (ix3 h q k)
    = if hk : 3 ≤ k.val / 64 ∧ k.val / 64 < 11 then biasW X (ix4 h ⟨k.val / 64 + 7 - 7, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 3 ≤ i.val ∧ i.val < 11 then (B (ix4 h ⟨i.val + 7 - 7, by omega⟩ q j) : EReal) else ⊥)
    (fun _ => ⊥)
    (fun _ => ⊥)
    (fun _ => ⊥)
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun _ => ⊥)
    (fun _ => Eq.symm (dif_neg (show ¬(3 ≤ 0 ∧ 0 < 11) by decide))) (fun _ => Eq.symm (dif_neg (show ¬(3 ≤ 1 ∧ 1 < 11) by decide))) (fun _ => Eq.symm (dif_neg (show ¬(3 ≤ 2 ∧ 2 < 11) by decide))) (fun _ => Eq.symm (dif_pos (show 3 ≤ 3 ∧ 3 < 11 by decide))) (fun _ => Eq.symm (dif_pos (show 3 ≤ 4 ∧ 4 < 11 by decide))) (fun _ => Eq.symm (dif_pos (show 3 ≤ 5 ∧ 5 < 11 by decide))) (fun _ => Eq.symm (dif_pos (show 3 ≤ 6 ∧ 6 < 11 by decide))) (fun _ => Eq.symm (dif_pos (show 3 ≤ 7 ∧ 7 < 11 by decide))) (fun _ => Eq.symm (dif_pos (show 3 ≤ 8 ∧ 8 < 11 by decide))) (fun _ => Eq.symm (dif_pos (show 3 ≤ 9 ∧ 9 < 11 by decide))) (fun _ => Eq.symm (dif_pos (show 3 ≤ 10 ∧ 10 < 11 by decide))) (fun _ => Eq.symm (dif_neg (show ¬(3 ≤ 11 ∧ 11 < 11) by decide)))
  exact key (biasW X)

set_option maxHeartbeats 4000000 in
theorem v186_at (X : Valuation τ sig (Elt Ideal)) (h : Fin 8) (q : Fin 64) (k : Fin 768) :
    (R X main_v186 : FVec Ideal S8x64x768 .f32) (ix3 h q k)
    = if hk : 4 ≤ k.val / 64 ∧ k.val / 64 < 12 then biasW X (ix4 h ⟨k.val / 64 + 7 - 8, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 4 ≤ i.val ∧ i.val < 12 then (B (ix4 h ⟨i.val + 7 - 8, by omega⟩ q j) : EReal) else ⊥)
    (fun _ => ⊥)
    (fun _ => ⊥)
    (fun _ => ⊥)
    (fun _ => ⊥)
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun j => B (ix4 h ⟨10, by omega⟩ q j))
    (fun _ => Eq.symm (dif_neg (show ¬(4 ≤ 0 ∧ 0 < 12) by decide))) (fun _ => Eq.symm (dif_neg (show ¬(4 ≤ 1 ∧ 1 < 12) by decide))) (fun _ => Eq.symm (dif_neg (show ¬(4 ≤ 2 ∧ 2 < 12) by decide))) (fun _ => Eq.symm (dif_neg (show ¬(4 ≤ 3 ∧ 3 < 12) by decide))) (fun _ => Eq.symm (dif_pos (show 4 ≤ 4 ∧ 4 < 12 by decide))) (fun _ => Eq.symm (dif_pos (show 4 ≤ 5 ∧ 5 < 12 by decide))) (fun _ => Eq.symm (dif_pos (show 4 ≤ 6 ∧ 6 < 12 by decide))) (fun _ => Eq.symm (dif_pos (show 4 ≤ 7 ∧ 7 < 12 by decide))) (fun _ => Eq.symm (dif_pos (show 4 ≤ 8 ∧ 8 < 12 by decide))) (fun _ => Eq.symm (dif_pos (show 4 ≤ 9 ∧ 9 < 12 by decide))) (fun _ => Eq.symm (dif_pos (show 4 ≤ 10 ∧ 10 < 12 by decide))) (fun _ => Eq.symm (dif_pos (show 4 ≤ 11 ∧ 11 < 12 by decide)))
  exact key (biasW X)

set_option maxHeartbeats 4000000 in
theorem v203_at (X : Valuation τ sig (Elt Ideal)) (h : Fin 8) (q : Fin 64) (k : Fin 768) :
    (R X main_v203 : FVec Ideal S8x64x768 .f32) (ix3 h q k)
    = if hk : 4 ≤ k.val / 64 ∧ k.val / 64 < 12 then biasW X (ix4 h ⟨k.val / 64 + 7 - 9, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 4 ≤ i.val ∧ i.val < 12 then (B (ix4 h ⟨i.val + 7 - 9, by omega⟩ q j) : EReal) else ⊥)
    (fun _ => ⊥)
    (fun _ => ⊥)
    (fun _ => ⊥)
    (fun _ => ⊥)
    (fun j => B (ix4 h ⟨2, by omega⟩ q j))
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun j => B (ix4 h ⟨9, by omega⟩ q j))
    (fun _ => Eq.symm (dif_neg (show ¬(4 ≤ 0 ∧ 0 < 12) by decide))) (fun _ => Eq.symm (dif_neg (show ¬(4 ≤ 1 ∧ 1 < 12) by decide))) (fun _ => Eq.symm (dif_neg (show ¬(4 ≤ 2 ∧ 2 < 12) by decide))) (fun _ => Eq.symm (dif_neg (show ¬(4 ≤ 3 ∧ 3 < 12) by decide))) (fun _ => Eq.symm (dif_pos (show 4 ≤ 4 ∧ 4 < 12 by decide))) (fun _ => Eq.symm (dif_pos (show 4 ≤ 5 ∧ 5 < 12 by decide))) (fun _ => Eq.symm (dif_pos (show 4 ≤ 6 ∧ 6 < 12 by decide))) (fun _ => Eq.symm (dif_pos (show 4 ≤ 7 ∧ 7 < 12 by decide))) (fun _ => Eq.symm (dif_pos (show 4 ≤ 8 ∧ 8 < 12 by decide))) (fun _ => Eq.symm (dif_pos (show 4 ≤ 9 ∧ 9 < 12 by decide))) (fun _ => Eq.symm (dif_pos (show 4 ≤ 10 ∧ 10 < 12 by decide))) (fun _ => Eq.symm (dif_pos (show 4 ≤ 11 ∧ 11 < 12 by decide)))
  exact key (biasW X)

set_option maxHeartbeats 4000000 in
theorem v220_at (X : Valuation τ sig (Elt Ideal)) (h : Fin 8) (q : Fin 64) (k : Fin 768) :
    (R X main_v220 : FVec Ideal S8x64x768 .f32) (ix3 h q k)
    = if hk : 4 ≤ k.val / 64 ∧ k.val / 64 < 12 then biasW X (ix4 h ⟨k.val / 64 + 7 - 10, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 4 ≤ i.val ∧ i.val < 12 then (B (ix4 h ⟨i.val + 7 - 10, by omega⟩ q j) : EReal) else ⊥)
    (fun _ => ⊥)
    (fun _ => ⊥)
    (fun _ => ⊥)
    (fun _ => ⊥)
    (fun j => B (ix4 h ⟨1, by omega⟩ q j))
    (fun j => B (ix4 h ⟨2, by omega⟩ q j))
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun j => B (ix4 h ⟨8, by omega⟩ q j))
    (fun _ => Eq.symm (dif_neg (show ¬(4 ≤ 0 ∧ 0 < 12) by decide))) (fun _ => Eq.symm (dif_neg (show ¬(4 ≤ 1 ∧ 1 < 12) by decide))) (fun _ => Eq.symm (dif_neg (show ¬(4 ≤ 2 ∧ 2 < 12) by decide))) (fun _ => Eq.symm (dif_neg (show ¬(4 ≤ 3 ∧ 3 < 12) by decide))) (fun _ => Eq.symm (dif_pos (show 4 ≤ 4 ∧ 4 < 12 by decide))) (fun _ => Eq.symm (dif_pos (show 4 ≤ 5 ∧ 5 < 12 by decide))) (fun _ => Eq.symm (dif_pos (show 4 ≤ 6 ∧ 6 < 12 by decide))) (fun _ => Eq.symm (dif_pos (show 4 ≤ 7 ∧ 7 < 12 by decide))) (fun _ => Eq.symm (dif_pos (show 4 ≤ 8 ∧ 8 < 12 by decide))) (fun _ => Eq.symm (dif_pos (show 4 ≤ 9 ∧ 9 < 12 by decide))) (fun _ => Eq.symm (dif_pos (show 4 ≤ 10 ∧ 10 < 12 by decide))) (fun _ => Eq.symm (dif_pos (show 4 ≤ 11 ∧ 11 < 12 by decide)))
  exact key (biasW X)

set_option maxHeartbeats 4000000 in
theorem v237_at (X : Valuation τ sig (Elt Ideal)) (h : Fin 8) (q : Fin 64) (k : Fin 768) :
    (R X main_v237 : FVec Ideal S8x64x768 .f32) (ix3 h q k)
    = if hk : 4 ≤ k.val / 64 ∧ k.val / 64 < 12 then biasW X (ix4 h ⟨k.val / 64 + 7 - 11, by omega⟩ q ⟨k.val % 64, by omega⟩)
      else (⊥ : EReal) := by
  unfold R
  after_reads_simp
  dsimp only [Matrix.cons_val]
  after_reads_simp
  pointwise []
  simp only [MlaMath.c_bot]
  have key := fun B : FVec Ideal S8x15x64x64 .f32 => ladder k
    (fun i j => if hk : 4 ≤ i.val ∧ i.val < 12 then (B (ix4 h ⟨i.val + 7 - 11, by omega⟩ q j) : EReal) else ⊥)
    (fun _ => ⊥)
    (fun _ => ⊥)
    (fun _ => ⊥)
    (fun _ => ⊥)
    (fun j => B (ix4 h ⟨0, by omega⟩ q j))
    (fun j => B (ix4 h ⟨1, by omega⟩ q j))
    (fun j => B (ix4 h ⟨2, by omega⟩ q j))
    (fun j => B (ix4 h ⟨3, by omega⟩ q j))
    (fun j => B (ix4 h ⟨4, by omega⟩ q j))
    (fun j => B (ix4 h ⟨5, by omega⟩ q j))
    (fun j => B (ix4 h ⟨6, by omega⟩ q j))
    (fun j => B (ix4 h ⟨7, by omega⟩ q j))
    (fun _ => Eq.symm (dif_neg (show ¬(4 ≤ 0 ∧ 0 < 12) by decide))) (fun _ => Eq.symm (dif_neg (show ¬(4 ≤ 1 ∧ 1 < 12) by decide))) (fun _ => Eq.symm (dif_neg (show ¬(4 ≤ 2 ∧ 2 < 12) by decide))) (fun _ => Eq.symm (dif_neg (show ¬(4 ≤ 3 ∧ 3 < 12) by decide))) (fun _ => Eq.symm (dif_pos (show 4 ≤ 4 ∧ 4 < 12 by decide))) (fun _ => Eq.symm (dif_pos (show 4 ≤ 5 ∧ 5 < 12 by decide))) (fun _ => Eq.symm (dif_pos (show 4 ≤ 6 ∧ 6 < 12 by decide))) (fun _ => Eq.symm (dif_pos (show 4 ≤ 7 ∧ 7 < 12 by decide))) (fun _ => Eq.symm (dif_pos (show 4 ≤ 8 ∧ 8 < 12 by decide))) (fun _ => Eq.symm (dif_pos (show 4 ≤ 9 ∧ 9 < 12 by decide))) (fun _ => Eq.symm (dif_pos (show 4 ≤ 10 ∧ 10 < 12 by decide))) (fun _ => Eq.symm (dif_pos (show 4 ≤ 11 ∧ 11 < 12 by decide)))
  exact key (biasW X)

theorem concat_rows_congr {a b e d a' b' e' d' : FVec Ideal S8x64x768 .f32} (ha : a = a') (hb : b = b') (he : e = e') (hd : d = d') :
    concatenate S8x256x768 1 [⟨S8x64x768, a⟩, ⟨S8x64x768, b⟩, ⟨S8x64x768, e⟩, ⟨S8x64x768, d⟩]
        concatenates_S8x64x768_S8x64x768_S8x64x768_S8x64x768_S8x256x768_d1
    = concatenate S8x256x768 1 [⟨S8x64x768, a'⟩, ⟨S8x64x768, b'⟩, ⟨S8x64x768, e'⟩, ⟨S8x64x768, d'⟩]
        concatenates_S8x64x768_S8x64x768_S8x64x768_S8x64x768_S8x256x768_d1 := by
  subst ha hb he hd; rfl

theorem concat_tabs_congr {a b e a' b' e' : FVec Ideal S8x1x256x768 .f32} (ha : a = a') (hb : b = b') (he : e = e') :
    concatenate S8x3x256x768 1 [⟨S8x1x256x768, a⟩, ⟨S8x1x256x768, b⟩, ⟨S8x1x256x768, e⟩]
        concatenates_S8x1x256x768_S8x1x256x768_S8x1x256x768_S8x3x256x768_d1
    = concatenate S8x3x256x768 1 [⟨S8x1x256x768, a'⟩, ⟨S8x1x256x768, b'⟩, ⟨S8x1x256x768, e'⟩]
        concatenates_S8x1x256x768_S8x1x256x768_S8x1x256x768_S8x3x256x768_d1 := by
  subst ha hb he; rfl

/-- Four query rows of a group, one after the other. -/
abbrev rows4 (a b e d : FVec Ideal S8x64x768 .f32) : FVec Ideal S8x256x768 .f32 :=
  concatenate S8x256x768 1 [⟨S8x64x768, a⟩, ⟨S8x64x768, b⟩, ⟨S8x64x768, e⟩, ⟨S8x64x768, d⟩]
    concatenates_S8x64x768_S8x64x768_S8x64x768_S8x64x768_S8x256x768_d1

/-- The three patterns, one after the other. -/
abbrev tabs3 (a b e : FVec Ideal S8x256x768 .f32) : FVec Ideal S8x3x256x768 .f32 :=
  concatenate S8x3x256x768 1
    [⟨S8x1x256x768, broadcastInDim S8x1x256x768 ![0, 2, 3] bcast_S8x256x768_S8x1x256x768_0_2_3 a⟩,
     ⟨S8x1x256x768, broadcastInDim S8x1x256x768 ![0, 2, 3] bcast_S8x256x768_S8x1x256x768_0_2_3 b⟩,
     ⟨S8x1x256x768, broadcastInDim S8x1x256x768 ![0, 2, 3] bcast_S8x256x768_S8x1x256x768_0_2_3 e⟩]
    concatenates_S8x1x256x768_S8x1x256x768_S8x1x256x768_S8x3x256x768_d1

theorem row_congr (a : FVec Ideal S8x64x768 .f32) (h : Fin 8) (k : Fin 768) {q q' : Fin 64} (hq : q.val = q'.val) :
    a (ix3 h q k) = a (ix3 h q' k) := by
  rw [Fin.ext hq]

theorem rows4_at (a b e d : FVec Ideal S8x64x768 .f32) (h : Fin 8) (q : Fin 256) (k : Fin 768) :
    rows4 a b e d (ix3 h q k) = if q.val / 64 = 0 then a (ix3 h ⟨q.val % 64, by omega⟩ k)
      else if q.val / 64 = 1 then b (ix3 h ⟨q.val % 64, by omega⟩ k)
      else if q.val / 64 = 2 then e (ix3 h ⟨q.val % 64, by omega⟩ k) else d (ix3 h ⟨q.val % 64, by omega⟩ k) := by
  have hq : q.val / 64 = 0 ∨ q.val / 64 = 1 ∨ q.val / 64 = 2 ∨ q.val / 64 = 3 := by omega
  pointwise []
  rcases hq with hq | hq | hq | hq <;>
    simp only [hq, reduceIte, OfNat.ofNat_ne_zero, OfNat.ofNat_ne_one, one_ne_zero, Nat.reduceEqDiff] <;>
    split_ifs <;> first | omega | exact row_congr _ h k (by first | omega | (simp; omega))

theorem tabs3_at (a b e : FVec Ideal S8x256x768 .f32) (h : Fin 8) (p : Fin 3) (q : Fin 256) (k : Fin 768) :
    tabs3 a b e (ix4 h p q k) = if p.val = 0 then a (ix3 h q k) else if p.val = 1 then b (ix3 h q k) else e (ix3 h q k) := by
  pointwise []
  split_ifs <;> first | omega | rfl

theorem v100_eq (X : Valuation τ sig (Elt Ideal)) : (R X main_v100 : FVec Ideal S8x256x768 .f32)
    = rows4 (R X main_v48) (R X main_v65) (R X main_v82) (R X main_v99) := by
  unfold R rows4
  after_reads_simp
  dsimp only [Matrix.cons_val]
  refine concat_rows_congr ?_ ?_ ?_ ?_ <;> after_reads_simp

theorem v169_eq (X : Valuation τ sig (Elt Ideal)) : (R X main_v169 : FVec Ideal S8x256x768 .f32)
    = rows4 (R X main_v117) (R X main_v134) (R X main_v151) (R X main_v168) := by
  unfold R rows4
  after_reads_simp
  dsimp only [Matrix.cons_val]
  refine concat_rows_congr ?_ ?_ ?_ ?_ <;> after_reads_simp

theorem v238_eq (X : Valuation τ sig (Elt Ideal)) : (R X main_v238 : FVec Ideal S8x256x768 .f32)
    = rows4 (R X main_v186) (R X main_v203) (R X main_v220) (R X main_v237) := by
  unfold R rows4
  after_reads_simp
  dsimp only [Matrix.cons_val]
  refine concat_rows_congr ?_ ?_ ?_ ?_ <;> after_reads_simp

theorem v242_eq (X : Valuation τ sig (Elt Ideal)) : (R X main_v242 : FVec Ideal S8x3x256x768 .f32)
    = tabs3 (R X main_v100) (R X main_v169) (R X main_v238) := by
  unfold R tabs3
  after_reads_simp
  dsimp only [Matrix.cons_val]
  refine concat_tabs_congr ?_ ?_ ?_ <;> after_reads_simp

/-- Where, among a group's twelve key rows, the eight rows a query row sees begin. -/
abbrev start (p : Fin 3) (r : ℕ) : ℕ := if p.val = 0 then 0 else if p.val = 1 then r else 4

theorem v242_at (X : Valuation τ sig (Elt Ideal)) (h : Fin 8) (p : Fin 3) (q : Fin 256) (k : Fin 768) :
    (R X main_v242 : FVec Ideal S8x3x256x768 .f32) (ix4 h p q k)
    = if start p (q.val / 64) ≤ k.val / 64 ∧ k.val / 64 < start p (q.val / 64) + 8 then
        biasW X (ix4 h ⟨min (k.val / 64 + 7 - (4 * p.val + q.val / 64)) 14, by omega⟩ ⟨q.val % 64, by omega⟩ ⟨k.val % 64, by omega⟩)
      else (⊥ : EReal) := by
  rw [v242_eq, tabs3_at, v100_eq, v169_eq, v238_eq, rows4_at, rows4_at, rows4_at]
  rw [v48_at, v65_at, v82_at, v99_at, v117_at, v134_at, v151_at, v168_at, v186_at, v203_at, v220_at, v237_at]
  unfold biasW
  generalize X (Proc.devRef (Proc.tc (τ := τ)) main_v30) = B
  have hp : p.val = 0 ∨ p.val = 1 ∨ p.val = 2 := by omega
  have hq : q.val / 64 = 0 ∨ q.val / 64 = 1 ∨ q.val / 64 = 2 ∨ q.val / 64 = 3 := by omega
  rcases hp with hp | hp | hp <;> rcases hq with hq | hq | hq | hq <;>
    simp only [start, hp, hq, if_true, if_false, reduceIte, OfNat.ofNat_ne_zero, OfNat.ofNat_ne_one, one_ne_zero, Nat.reduceEqDiff] <;>
    split_ifs <;> first | rfl | omega | exact ix_congr B h (by simp only []; omega) rfl rfl

end Cert.NaIdeal.Attn
-- ==== Proof.NaRefWords.lean ====
/- The reference's integer words: the key a band slot names, its displacements, and whether it is in the window. -/
module

public import proofs.«01_k».proof.Proof.Gen.NaRefIdeal.Read
public import Idealize.ShloMosaic.Lib.Pipeline.ValueKit

@[expose] public section

set_option maxRecDepth 16384

noncomputable section

open Idealize.ShloMosaic Idealize.ShloMosaic.TcCoe Idealize.SL.Sem

namespace Cert.NaRefIdeal.Attn

open Cert.NaRefIdeal Cert.NaRefIdeal.Read

/-- The first key row of query row `r`. -/
abbrev st (r : Fin 64) : ℕ := min (r.val - 4) 56

/-- Where the sixteen key columns of query column `c` begin. -/
abbrev cst (c : Fin 64) : ℕ := min (c.val - 8) 48

theorem toNat_word (x : ℕ) (h : x < 2147483648) : (BitVec.ofNat 32 x).toInt.toNat = x := by
  rw [BitVec.toInt_eq_toNat_of_lt (by rw [BitVec.toNat_ofNat]; omega), BitVec.toNat_ofNat]
  omega

theorem row_word : ∀ (r : Fin 64) (j : Fin 8),
    IntOp.addi (IntOp.minsi (56#32) (IntOp.maxsi (0#32) (IntOp.subi (BitVec.ofNat 32 r.val) 4#32)))
      (BitVec.ofNat 32 j.val) = BitVec.ofNat 32 (st r + j.val) := by
  decide +kernel

theorem valid_word : ∀ (c k : Fin 64),
    IntOp.andi
      (IntOp.cmpi CmpIPredicate.sge (BitVec.ofNat 32 k.val)
        (IntOp.minsi (48#32) (IntOp.maxsi (0#32) (IntOp.subi (BitVec.ofNat 32 c.val) 8#32))))
      (IntOp.cmpi CmpIPredicate.slt (BitVec.ofNat 32 k.val)
        (IntOp.addi (IntOp.minsi (48#32) (IntOp.maxsi (0#32) (IntOp.subi (BitVec.ofNat 32 c.val) 8#32)))
          16#32)) = if cst c ≤ k.val ∧ k.val < cst c + 16 then 1#1 else 0#1 := by
  decide +kernel

theorem dr_word : ∀ (r : Fin 64) (j : Fin 8),
    Scalar.select (IntOp.cmpi CmpIPredicate.slt
      (IntOp.addi (IntOp.subi (BitVec.ofNat 32 (st r + j.val)) (BitVec.ofNat 32 r.val)) 7#32) 0#32)
      (IntOp.addi (IntOp.addi (IntOp.subi (BitVec.ofNat 32 (st r + j.val)) (BitVec.ofNat 32 r.val)) 7#32) 15#32)
      (IntOp.addi (IntOp.subi (BitVec.ofNat 32 (st r + j.val)) (BitVec.ofNat 32 r.val)) 7#32)
      = BitVec.ofNat 32 (st r + j.val + 7 - r.val) := by
  decide +kernel

theorem dc_word : ∀ (c k : Fin 64),
    Scalar.select (IntOp.cmpi CmpIPredicate.slt
      (IntOp.minsi (30#32) (IntOp.maxsi (0#32)
        (IntOp.addi (IntOp.subi (BitVec.ofNat 32 k.val) (BitVec.ofNat 32 c.val)) 15#32))) 0#32)
      (IntOp.addi (IntOp.minsi (30#32) (IntOp.maxsi (0#32)
        (IntOp.addi (IntOp.subi (BitVec.ofNat 32 k.val) (BitVec.ofNat 32 c.val)) 15#32))) 31#32)
      (IntOp.minsi (30#32) (IntOp.maxsi (0#32)
        (IntOp.addi (IntOp.subi (BitVec.ofNat 32 k.val) (BitVec.ofNat 32 c.val)) 15#32)))
      = BitVec.ofNat 32 (min (k.val + 15 - c.val) 30) := by
  decide +kernel

/-- The position of the `n`-th key of query row `r`. -/
theorem key_at (r : Fin 64) (n : Fin 512) :
    (val_main_v32 (F := Ideal) (ix2 r n)).toInt.toNat = 64 * st r + n.val := by
  simp only [val_main_v9_apply, val_main_v10_apply, val_main_c_apply, val_main_v11_apply, val_main_v12_apply,
    val_main_c_0_apply, val_main_c_1_apply, val_main_call0_v0_apply, val_main_call0_v1_apply,
    val_main_call0_v2_apply, val_main_call0_v3_apply, val_main_call0_v4_apply, val_main_v13_apply,
    val_main_v14_apply, val_main_v15_apply, val_main_v16_apply, val_main_v17_apply, val_main_v18_apply,
    val_main_v19_apply, val_main_v20_apply, val_main_v21_apply, val_main_v22_apply, val_main_c_2_apply,
    val_main_v23_apply, val_main_v24_apply, val_main_v25_apply, val_main_c_3_apply, val_main_v26_apply,
    val_main_v27_apply, val_main_v28_apply, val_main_v29_apply, val_main_v30_apply, val_main_v31_apply,
    val_main_v32_apply, val_main_v33_apply, val_main_v34_apply, val_main_v35_apply, val_main_v36_apply,
    val_main_v37_apply, val_main_v38_apply, val_main_c_4_apply, val_main_v39_apply, val_main_v40_apply,
    val_main_c_5_apply, val_main_c_6_apply, val_main_call1_v0_apply, val_main_call1_v1_apply,
    val_main_call1_v2_apply, val_main_call1_v3_apply, val_main_call1_v4_apply, val_main_v41_apply,
    val_main_v42_apply, val_main_v43_apply, val_main_v44_apply, val_main_v45_apply, val_main_v46_apply,
    val_main_v47_apply, val_main_v48_apply, val_main_c_7_apply, val_main_v49_apply, val_main_v50_apply,
    val_main_v51_apply, val_main_v52_apply, val_main_v53_apply, val_main_v54_apply, val_main_v55_apply,
    val_main_v56_apply, val_main_v57_apply, val_main_v58_apply, val_main_v59_apply, val_main_c_8_apply,
    val_main_v60_apply, val_main_v61_apply, val_main_c_9_apply, val_main_c_10_apply,
    val_main_call2_v0_apply, val_main_call2_v1_apply, val_main_call2_v2_apply, val_main_call2_v3_apply,
    val_main_call2_v4_apply, val_main_v62_apply, val_main_call3_v0_apply, val_main_call4_v0_apply]
  change (IntOp.addi (IntOp.muli (IntOp.addi (IntOp.minsi (56#32)
      (IntOp.maxsi (0#32) (IntOp.subi (BitVec.ofNat 32 ((r.val * 512 + n.val) / 512)) 4#32)))
      (BitVec.ofNat 32 ((r.val * 512 + n.val) / 64 % 8))) 64#32)
      (BitVec.ofNat 32 ((r.val * 512 + n.val) % 64))).toInt.toNat = _
  rw [show (r.val * 512 + n.val) / 512 = r.val by omega,
    show (r.val * 512 + n.val) / 64 % 8 = n.val / 64 by omega,
    show (r.val * 512 + n.val) % 64 = n.val % 64 by omega]
  have h := row_word r ⟨n.val / 64, by omega⟩
  simp only at h
  rw [h]
  have : IntOp.addi (IntOp.muli (BitVec.ofNat 32 (st r + n.val / 64)) 64#32)
      (BitVec.ofNat 32 (n.val % 64)) = BitVec.ofNat 32 ((st r + n.val / 64) * 64 + n.val % 64) := by
    rw [BitVec.ofNat_add ((st r + n.val / 64) * 64), BitVec.ofNat_mul]; rfl
  have hs : st r ≤ 56 := min_le_right _ _
  rw [this, toNat_word _ (by omega)]
  omega

/-- Which keys query column `c` may see. -/
theorem valid_at (c : Fin 64) (n : Fin 512) :
    val_main_v54 (F := Ideal) (ix2 c n)
      = if cst c ≤ n.val % 64 ∧ n.val % 64 < cst c + 16 then 1#1 else 0#1 := by
  simp only [val_main_v9_apply, val_main_v10_apply, val_main_c_apply, val_main_v11_apply, val_main_v12_apply,
    val_main_c_0_apply, val_main_c_1_apply, val_main_call0_v0_apply, val_main_call0_v1_apply,
    val_main_call0_v2_apply, val_main_call0_v3_apply, val_main_call0_v4_apply, val_main_v13_apply,
    val_main_v14_apply, val_main_v15_apply, val_main_v16_apply, val_main_v17_apply, val_main_v18_apply,
    val_main_v19_apply, val_main_v20_apply, val_main_v21_apply, val_main_v22_apply, val_main_c_2_apply,
    val_main_v23_apply, val_main_v24_apply, val_main_v25_apply, val_main_c_3_apply, val_main_v26_apply,
    val_main_v27_apply, val_main_v28_apply, val_main_v29_apply, val_main_v30_apply, val_main_v31_apply,
    val_main_v32_apply, val_main_v33_apply, val_main_v34_apply, val_main_v35_apply, val_main_v36_apply,
    val_main_v37_apply, val_main_v38_apply, val_main_c_4_apply, val_main_v39_apply, val_main_v40_apply,
    val_main_c_5_apply, val_main_c_6_apply, val_main_call1_v0_apply, val_main_call1_v1_apply,
    val_main_call1_v2_apply, val_main_call1_v3_apply, val_main_call1_v4_apply, val_main_v41_apply,
    val_main_v42_apply, val_main_v43_apply, val_main_v44_apply, val_main_v45_apply, val_main_v46_apply,
    val_main_v47_apply, val_main_v48_apply, val_main_c_7_apply, val_main_v49_apply, val_main_v50_apply,
    val_main_v51_apply, val_main_v52_apply, val_main_v53_apply, val_main_v54_apply, val_main_v55_apply,
    val_main_v56_apply, val_main_v57_apply, val_main_v58_apply, val_main_v59_apply, val_main_c_8_apply,
    val_main_v60_apply, val_main_v61_apply, val_main_c_9_apply, val_main_c_10_apply,
    val_main_call2_v0_apply, val_main_call2_v1_apply, val_main_call2_v2_apply, val_main_call2_v3_apply,
    val_main_call2_v4_apply, val_main_v62_apply, val_main_call3_v0_apply, val_main_call4_v0_apply]
  exact valid_word c ⟨n.val % 64, by omega⟩

/-- The row displacement of the `n`-th key of query row `r`. -/
theorem dr_at (r c : Fin 64) (n : Fin 512) :
    (val_main_v81 (F := Ideal) (ix4 r c n 0)).toInt.toNat = st r + n.val / 64 + 7 - r.val := by
  simp only [val_main_v9_apply, val_main_v10_apply, val_main_c_apply, val_main_v11_apply, val_main_v12_apply,
    val_main_c_0_apply, val_main_c_1_apply, val_main_call0_v0_apply, val_main_call0_v1_apply,
    val_main_call0_v2_apply, val_main_call0_v3_apply, val_main_call0_v4_apply, val_main_v13_apply,
    val_main_v14_apply, val_main_v15_apply, val_main_v16_apply, val_main_v17_apply, val_main_v18_apply,
    val_main_v19_apply, val_main_v20_apply, val_main_v21_apply, val_main_v22_apply, val_main_c_2_apply,
    val_main_v23_apply, val_main_v24_apply, val_main_v25_apply, val_main_c_3_apply, val_main_v26_apply,
    val_main_v27_apply, val_main_v28_apply, val_main_v29_apply, val_main_v30_apply, val_main_v31_apply,
    val_main_v32_apply, val_main_v33_apply, val_main_v34_apply, val_main_v35_apply, val_main_v36_apply,
    val_main_v37_apply, val_main_v38_apply, val_main_c_4_apply, val_main_v39_apply, val_main_v40_apply,
    val_main_c_5_apply, val_main_c_6_apply, val_main_call1_v0_apply, val_main_call1_v1_apply,
    val_main_call1_v2_apply, val_main_call1_v3_apply, val_main_call1_v4_apply, val_main_v41_apply,
    val_main_v42_apply, val_main_v43_apply, val_main_v44_apply, val_main_v45_apply, val_main_v46_apply,
    val_main_v47_apply, val_main_v48_apply, val_main_c_7_apply, val_main_v49_apply, val_main_v50_apply,
    val_main_v51_apply, val_main_v52_apply, val_main_v53_apply, val_main_v54_apply, val_main_v55_apply,
    val_main_v56_apply, val_main_v57_apply, val_main_v58_apply, val_main_v59_apply, val_main_c_8_apply,
    val_main_v60_apply, val_main_v61_apply, val_main_c_9_apply, val_main_c_10_apply,
    val_main_call2_v0_apply, val_main_call2_v1_apply, val_main_call2_v2_apply, val_main_call2_v3_apply,
    val_main_call2_v4_apply, val_main_v62_apply, val_main_call3_v0_apply, val_main_call4_v0_apply,
    val_main_v67_apply, val_main_v68_apply, val_main_c_11_apply, val_main_v69_apply, val_main_v70_apply,
    val_main_c_12_apply, val_main_v71_apply, val_main_v72_apply, val_main_v73_apply,
    val_main_c_13_apply, val_main_v74_apply, val_main_v75_apply, val_main_c_14_apply,
    val_main_v76_apply, val_main_v77_apply, val_main_v78_apply, val_main_v79_apply, val_main_v80_apply,
    val_main_v81_apply, val_main_v82_apply]
  change (Scalar.select (IntOp.cmpi CmpIPredicate.slt (IntOp.addi (IntOp.subi (IntOp.addi (IntOp.minsi (56#32)
      (IntOp.maxsi (0#32) (IntOp.subi (BitVec.ofNat 32 ((r.val * 512 + n.val) / 512)) 4#32)))
      (BitVec.ofNat 32 ((r.val * 512 + n.val) / 64 % 8)))
      (BitVec.ofNat 32 ((r.val * 512 + n.val) / 512))) 7#32) 0#32)
      (IntOp.addi (IntOp.addi (IntOp.subi (IntOp.addi (IntOp.minsi (56#32)
      (IntOp.maxsi (0#32) (IntOp.subi (BitVec.ofNat 32 ((r.val * 512 + n.val) / 512)) 4#32)))
      (BitVec.ofNat 32 ((r.val * 512 + n.val) / 64 % 8)))
      (BitVec.ofNat 32 ((r.val * 512 + n.val) / 512))) 7#32) 15#32)
      (IntOp.addi (IntOp.subi (IntOp.addi (IntOp.minsi (56#32)
      (IntOp.maxsi (0#32) (IntOp.subi (BitVec.ofNat 32 ((r.val * 512 + n.val) / 512)) 4#32)))
      (BitVec.ofNat 32 ((r.val * 512 + n.val) / 64 % 8)))
      (BitVec.ofNat 32 ((r.val * 512 + n.val) / 512))) 7#32)).toInt.toNat = _
  rw [show (r.val * 512 + n.val) / 512 = r.val by omega,
    show (r.val * 512 + n.val) / 64 % 8 = n.val / 64 by omega]
  have h := row_word r ⟨n.val / 64, by omega⟩
  have h' := dr_word r ⟨n.val / 64, by omega⟩
  simp only at h h'
  have hs : st r ≤ 56 := min_le_right _ _
  rw [h, h', toNat_word _ (by omega)]

/-- The column displacement of the `n`-th key of query column `c`. -/
theorem dc_at (r c : Fin 64) (n : Fin 512) :
    (val_main_v82 (F := Ideal) (ix4 r c n 0)).toInt.toNat = min (n.val % 64 + 15 - c.val) 30 := by
  simp only [val_main_v9_apply, val_main_v10_apply, val_main_c_apply, val_main_v11_apply, val_main_v12_apply,
    val_main_c_0_apply, val_main_c_1_apply, val_main_call0_v0_apply, val_main_call0_v1_apply,
    val_main_call0_v2_apply, val_main_call0_v3_apply, val_main_call0_v4_apply, val_main_v13_apply,
    val_main_v14_apply, val_main_v15_apply, val_main_v16_apply, val_main_v17_apply, val_main_v18_apply,
    val_main_v19_apply, val_main_v20_apply, val_main_v21_apply, val_main_v22_apply, val_main_c_2_apply,
    val_main_v23_apply, val_main_v24_apply, val_main_v25_apply, val_main_c_3_apply, val_main_v26_apply,
    val_main_v27_apply, val_main_v28_apply, val_main_v29_apply, val_main_v30_apply, val_main_v31_apply,
    val_main_v32_apply, val_main_v33_apply, val_main_v34_apply, val_main_v35_apply, val_main_v36_apply,
    val_main_v37_apply, val_main_v38_apply, val_main_c_4_apply, val_main_v39_apply, val_main_v40_apply,
    val_main_c_5_apply, val_main_c_6_apply, val_main_call1_v0_apply, val_main_call1_v1_apply,
    val_main_call1_v2_apply, val_main_call1_v3_apply, val_main_call1_v4_apply, val_main_v41_apply,
    val_main_v42_apply, val_main_v43_apply, val_main_v44_apply, val_main_v45_apply, val_main_v46_apply,
    val_main_v47_apply, val_main_v48_apply, val_main_c_7_apply, val_main_v49_apply, val_main_v50_apply,
    val_main_v51_apply, val_main_v52_apply, val_main_v53_apply, val_main_v54_apply, val_main_v55_apply,
    val_main_v56_apply, val_main_v57_apply, val_main_v58_apply, val_main_v59_apply, val_main_c_8_apply,
    val_main_v60_apply, val_main_v61_apply, val_main_c_9_apply, val_main_c_10_apply,
    val_main_call2_v0_apply, val_main_call2_v1_apply, val_main_call2_v2_apply, val_main_call2_v3_apply,
    val_main_call2_v4_apply, val_main_v62_apply, val_main_call3_v0_apply, val_main_call4_v0_apply,
    val_main_v67_apply, val_main_v68_apply, val_main_c_11_apply, val_main_v69_apply, val_main_v70_apply,
    val_main_c_12_apply, val_main_v71_apply, val_main_v72_apply, val_main_v73_apply,
    val_main_c_13_apply, val_main_v74_apply, val_main_v75_apply, val_main_c_14_apply,
    val_main_v76_apply, val_main_v77_apply, val_main_v78_apply, val_main_v79_apply, val_main_v80_apply,
    val_main_v81_apply, val_main_v82_apply]
  have h := dc_word c ⟨n.val % 64, by omega⟩
  refine (congrArg (fun w : BitVec 32 => w.toInt.toNat) h).trans (toNat_word _ (by omega))

end Cert.NaRefIdeal.Attn
-- ==== Proof.NaTake.lean ====
/- The masked bias the host of the neighbourhood attention prepares, read at a displacement row, a query column, a key column. -/
module

public import proofs.«01_k».proof.Proof.Gen.NaIdeal.Frame
public import proofs.«01_k».proof.Proof.MlaMath
public import proofs.«01_k».proof.Proof.NaRefWords
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.NaIdeal.Attn

open Cert Cert.NaIdeal Cert.NaIdeal.Gen
open Cert.NaRefIdeal.Attn (cst)

variable (m : (ℓ : Loc nD τ sig) → Buf (Elt Ideal) ℓ) (c : Dev nD)

abbrev argX : FVec Ideal S8192x3072 .bf16 := m ((c : Thread nD τ).loc main_arg0)
abbrev argB : FVec Ideal S2x8x15x31 .f32 := m ((c : Thread nD τ).loc main_arg1)

/-- The host's take along the last axis of the table: its column at the word read at the query and the key column. -/
theorem col_gather {α : Type} (x : S8x15x31.Idx → α) (idx : IVec S64x64x1 32) (h : Fin 8) (d : Fin 15) (q k : Fin 64) :
    Host.gather gather_S8x15x31_S64x64x1_S8x15x64x64_01_2_n_n_2_2_8151 x idx (ix4 h d q k)
      = x (ix3 h d ⟨min (idx (ix3 q k 0)).toInt.toNat 30, by omega⟩) := by
  unfold Host.gather
  congr 1
  funext a
  refine Fin.ext ?_
  match a with
  | ⟨0, _⟩ => exact Nat.zero_add _
  | ⟨1, _⟩ => exact Nat.zero_add _
  | ⟨2, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (show (2 : Fin 3) ∈ ([2] : List (Fin 3)) by decide)).trans ?_
    refine congrArg (fun w : BitVec 32 => min w.toInt.toNat 30) (congrArg idx ?_)
    funext c
    refine Fin.ext ?_
    match c with
    | ⟨0, _⟩ => rfl
    | ⟨1, _⟩ => rfl
    | ⟨2, _⟩ => rfl

theorem take_word : ∀ (c k : Fin 64),
    IntOp.minsi (30#32) (IntOp.maxsi (0#32)
        (IntOp.addi (IntOp.subi (BitVec.ofNat 32 k.val) (BitVec.ofNat 32 c.val)) 15#32))
      = BitVec.ofNat 32 (min (k.val + 15 - c.val) 30) := by
  decide +kernel

theorem v30_at (h : Fin 8) (d : Fin 15) (q k : Fin 64) :
    (StableHlo.after (List.flatten [hostOps0, hostOps0_1, hostOps0_2, hostOps0_3, hostOps0_4, hostOps0_5, hostOps0_6])
    (fun b => m (c, b)) (Proc.devRef (Proc.tc (τ := τ)) main_v30) : FVec Ideal S8x15x64x64 .f32) (ix4 h d q k)
    = if cst q ≤ k.val ∧ k.val < cst q + 16 then argB m c (ix4 0 h d ⟨min (k.val + 15 - q.val) 30, by omega⟩) else (⊥ : EReal) := by
  after_reads_at
  rw [col_gather]
  pointwise []
  have hv : IntOp.andi
      (IntOp.cmpi CmpIPredicate.sge (BitVec.ofNat 32 k.val)
        (IntOp.minsi (id (constantI S_ 32 48#32) ix0) (IntOp.maxsi (id (constantI S_ 32 0#32) ix0) (IntOp.subi (BitVec.ofNat 32 q.val) 8#32))))
      (IntOp.cmpi CmpIPredicate.slt (BitVec.ofNat 32 k.val)
        (IntOp.addi (IntOp.minsi (id (constantI S_ 32 48#32) ix0) (IntOp.maxsi (id (constantI S_ 32 0#32) ix0) (IntOp.subi (BitVec.ofNat 32 q.val) 8#32)))
          16#32)) = if cst q ≤ k.val ∧ k.val < cst q + 16 then 1#1 else 0#1 := NaRefIdeal.Attn.valid_word q k
  have hz : (id (constant (F := Ideal) S_ FTy.f32 0xFF800000#32) ix0 : EReal) = ⊥ := MlaMath.c_bot
  have hd : (IntOp.minsi (id (constantI S_ 32 30#32) ix0) (IntOp.maxsi (id (constantI S_ 32 0#32) ix0)
      (IntOp.addi (IntOp.subi (BitVec.ofNat 32 k.val) (BitVec.ofNat 32 q.val)) 15#32))).toInt.toNat = min (k.val + 15 - q.val) 30 :=
    (congrArg (fun w : BitVec 32 => w.toInt.toNat) (take_word q k)).trans (NaRefIdeal.Attn.toNat_word _ (by omega))
  rw [hv]
  by_cases hc : cst q ≤ k.val ∧ k.val < cst q + 16
  · rw [if_pos hc, if_pos hc]
    refine (show Scalar.select (1#1) _ _ = _ from rfl).trans ?_
    exact congrArg (fun x : Fin 31 => argB m c (ix4 0 h d x)) (Fin.ext (by dsimp only; rw [hd]; omega))
  · rw [if_neg hc, if_neg hc]
    exact hz

end Cert.NaIdeal.Attn
-- ==== Proof.NaPay.lean ====
/- One trip of the neighbourhood attention's loop: the softmax of a band of keys, read at a row and a lane. -/
module

public import proofs.«01_k».proof.Proof.Gen.NaIdeal.Frame
public import proofs.«01_k».proof.Proof.NaMath
public import proofs.«01_k».proof.Proof.MlaMath
public import Idealize.ShloMosaic.Lib.Pipeline.ValueKit

@[expose] public section

set_option maxRecDepth 16384

noncomputable section

open Idealize.ShloMosaic Idealize.ShloMosaic.TcCoe Idealize.SL.Sem

namespace Cert.NaIdeal.Attn

open Cert Cert.NaIdeal Cert.NaIdeal.Gen

/-- The score of query `q` against key `k` of the band. -/
abbrev score (v14 : Vec Ideal S256x128 .bf16) (v16 : Vec Ideal S768x128 .bf16) (v23 : Vec Ideal S1x1x256x768 .f32)
    (q : Fin 256) (k : Fin 768) : EReal :=
  (∑ d : Fin 128, (v14 (ix2 q d) : EReal) * v16 (ix2 k d)) * Ideal.ofBits .f32 0x3DB504F3#32 + v23 (ix4 0 0 q k)

/-- The largest score of a row. -/
abbrev top (s : Fin 768 → EReal) : EReal := Finset.univ.fold max ⊥ s

theorem pay_at (v14 : Vec Ideal S256x128 .bf16) (v16 v18 : Vec Ideal S768x128 .bf16) (v23 : Vec Ideal S1x1x256x768 .f32)
    (q : Fin 256) (d : Fin 128) :
    (k0_pay1 (F := Ideal) v14 v16 v18 v23 (ix2 q d) : EReal)
      = Ideal.div (∑ k, Ideal.exp (score v14 v16 v23 q k - top (score v14 v16 v23 q)) * v18 (ix2 k d))
          (∑ k, Ideal.exp (score v14 v16 v23 q k - top (score v14 v16 v23 q))) := by
  unfold k0_pay1
  pointwise []
  rw [MlaMath.c_bot]

theorem off1_0 : ∀ k : Fin 16, k0_off1 k 0 = 256 * k.val := by decide +kernel
theorem off1_1 : ∀ k : Fin 16, k0_off1 k 1 = 0 := by decide +kernel
theorem off2_0 : ∀ k : Fin 16, k0_off2 k 0 = 64 * min (4 * k.val - 4) 52 := by decide +kernel
theorem off2_1 : ∀ k : Fin 16, k0_off2 k 1 = 0 := by decide +kernel
theorem off3_0 : ∀ k : Fin 16, k0_off3 k 0 = 0 := by decide +kernel
theorem off3_1 : ∀ k : Fin 16, k0_off3 k 1 = if k.val = 0 then 0 else if k.val = 15 then 2 else 1 := by decide +kernel
theorem off3_2 : ∀ k : Fin 16, k0_off3 k 2 = 0 := by decide +kernel
theorem off3_3 : ∀ k : Fin 16, k0_off3 k 3 = 0 := by decide +kernel

end Cert.NaIdeal.Attn
-- ==== Proof.NaPieces.lean ====
/- What a grid point of the neighbourhood attention stores: sixteen groups of four query rows, each against its twelve key rows. -/
module

public import proofs.«01_k».proof.Proof.NaPay
public import proofs.«01_k».proof.Proof.Gen.NaIdeal.Frame
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.NaIdeal.Attn

open Cert Cert.NaIdeal Cert.NaIdeal.Gen

/-- The group of four query rows a query stands in. -/
abbrev grp (y : Fin 4096) : Fin 16 := ⟨y.val / 256, by omega⟩

/-- The `k`-th key of the twelve key rows a group reads. -/
abbrev band (g : Fin 16) (k : Fin 768) : Fin 4096 := ⟨64 * min (4 * g.val - 4) 52 + k.val, by omega⟩

/-- The pattern of the bias table a group uses: the first, the last, the others. -/
abbrev pat (g : Fin 16) : Fin 3 := ⟨if g.val = 0 then 0 else if g.val = 15 then 2 else 1, by split_ifs <;> omega⟩

/-- A query's place in its group. -/
abbrev plc (y : Fin 4096) : Fin 256 := ⟨y.val % 256, by omega⟩

/-- The score of query `y` against the `k`-th key of its group's band. -/
abbrev sc (x0 x1 : Vec Ideal S4096x128 .bf16) (x3 : Vec Ideal S1x3x256x768 .f32) (y : Fin 4096) (k : Fin 768) : EReal :=
  (∑ d : Fin 128, (x0 (ix2 y d) : EReal) * x1 (ix2 (band (grp y) k) d)) * Ideal.ofBits .f32 0x3DB504F3#32
    + x3 (ix4 0 (pat (grp y)) (plc y) k)

/-- The block of results of one image and one head. -/
def attn (x0 x1 x2 : Vec Ideal S4096x128 .bf16) (x3 : Vec Ideal S1x3x256x768 .f32) : Vec Ideal S4096x128 .bf16 :=
  fun y => (Ideal.div (∑ k, Ideal.exp (sc x0 x1 x3 (y 0) k - top (sc x0 x1 x3 (y 0))) * x2 (ix2 (band (grp (y 0)) k) (y 1)))
    (∑ k, Ideal.exp (sc x0 x1 x3 (y 0) k - top (sc x0 x1 x3 (y 0)))) : EReal)

/-- The `q`-th query of a group. -/
abbrev qry (g : Fin 16) (q : Fin 256) : Fin 4096 := ⟨256 * g.val + q.val, by omega⟩

/-- A load's index in a block of rows, by its offsets. -/
theorem unit_idx2 {n : ℕ} (off : Fin 2 → ℕ) (inb : ∀ a, off a + (![n, 128] : Fin 2 → ℕ) a ≤ S4096x128.size a) (q : Fin n) (d : Fin 128)
    (o : ℕ) (ho : o + q.val < 4096) (e0 : off 0 = o) (e1 : off 1 = 0) :
    (Rect.unit (s := S4096x128) off (![n, 128] : Fin 2 → ℕ) inb).emb (ix2 q d) = ix2 ⟨o + q.val, ho⟩ d := by
  funext a
  refine Fin.ext ?_
  match a with
  | ⟨0, _⟩ => show off 0 + 1 * q.val = o + q.val; rw [e0]; omega
  | ⟨1, _⟩ => show off 1 + 1 * d.val = d.val; rw [e1]; omega

theorem attn_at (x0 x1 x2 : Vec Ideal S4096x128 .bf16) (x3 : Vec Ideal S1x3x256x768 .f32) (g : Fin 16)
    (v14 : Vec Ideal S256x128 .bf16) (v16 v18 : Vec Ideal S768x128 .bf16) (v23 : Vec Ideal S1x1x256x768 .f32) (q : Fin 256) (d : Fin 128)
    (e0 : ∀ d, v14 (ix2 q d) = x0 (ix2 (qry g q) d)) (e1 : ∀ k d, v16 (ix2 k d) = x1 (ix2 (band g k) d))
    (e2 : ∀ k d, v18 (ix2 k d) = x2 (ix2 (band g k) d)) (e3 : ∀ k, v23 (ix4 0 0 q k) = x3 (ix4 0 (pat g) q k)) :
    (k0_pay1 (F := Ideal) v14 v16 v18 v23 (ix2 q d) : EReal) = attn x0 x1 x2 x3 (ix2 (qry g q) d) := by
  have hg : grp (qry g q) = g := Fin.ext (by show (256 * g.val + q.val) / 256 = g.val; omega)
  have hq : plc (qry g q) = q := Fin.ext (by show (256 * g.val + q.val) % 256 = q.val; omega)
  have hs : score v14 v16 v23 q = sc x0 x1 x3 (qry g q) := by
    funext k
    unfold score sc
    rw [hg, hq, e3]
    simp only [e0, e1]
  rw [pay_at, hs]
  unfold attn
  simp only [e2]
  rw [show ((ix2 (qry g q) d : S4096x128.Idx) 0) = qry g q from rfl, show ((ix2 (qry g q) d : S4096x128.Idx) 1) = d from rfl, hg]

variable (c : Dev nD) (i : grid0.Coords) (a2 a3 a4 : Memref sig .tc .vmem S4096x128 .bf16) (h2 : a2.IsWhole) (h3 : a3.IsWhole)
  (h4 : a4.IsWhole) (a5 : Memref sig .tc .vmem S1x3x256x768 .f32) (h5 : a5.IsWhole) (a6 : Memref sig .tc .vmem S4096x128 .bf16)
  (h6 : a6.IsWhole) (x0 x1 x2 : Vec Ideal S4096x128 .bf16) (x3 : Vec Ideal S1x3x256x768 .f32)

/-- Every piece of one trip is the attention block at the piece's rows. -/
theorem trip_pieces (k : Fin k0_t1_loop.trips) : ∀ p ∈ tripL_k0_t1 (F := Ideal) Variants.none c none i a2 h2 a3 h3 a4 h4 a5 h5 a6 h6
    (h2.unread x0) (h3.unread x1) (h4.unread x2) (h5.unread x3) k, ∀ x, p.2 x = attn x0 x1 x2 x3 (p.1.emb x) := by
  unfold tripL_k0_t1 trip_k0_t1
  dsimp only
  unfold trip_k0_t1.sl.r
  refine List.forall_mem_cons.mpr ⟨?_, fun _ h => absurd h List.not_mem_nil⟩
  intro x
  have hk : k.val < 16 := Nat.lt_of_lt_of_le k.isLt k0_t1_abs.2.1
  obtain ⟨q, d, rfl⟩ : ∃ (q : Fin 256) (d : Fin 128), x = ix2 q d := ⟨x 0, x 1, by blk_ext []⟩
  have hx : (Rect.unit (s := S4096x128) (k0_off1 k) S256x128.size (k0_off1_inb k)).emb (ix2 q d) = ix2 (qry ⟨k, hk⟩ q) d := by
    exact unit_idx2 _ _ _ _ _ _ (off1_0 ⟨k, hk⟩) (off1_1 ⟨k, hk⟩)
  refine Eq.trans ?_ (congrArg (attn x0 x1 x2 x3) hx).symm
  refine attn_at x0 x1 x2 x3 ⟨k, hk⟩ _ _ _ _ q d ?_ ?_ ?_ ?_
  · intro d
    rw [Memref.IsWhole.readAt_unread]
    exact congrArg x0 (unit_idx2 _ _ _ _ _ _ (off1_0 ⟨k, hk⟩) (off1_1 ⟨k, hk⟩))
  · intro k' d
    rw [Memref.IsWhole.readAt_unread]
    exact congrArg x1 (unit_idx2 _ _ _ _ _ _ (off2_0 ⟨k, hk⟩) (off2_1 ⟨k, hk⟩))
  · intro k' d
    rw [Memref.IsWhole.readAt_unread]
    exact congrArg x2 (unit_idx2 _ _ _ _ _ _ (off2_0 ⟨k, hk⟩) (off2_1 ⟨k, hk⟩))
  · intro k'
    rw [Memref.IsWhole.readAt_unread]
    refine congrArg x3 ?_
    funext a
    refine Fin.ext ?_
    match a with
    | ⟨0, _⟩ => show k0_off3 k 0 + 1 * 0 = 0; rw [show k0_off3 k 0 = 0 from off3_0 ⟨k, hk⟩]
    | ⟨1, _⟩ => show k0_off3 k 1 + 1 * 0 = _; rw [show k0_off3 k 1 = _ from off3_1 ⟨k, hk⟩]; rfl
    | ⟨2, _⟩ => show k0_off3 k 2 + 1 * q.val = q.val; rw [show k0_off3 k 2 = 0 from off3_2 ⟨k, hk⟩]; omega
    | ⟨3, _⟩ => show k0_off3 k 3 + 1 * k'.val = k'.val; rw [show k0_off3 k 3 = 0 from off3_3 ⟨k, hk⟩]; omega

theorem all_pieces : ∀ n : ℕ, n ≤ k0_t1_loop.trips → ∀ p ∈ pb_k0_t1 (F := Ideal) Variants.none c none i a2 h2 a3 h3 a4 h4 a5 h5 a6 h6
    (h2.unread x0) (h3.unread x1) (h4.unread x2) (h5.unread x3) n, ∀ x, p.2 x = attn x0 x1 x2 x3 (p.1.emb x)
  | 0, _ => fun _ h => absurd h List.not_mem_nil
  | n + 1, hn => by
    intro p hp
    rw [pb_k0_t1_succ Variants.none c none i a2 h2 a3 h3 a4 h4 a5 h5 a6 h6 _ _ _ _ ⟨n, hn⟩] at hp
    rcases List.mem_append.mp hp with hp | hp
    · exact trip_pieces c i a2 a3 a4 h2 h3 h4 a5 h5 a6 h6 x0 x1 x2 x3 ⟨n, hn⟩ p hp
    · exact all_pieces n (Nat.le_of_succ_le hn) p hp

/-- What a grid point leaves in its block of the result. -/
theorem out_eq : out0_A_4 (F := Ideal) c i a2 h2 a3 h3 a4 h4 a5 h5 a6 h6 x0 x1 x2 x3 = attn x0 x1 x2 x3 := by
  funext y
  unfold out0_A_4
  rw [View.read_writes_junk_eq_canon]
  refine View.canon_apply_of_pieces (Val := Elt Ideal) (attn x0 x1 x2 x3) _ ?_ y (cover0_A_4 c i a2 h2 a3 h3 a4 h4 a5 h5 a6 h6 x0 x1 x2 x3 y)
  unfold kernelRun0_A
  dsimp only
  exact all_pieces c i a2 a3 a4 h2 h3 h4 a5 h5 a6 h6 x0 x1 x2 x3 _ (le_refl _)

end Cert.NaIdeal.Attn

end
-- ==== Proof.NaRefGather.lean ====
/- The reference's gathers read at an index: the keys and values of a query row's band, and the bias table. -/
module

public import proofs.«01_k».proof.Proof.Gen.NaRefIdeal.Read
public import Idealize.ShloMosaic.Lib.Pipeline.ValueKit

@[expose] public section

set_option maxRecDepth 16384

noncomputable section

open Idealize.ShloMosaic Idealize.ShloMosaic.TcCoe Idealize.SL.Sem

namespace Cert.NaRefIdeal.Attn

open Cert.NaRefIdeal

/-- One index component of a band gather: the operand's second axis at the word read at the key, the others kept. -/
theorem band_gather {α : Type} (x : S2x4096x8x128.Idx → α) (idx : IVec S64x512x1 32) (b : Fin 2) (r : Fin 64) (n : Fin 512)
    (h : Fin 8) (d : Fin 128) :
    Host.gather gather_S2x4096x8x128_S64x512x1_S2x64x512x8x128_034_1_n_n_1_2_218128 x idx (ix5 b r n h d)
      = x (ix4 b ⟨min (idx (ix3 r n 0)).toInt.toNat 4095, by omega⟩ h d) := by
  unfold Host.gather
  congr 1
  funext a
  refine Fin.ext ?_
  match a with
  | ⟨0, _⟩ => exact Nat.zero_add _
  | ⟨1, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (show (1 : Fin 4) ∈ ([1] : List (Fin 4)) by decide)).trans ?_
    refine congrArg (fun w : BitVec 32 => min w.toInt.toNat 4095) (congrArg idx ?_)
    funext c
    refine Fin.ext ?_
    match c with
    | ⟨0, _⟩ => rfl
    | ⟨1, _⟩ => rfl
    | ⟨2, _⟩ => rfl
  | ⟨2, _⟩ => exact Nat.zero_add _
  | ⟨3, _⟩ => exact Nat.zero_add _

/-- The bias gather: the table's two displacement axes at the pair of words read at the query column and the key. -/
theorem bias_gather {α : Type} (x : S8x15x31.Idx → α) (idx : IVec S64x64x512x2 32) (h : Fin 8) (r c : Fin 64) (n : Fin 512) :
    Host.gather gather_S8x15x31_S64x64x512x2_S8x64x64x512_0_12_n_n_12_3_811 x idx (ix4 h r c n)
      = x (ix3 h ⟨min (idx (ix4 r c n 0)).toInt.toNat 14, by omega⟩ ⟨min (idx (ix4 r c n 1)).toInt.toNat 30, by omega⟩) := by
  unfold Host.gather
  congr 1
  funext a
  refine Fin.ext ?_
  match a with
  | ⟨0, _⟩ => exact Nat.zero_add _
  | ⟨1, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    refine (dif_pos (show (1 : Fin 3) ∈ ([1, 2] : List (Fin 3)) by decide)).trans ?_
    refine congrArg (fun w : BitVec 32 => min w.toInt.toNat 14) (congrArg idx ?_)
    funext c
    refine Fin.ext ?_
    match c with
    | ⟨0, _⟩ => rfl
    | ⟨1, _⟩ => rfl
    | ⟨2, _⟩ => rfl
    | ⟨3, _⟩ => rfl
  | ⟨2, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    refine (dif_pos (show (2 : Fin 3) ∈ ([1, 2] : List (Fin 3)) by decide)).trans ?_
    refine congrArg (fun w : BitVec 32 => min w.toInt.toNat 30) (congrArg idx ?_)
    funext c
    refine Fin.ext ?_
    match c with
    | ⟨0, _⟩ => rfl
    | ⟨1, _⟩ => rfl
    | ⟨2, _⟩ => rfl
    | ⟨3, _⟩ => rfl

end Cert.NaRefIdeal.Attn

end
-- ==== Proof.NaRef.lean ====
/- The reference of the neighbourhood attention read at an element of its result: the masked scores of a query's band of
   512 keys, their greatest, the weights, and the weighted values. -/
module

public import proofs.«01_k».proof.Proof.NaRefGather
public import proofs.«01_k».proof.Proof.NaRefWords
public import proofs.«01_k».proof.Proof.MlaMath

@[expose] public section

set_option maxRecDepth 16384

noncomputable section

open Idealize.ShloMosaic Idealize.ShloMosaic.TcCoe Idealize.SL.Sem

namespace Cert.NaRefIdeal.Attn

open Cert.NaRefIdeal Cert.NaRefIdeal.Read

theorem st_le (r : Fin 64) : st r ≤ 56 := min_le_right _ _

variable (x0 : (⟨S8192x3072, .bf16⟩ : BufTy).Contents (Elt Ideal)) (x1 : (⟨S2x8x15x31, .f32⟩ : BufTy).Contents (Elt Ideal))

/-- The row of position `p` of image `b`. -/
abbrev tok (b : Fin 2) (p : Fin 4096) : Fin 8192 := ⟨b.val * 4096 + p.val, by omega⟩
/-- Column `d` of head `h` among the queries, the keys and the values. -/
abbrev qcol (h : Fin 8) (d : Fin 128) : Fin 3072 := ⟨h.val * 128 + d.val, by omega⟩
abbrev kcol (h : Fin 8) (d : Fin 128) : Fin 3072 := ⟨1024 + (h.val * 128 + d.val), by omega⟩
abbrev vcol (h : Fin 8) (d : Fin 128) : Fin 3072 := ⟨2048 + (h.val * 128 + d.val), by omega⟩
/-- Position `(r, c)` of an image, and key `n` of query row `r`. -/
abbrev pos (r c : Fin 64) : Fin 4096 := ⟨64 * r.val + c.val, by omega⟩
abbrev key (r : Fin 64) (n : Fin 512) : Fin 4096 := ⟨64 * st r + n.val, by have := st_le r; omega⟩

theorem q_at (b : Fin 2) (p : Fin 4096) (h : Fin 8) (d : Fin 128) :
    val_main_v4 (F := Ideal) x0 (ix4 b p h d) = x0 (ix2 (tok b p) (qcol h d)) := by
  rw [val_main_v4_apply, val_main_v3_apply, val_main_v0_apply]
  exact congrArg x0 (by blk_ext [])
theorem k_at (b : Fin 2) (p : Fin 4096) (h : Fin 8) (d : Fin 128) :
    val_main_v6 (F := Ideal) x0 (ix4 b p h d) = x0 (ix2 (tok b p) (kcol h d)) := by
  rw [val_main_v6_apply, val_main_v5_apply, val_main_v1_apply]
  exact congrArg x0 (by blk_ext [])
theorem v_at (b : Fin 2) (p : Fin 4096) (h : Fin 8) (d : Fin 128) :
    val_main_v8 (F := Ideal) x0 (ix4 b p h d) = x0 (ix2 (tok b p) (vcol h d)) := by
  rw [val_main_v8_apply, val_main_v7_apply, val_main_v2_apply]
  exact congrArg x0 (by blk_ext [])

theorem k_band (b : Fin 2) (r : Fin 64) (n : Fin 512) (h : Fin 8) (d : Fin 128) :
    val_main_v63 (F := Ideal) x0 (ix5 b r n h d) = x0 (ix2 (tok b (key r n)) (kcol h d)) := by
  unfold val_main_v63
  rw [band_gather, ← k_at x0 b (key r n) h d]
  refine congrArg (fun p => val_main_v6 (F := Ideal) x0 (ix4 b p h d)) (Fin.ext ?_)
  dsimp only
  rw [val_main_call3_v0_apply, show idx_main_call3_v0 (ix3 r n 0) = ix2 r n from by blk_ext [], key_at]
  have := st_le r
  omega
theorem v_band (b : Fin 2) (r : Fin 64) (n : Fin 512) (h : Fin 8) (d : Fin 128) :
    val_main_v64 (F := Ideal) x0 (ix5 b r n h d) = x0 (ix2 (tok b (key r n)) (vcol h d)) := by
  unfold val_main_v64
  rw [band_gather, ← v_at x0 b (key r n) h d]
  refine congrArg (fun p => val_main_v8 (F := Ideal) x0 (ix4 b p h d)) (Fin.ext ?_)
  dsimp only
  rw [val_main_call4_v0_apply, show idx_main_call4_v0 (ix3 r n 0) = ix2 r n from by blk_ext [], key_at]
  have := st_le r
  omega

theorem words_at (r c : Fin 64) (n : Fin 512) :
    val_main_v83 (F := Ideal) (ix4 r c n 0) = val_main_v81 (F := Ideal) (ix4 r c n 0)
    ∧ val_main_v83 (F := Ideal) (ix4 r c n 1) = val_main_v82 (F := Ideal) (ix4 r c n 0) := by
  unfold val_main_v83
  generalize val_main_v81 (F := Ideal) = a
  generalize val_main_v82 (F := Ideal) = b
  constructor <;> pointwise []

theorem bias_at (h : Fin 8) (r c : Fin 64) (n : Fin 512) :
    val_main_v84 (F := Ideal) x1 (ix4 h r c n)
      = x1 (ix4 0 h ⟨min (st r + n.val / 64 + 7 - r.val) 14, by omega⟩ ⟨min (n.val % 64 + 15 - c.val) 30, by omega⟩) := by
  unfold val_main_v84
  rw [bias_gather, val_main_v66_apply, val_main_v65_apply]
  refine congrArg x1 ?_
  have e0 := dr_at r c n
  have e1 := dc_at r c n
  rw [← (words_at r c n).1] at e0
  rw [← (words_at r c n).2] at e1
  refine Eq.trans (b := ix4 0 h ⟨min (val_main_v83 (F := Ideal) (ix4 r c n 0)).toInt.toNat 14, by omega⟩
    ⟨min (val_main_v83 (F := Ideal) (ix4 r c n 1)).toInt.toNat 30, by omega⟩) (by blk_ext []) ?_
  exact congrArg₂ (fun a b => ix4 0 h a b) (Fin.ext (by dsimp only; rw [e0])) (Fin.ext (by dsimp only; rw [e1]; omega))

/-- The reference's score of key `n` of the query's band. -/
def refScore (b : Fin 2) (h : Fin 8) (r c : Fin 64) (n : Fin 512) : EReal :=
  if cst c ≤ n.val % 64 ∧ n.val % 64 < cst c + 16 then
    (∑ d : Fin 128, x0 (ix2 (tok b (pos r c)) (qcol h d)) * x0 (ix2 (tok b (key r n)) (kcol h d))) * Ideal.ofBits .f32 0x3DB504F3#32
      + x1 (ix4 0 h ⟨min (st r + n.val / 64 + 7 - r.val) 14, by omega⟩ ⟨min (n.val % 64 + 15 - c.val) 30, by omega⟩)
  else ⊥

theorem dot_at (b : Fin 2) (h : Fin 8) (r c : Fin 64) (n : Fin 512) :
    val_main_v86 (F := Ideal) x0 (ix5 b h r c n)
      = ∑ d : Fin 128, x0 (ix2 (tok b (pos r c)) (qcol h d)) * x0 (ix2 (tok b (key r n)) (kcol h d)) := by
  rw [val_main_v86_apply]
  refine Finset.sum_congr rfl fun d _ => ?_
  rw [val_main_v85_apply,
    show idx_main_v85 (lidx_main_v86 (ix5 b h r c n) d) = ix4 b (pos r c) h d from by blk_ext [],
    show ridx_main_v86 (ix5 b h r c n) d = ix5 b r n h d from by blk_ext [], q_at, k_band]

theorem biased_at (b : Fin 2) (h : Fin 8) (r c : Fin 64) (n : Fin 512) :
    val_main_v91 (F := Ideal) x0 x1 (ix5 b h r c n)
      = val_main_v86 (F := Ideal) x0 (ix5 b h r c n) * Ideal.ofBits .f32 0x3DB504F3#32
        + val_main_v84 (F := Ideal) x1 (ix4 h r c n) := by
  rw [val_main_v91_apply, val_main_v88_apply, val_main_v87_apply, val_main_cst_apply, val_main_v90_apply, val_main_v89_apply,
    show idx_main_v89 (idx_main_v90 (ix5 b h r c n)) = ix4 h r c n from by blk_ext []]
  rfl

theorem score_at (b : Fin 2) (h : Fin 8) (r c : Fin 64) (n : Fin 512) :
    val_main_v93 (F := Ideal) x0 x1 (ix5 b h r c n) = refScore x0 x1 b h r c n := by
  rw [val_main_v93_apply, val_main_call5_v1_apply, val_main_v92_apply,
    show idx_main_v92 (idx_main_call5_v1 (ix5 b h r c n)) = ix2 c n from by blk_ext [], valid_at,
    val_main_call5_v2_apply, val_main_call5_v0_apply, val_main_cst_15_apply, biased_at, dot_at, bias_at]
  unfold refScore
  split_ifs
  · rfl
  · exact Cert.MlaMath.c_bot

theorem top_at (b : Fin 2) (h : Fin 8) (r c : Fin 64) :
    val_main_v94 (F := Ideal) x0 x1 (ix4 b h r c) = Finset.univ.fold max ⊥ (refScore x0 x1 b h r c) := by
  have e : val_main_v94 (F := Ideal) x0 x1 (ix4 b h r c)
      = Finset.univ.fold max (Ideal.ofBits .f32 0xFF800000#32) fun n => val_main_v93 (F := Ideal) x0 x1 (ix5 b h r c n) := by
    unfold val_main_v94
    generalize val_main_v93 (F := Ideal) x0 x1 = y
    pointwise [val_main_cst_16]
  rw [e, Cert.MlaMath.c_bot]
  exact congrArg (Finset.univ.fold max ⊥) (funext fun n => score_at x0 x1 b h r c n)

theorem weight_at (b : Fin 2) (h : Fin 8) (r c : Fin 64) (n : Fin 512) :
    val_main_v100 (F := Ideal) x0 x1 (ix5 b h r c n)
      = Ideal.exp (refScore x0 x1 b h r c n - max ⊥ (Finset.univ.fold max ⊥ (refScore x0 x1 b h r c))) := by
  rw [val_main_v100_apply, val_main_v99_apply, val_main_v98_apply, val_main_v97_apply,
    show idx_main_v97 (idx_main_v98 (ix5 b h r c n)) = ix4 b h r c from by blk_ext [],
    val_main_v96_apply, val_main_v95_apply, val_main_cst_17_apply, top_at, score_at]
  exact congrArg (fun z => Ideal.exp (refScore x0 x1 b h r c n - max z _)) Cert.MlaMath.c_bot

theorem total_at (b : Fin 2) (h : Fin 8) (r c : Fin 64) (n : Fin 512) :
    val_main_v103 (F := Ideal) x0 x1 (ix5 b h r c n)
      = ∑ j, Ideal.exp (refScore x0 x1 b h r c j - max ⊥ (Finset.univ.fold max ⊥ (refScore x0 x1 b h r c))) := by
  rw [val_main_v103_apply, val_main_v102_apply,
    show idx_main_v102 (idx_main_v103 (ix5 b h r c n)) = ix4 b h r c from by blk_ext [], val_main_v101_apply]
  rw [show val_main_cst_18 (F := Ideal) (Shape.Idx.first Gen.h_S_) = (0 : EReal) from by pointwise [val_main_cst_18], zero_add]
  refine Finset.sum_congr rfl fun j _ => ?_
  rw [show idx_main_v101 (ix4 b h r c) j = ix5 b h r c j from by blk_ext [], weight_at]

/-- The reference's result at column `d` of head `h` of position `(r, c)` of image `b`. -/
theorem result_at (b : Fin 2) (h : Fin 8) (r c : Fin 64) (d : Fin 128) (i : S8192x1024.Idx)
    (hi : i = ix2 (tok b (pos r c)) ⟨h.val * 128 + d.val, by omega⟩) :
    val_main_v108 (F := Ideal) x0 x1 i
      = ∑ n, x0 (ix2 (tok b (key r n)) (vcol h d)) * Ideal.div
          (Ideal.exp (refScore x0 x1 b h r c n - max ⊥ (Finset.univ.fold max ⊥ (refScore x0 x1 b h r c))))
          (∑ j, Ideal.exp (refScore x0 x1 b h r c j - max ⊥ (Finset.univ.fold max ⊥ (refScore x0 x1 b h r c)))) := by
  subst hi
  rw [val_main_v108_apply, val_main_v107_apply, val_main_v106_apply,
    show idx_main_v106 (idx_main_v107 (ix2 (tok b (pos r c)) ⟨h.val * 128 + d.val, by omega⟩)) = ix5 b r h d c from by blk_ext [],
    val_main_v105_apply]
  show (∑ n : Fin 512, _) = _
  refine Finset.sum_congr rfl fun n _ => ?_
  rw [show lidx_main_v105 (ix5 b r h d c) n = ix5 b r n h d from by blk_ext [],
    show ridx_main_v105 (ix5 b r h d c) n = ix5 b h r c n from by blk_ext [], v_band, val_main_v104_apply, weight_at, total_at]
  rfl

end Cert.NaRefIdeal.Attn

end
-- ==== Proof.NaBand.lean ====
/- The attention of one query over the twelve key rows of its group is the reference's over the query's own eight: the
   others are masked, so they add nothing to the greatest score, to the total or to the weighted values. -/
module

public import proofs.«01_k».proof.Proof.NaPieces
public import proofs.«01_k».proof.Proof.NaRef
public import proofs.«01_k».proof.Proof.NaMath
public import proofs.«01_k».proof.Proof.NaHost

@[expose] public section

set_option maxRecDepth 16384

noncomputable section

open Idealize.ShloMosaic Idealize.ShloMosaic.TcCoe Idealize.SL.Sem

namespace Cert.NaIdeal.Attn

open Cert Cert.NaIdeal
open Cert.MlaMath hiding c_scale
open Cert.NaRefIdeal.Attn (tok qcol kcol vcol pos key st refScore)

/-- The scale of the scores is finite. -/
theorem c_scale : Fine (Ideal.ofBits .f32 0x3DB504F3#32) := by
  simp only [Ideal.ofBits, Ideal.ieee]
  exact ⟨_, if_neg (by decide) |>.trans (if_neg (by decide))⟩

/-- Where a query row's eight key rows begin among its group's twelve. -/
abbrev first (y : Fin 4096) : ℕ := min (y.val / 64 - 4) 56 - min (4 * (y.val / 256) - 4) 52

theorem first_le (y : Fin 4096) : first y ≤ 4 := by
  have := y.isLt
  show min (y.val / 64 - 4) 56 - min (4 * (y.val / 256) - 4) 52 ≤ 4
  omega

/-- A query's row, and its column. -/
abbrev rw' (y : Fin 4096) : Fin 64 := ⟨y.val / 64, by omega⟩
abbrev cl (y : Fin 4096) : Fin 64 := ⟨y.val % 64, by omega⟩

section
variable (X : FVec Ideal S8192x3072 .bf16) (B : FVec Ideal S2x8x15x31 .f32) (b : Fin 2) (h : Fin 8)
  (xq xk xv : Vec Ideal S4096x128 .bf16) (x3 : Vec Ideal S1x3x256x768 .f32)

/-- The bias of query `q` of a group of pattern `p` against the group's key `k`: the table's entry inside the window, −∞ outside. -/
def tabAt (p : Fin 3) (q : Fin 256) (k : Fin 768) : EReal :=
  if start p (q.val / 64) ≤ k.val / 64 ∧ k.val / 64 < start p (q.val / 64) + 8 then
    (if min (q.val % 64 - 8) 48 ≤ k.val % 64 ∧ k.val % 64 < min (q.val % 64 - 8) 48 + 16 then
      B (ix4 0 h ⟨min (k.val / 64 + 7 - (4 * p.val + q.val / 64)) 14, by omega⟩ ⟨min (k.val % 64 + 15 - q.val % 64) 30, by omega⟩)
    else (⊥ : EReal))
  else (⊥ : EReal)

/-- The pattern of a query's group, and where its row's keys begin in it. -/
theorem pat_cases (y : Fin 4096) : ((pat (grp y)).val = 0 ∧ y.val / 256 = 0) ∨ ((pat (grp y)).val = 1 ∧ 0 < y.val / 256 ∧ y.val / 256 < 15)
    ∨ ((pat (grp y)).val = 2 ∧ y.val / 256 = 15) := by
  have hy := y.isLt
  by_cases h0 : y.val / 256 = 0
  · exact Or.inl ⟨if_pos h0, h0⟩
  by_cases h1 : y.val / 256 = 15
  · exact Or.inr (Or.inr ⟨(if_neg h0).trans (if_pos h1), h1⟩)
  · exact Or.inr (Or.inl ⟨(if_neg h0).trans (if_neg h1), by omega, by omega⟩)

theorem start_eq (y : Fin 4096) : start (pat (grp y)) ((plc y).val / 64) = first y := by
  have hy := y.isLt
  rcases pat_cases y with ⟨e, h⟩ | ⟨e, h⟩ | ⟨e, h⟩
  · refine (if_pos e).trans ?_
    show 0 = min (y.val / 64 - 4) 56 - min (4 * (y.val / 256) - 4) 52
    omega
  · refine ((if_neg (by omega)).trans (if_pos e)).trans ?_
    show y.val % 256 / 64 = min (y.val / 64 - 4) 56 - min (4 * (y.val / 256) - 4) 52
    omega
  · refine ((if_neg (by omega)).trans (if_neg (by omega))).trans ?_
    show 4 = min (y.val / 64 - 4) 56 - min (4 * (y.val / 256) - 4) 52
    omega

/-- Two entries of the bias table of equal coordinates are equal. -/
theorem tab_congr {a a' : Fin 15} {e e' : Fin 31} (ha : a.val = a'.val) (he : e.val = e'.val) : B (ix4 0 h a e) = B (ix4 0 h a' e') := by
  rw [Fin.ext ha, Fin.ext he]

theorem tab_in (y : Fin 4096) (n : Fin 512) (hk : 64 * first y + n.val < 768) :
    tabAt B h (pat (grp y)) (plc y) ⟨64 * first y + n.val, hk⟩
      = if min (y.val % 64 - 8) 48 ≤ n.val % 64 ∧ n.val % 64 < min (y.val % 64 - 8) 48 + 16 then
          (B (ix4 0 h ⟨min (min (y.val / 64 - 4) 56 + n.val / 64 + 7 - y.val / 64) 14, by omega⟩
            ⟨min (n.val % 64 + 15 - y.val % 64) 30, by omega⟩) : EReal) else ⊥ := by
  have hy := y.isLt
  have hn := n.isLt
  have hf := first_le y
  have e1 : (64 * first y + n.val) / 64 = first y + n.val / 64 := by omega
  have e2 : (64 * first y + n.val) % 64 = n.val % 64 := by omega
  have e3 : y.val % 256 % 64 = y.val % 64 := by omega
  have hp : 4 * (pat (grp y)).val + y.val % 256 / 64 + min (y.val / 64 - 4) 56 = first y + y.val / 64 := by
    show _ = (min (y.val / 64 - 4) 56 - min (4 * (y.val / 256) - 4) 52) + y.val / 64
    rcases pat_cases y with ⟨e, h⟩ | ⟨e, h⟩ | ⟨e, h⟩ <;> rw [e] <;> omega
  unfold tabAt
  rw [start_eq y, if_pos (by dsimp only; omega)]
  generalize pat (grp y) = p at hp ⊢
  dsimp only
  simp only [e2, e3]
  by_cases hv : min (y.val % 64 - 8) 48 ≤ n.val % 64 ∧ n.val % 64 < min (y.val % 64 - 8) 48 + 16
  · rw [if_pos hv, if_pos hv]
    refine tab_congr B h ?_ rfl
    show min ((64 * first y + n.val) / 64 + 7 - (4 * p.val + y.val % 256 / 64)) 14
      = min (min (y.val / 64 - 4) 56 + n.val / 64 + 7 - y.val / 64) 14
    omega
  · rw [if_neg hv, if_neg hv]

theorem tab_out (y : Fin 4096) (k : Fin 768) (hk : k.val < 64 * first y ∨ 64 * first y + 512 ≤ k.val) :
    tabAt B h (pat (grp y)) (plc y) k = ⊥ := by
  unfold tabAt
  rw [start_eq y, if_neg (by omega)]

variable (hq : ∀ y d, (xq (ix2 y d) : EReal) = X (ix2 (tok b y) (qcol h d)))
  (hk : ∀ y d, (xk (ix2 y d) : EReal) = X (ix2 (tok b y) (kcol h d)))
  (hv : ∀ y d, (xv (ix2 y d) : EReal) = X (ix2 (tok b y) (vcol h d)))
  (h3 : ∀ p q k, (x3 (ix4 0 p q k) : EReal) = tabAt B h p q k)
  (fX : ∀ i, Fine (X i)) (fB : ∀ i, Fine (B i))

/-- The row of a group's key, where it is a key of the query's own rows. -/
theorem band_key (y : Fin 4096) (n : Fin 512) (h' : 64 * first y + n.val < 768) :
    band (grp y) ⟨64 * first y + n.val, h'⟩ = key (rw' y) n := by
  refine Fin.ext ?_
  have := y.isLt
  show 64 * min (4 * (y.val / 256) - 4) 52 + (64 * (min (y.val / 64 - 4) 56 - min (4 * (y.val / 256) - 4) 52) + n.val)
    = 64 * min (y.val / 64 - 4) 56 + n.val
  omega
theorem pos_self (y : Fin 4096) : pos (rw' y) (cl y) = y := by
  refine Fin.ext ?_
  show 64 * (y.val / 64) + y.val % 64 = y.val
  omega

include hq hk h3 in
theorem sc_in (y : Fin 4096) (n : Fin 512) (h' : 64 * first y + n.val < 768) :
    sc xq xk x3 y ⟨64 * first y + n.val, h'⟩ = refScore X B b h (rw' y) (cl y) n := by
  unfold sc refScore
  rw [h3, tab_in, pos_self]
  simp only [hq, hk, band_key]
  split_ifs
  · rfl
  · exact EReal.add_bot _

include h3 in
theorem sc_out (y : Fin 4096) (k : Fin 768) (h' : k.val < 64 * first y ∨ 64 * first y + 512 ≤ k.val) :
    sc xq xk x3 y k = ⊥ := by
  unfold sc
  rw [h3, tab_out B h y k h', EReal.add_bot]

include hq hk h3 in
theorem top_eq (y : Fin 4096) : top (sc xq xk x3 y) = Finset.univ.fold max ⊥ (refScore X B b h (rw' y) (cl y)) := by
  have := first_le y
  exact NaMath.max_band _ _ (64 * first y) (by omega) (fun n => sc_in X B b h xq xk x3 hq hk h3 y n (by omega))
    (fun k h' => sc_out B h xq xk x3 h3 y k h')

theorem exp_out (z : EReal) : Ideal.exp (⊥ - z) = 0 := by
  rw [sub_eq_add_neg, EReal.bot_add, Ideal.exp_bot]

include fX fB in
theorem ref_fine (r c : Fin 64) (n : Fin 512) : refScore X B b h r c n = ⊥ ∨ Fine (refScore X B b h r c n) := by
  unfold refScore
  split_ifs
  · exact Or.inr (((Fine.sum _ _ fun d => (fX _).mul (fX _)).mul c_scale).add (fB _))
  · exact Or.inl rfl

include fX fB in
theorem ref_some (r c : Fin 64) : ∃ n, Fine (refScore X B b h r c n) := by
  refine ⟨⟨c.val, by omega⟩, ?_⟩
  unfold refScore
  rw [if_pos (by show min (c.val - 8) 48 ≤ c.val % 64 ∧ c.val % 64 < min (c.val - 8) 48 + 16; omega)]
  exact ((Fine.sum _ _ fun d => (fX _).mul (fX _)).mul c_scale).add (fB _)

include hq hk hv h3 fX fB in
/-- One query's attention, at one column of the head. -/
theorem attn_ref (y : Fin 4096) (d : Fin 128) (i : S8192x1024.Idx) (hi : i = ix2 (tok b y) ⟨h.val * 128 + d.val, by omega⟩) :
    (attn xq xk xv x3 (ix2 y d) : EReal) = Cert.NaRefIdeal.Read.val_main_v108 (F := Ideal) X B i := by
  have hf := first_le y
  rw [Cert.NaRefIdeal.Attn.result_at X B b h (rw' y) (cl y) d i (by rw [hi, pos_self])]
  refine Eq.trans ?_ (NaMath.masked_softmax (refScore X B b h (rw' y) (cl y))
    (fun n => X (ix2 (tok b (key (rw' y) n)) (vcol h d))) (ref_fine X B b h fX fB _ _) (ref_some X B b h fX fB _ _) (fun n => fX _))
  show Ideal.div (∑ k, Ideal.exp (sc xq xk x3 y k - top (sc xq xk x3 y)) * xv (ix2 (band (grp y) k) d))
    (∑ k, Ideal.exp (sc xq xk x3 y k - top (sc xq xk x3 y))) = _
  rw [top_eq X B b h xq xk x3 hq hk h3 y]
  refine congrArg₂ Ideal.div ?_ ?_
  · refine NaMath.sum_band _ _ (64 * first y) (by omega) (fun n => ?_) (fun k h' => ?_)
    · rw [sc_in X B b h xq xk x3 hq hk h3 y n (by omega), hv, band_key]
    · rw [sc_out B h xq xk x3 h3 y k h', exp_out, zero_mul]
  · refine NaMath.sum_band _ _ (64 * first y) (by omega) (fun n => ?_) (fun k h' => ?_)
    · rw [sc_in X B b h xq xk x3 hq hk h3 y n (by omega)]
    · rw [sc_out B h xq xk x3 h3 y k h', exp_out]
end

end Cert.NaIdeal.Attn

end
-- ==== Proof.NaValue.lean ====
/- The neighbourhood attention's result is the reference's, for finite arguments. -/
module

public import proofs.«01_k».proof.Proof.NaHost
public import proofs.«01_k».proof.Proof.NaTake
public import proofs.«01_k».proof.Proof.NaBand
public import proofs.«01_k».proof.Pre_na_finite_inputs
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.NaIdeal.Attn

open Cert Cert.NaIdeal Cert.NaIdeal.Gen
open Cert.MlaMath (Fine c_top)
open Cert.NaRefIdeal.Attn (tok qcol kcol vcol)

variable (m : (ℓ : Loc nD τ sig) → Buf (Elt Ideal) ℓ) (ρ : Dev nD → PrngReg) (c : Dev nD)

/-! ### The precondition gives finite elements -/

/-- An element whose comparison with the infinite word is one is finite. -/
theorem fine_of_cmp {s : Shape} (x : FVec Ideal s .f32) (b : S_.BroadcastsInDim s (![] : Fin 0 → Fin s.rank)) (i : s.Idx)
    (h : cmpf (F := Ideal) .olt (Host.absf x) (broadcastInDim s ![] b (constant (F := Ideal) S_ .f32 0x7F800000#32)) i = 1#1) : Fine (x i) := by
  have h' : BitVec.ofBool (decide (max (x i) (-(x i)) < Ideal.ofBits .f32 0x7F800000#32)) = 1#1 := h
  rw [c_top] at h'
  exact Fine.of_abs (of_decide_eq_true ((BitVec.ofBool_eq_iff_eq (b' := true)).mp h'))

instance : Subsingleton S_.Idx := ⟨fun a b => funext fun d => d.elim0⟩

/-- All comparisons of an array with the infinite word are one where their conjunction is. -/
theorem fine_of_all {s : Shape} {ds : List (Fin s.rank)} (x : FVec Ideal s .f32) (b : S_.BroadcastsInDim s (![] : Fin 0 → Fin s.rank))
    (hr : s.ReducesTo ds S_) (h0 : 0 < S_.numel) (j : S_.Idx)
    (h : Host.reduce IntOp.andi (cmpf (F := Ideal) .olt (Host.absf x)
      (broadcastInDim s ![] b (constant (F := Ideal) S_ .f32 0x7F800000#32))) (constantI S_ 1 1#1) hr h0 j = 1#1) (i : s.Idx) : Fine (x i) :=
  fine_of_cmp x b i (Host.reduce_andi_all _ _ _ _ j h i)

/-- Arrays of which the precondition holds are finite. -/
theorem finite_of_pre [Cert.Pre_na_finite_inputs.Facts]
    (hp : Cert.Pre_na_finite_inputs.fn (F := Ideal) (argX m c) (argB m c) = fun _ => 1#1) :
    (∀ i, Fine (argX m c i)) ∧ ∀ i, Fine (argB m c i) := by
  have h := congrFun hp (fun d : Fin 0 => d.elim0)
  dsimp only [Cert.Pre_na_finite_inputs.fn] at h
  obtain ⟨hX, hB⟩ := IntOp.andi_eq_one.1 h
  exact ⟨fine_of_all (extf .f32 (argX m c) Cert.Pre_na_finite_inputs.Facts.bitsLt_bf16_f32) _ _ _ _ hX, fine_of_all (argB m c) _ _ _ _ hB⟩

/-! ### What a grid point reads -/

/-- The block each window stands on: point `b * 8 + h`. -/
theorem idx : ∀ t : Fin cfg0.N,
    win0_0.index t = ![t.val / 8, t.val % 8] ∧ win0_1.index t = ![t.val / 8, 8 + t.val % 8]
    ∧ win0_2.index t = ![t.val / 8, 16 + t.val % 8] ∧ win0_3.index t = ![t.val % 8, 0, 0, 0]
    ∧ win0_4.index t = ![t.val / 8, t.val % 8] :=
  (by decide +kernel : ∀ t : Fin grid0.N, _)

/-- The image and the head of a grid point. -/
abbrev img (t : Fin cfg0.N) : Fin 2 := ⟨t.val / 8, by have h : (t : ℕ) < 16 := t.isLt; omega⟩
abbrev hd (t : Fin cfg0.N) : Fin 8 := ⟨t.val % 8, by omega⟩

theorem blk_q (t : Fin cfg0.N) (y : Fin 4096) (d : Fin 128) :
    (iblk m c 0 t (ix2 y d : S4096x128.Idx) : EReal) = argX m c (ix2 (tok (img t) y) (qcol (hd t) d)) := by
  have e : V m c main_arg0 = m ((c : Thread nD τ).loc main_arg0) := V_main_arg0 m c
  show (((cfg0.win 0).blk t).view.read (Elt Ideal) (V m c main_arg0)) (ix2 y d) = _
  rw [e]
  blk_point [idx t]
theorem blk_k (t : Fin cfg0.N) (y : Fin 4096) (d : Fin 128) :
    (iblk m c 1 t (ix2 y d : S4096x128.Idx) : EReal) = argX m c (ix2 (tok (img t) y) (kcol (hd t) d)) := by
  have e : V m c main_arg0 = m ((c : Thread nD τ).loc main_arg0) := V_main_arg0 m c
  show (((cfg0.win 1).blk t).view.read (Elt Ideal) (V m c main_arg0)) (ix2 y d) = _
  rw [e]
  blk_point [idx t]
theorem blk_v (t : Fin cfg0.N) (y : Fin 4096) (d : Fin 128) :
    (iblk m c 2 t (ix2 y d : S4096x128.Idx) : EReal) = argX m c (ix2 (tok (img t) y) (vcol (hd t) d)) := by
  have e : V m c main_arg0 = m ((c : Thread nD τ).loc main_arg0) := V_main_arg0 m c
  show (((cfg0.win 2).blk t).view.read (Elt Ideal) (V m c main_arg0)) (ix2 y d) = _
  rw [e]
  blk_point [idx t]

/-- The bias table the host lays out, of the bias argument. -/
theorem table_at (h : Fin 8) (p : Fin 3) (q : Fin 256) (k : Fin 768) :
    (V m c main_v242 : FVec Ideal S8x3x256x768 .f32) (ix4 h p q k) = tabAt (argB m c) h p q k := by
  rw [V_eq m c main_v242]
  refine (v242_at (W m c) h p q k).trans ?_
  unfold tabAt
  refine if_congr Iff.rfl ?_ rfl
  exact v30_at m c h _ _ _

theorem blk_b (t : Fin cfg0.N) (p : Fin 3) (q : Fin 256) (k : Fin 768) :
    (iblk m c 3 t (ix4 0 p q k : S1x3x256x768.Idx) : EReal) = tabAt (argB m c) (hd t) p q k := by
  rw [← table_at m c (hd t) p q k]
  show (((cfg0.win 3).blk t).view.read (Elt Ideal) (V m c main_v242)) (ix4 0 p q k) = _
  generalize V m c main_v242 = T
  blk_point [idx t]

/-- The result the reference computes, of the kernel's argument arrays. -/
abbrev attended : FVec Ideal S8192x1024 .bf16 := Cert.NaRefIdeal.Read.val_main_v108 (F := Ideal) (argX m c) (argB m c)

/-- Where a block index stands in the result. -/
theorem emb_eq (t : Fin cfg0.N) (y : S4096x128.Idx) :
    (((cfg0.win 4).blk t).view.emb y : S8192x1024.Idx) = ix2 (tok (img t) (y 0)) ⟨(hd t).val * 128 + (y 1).val, by have h1 : (y 1).val < 128 := (y 1).isLt; omega⟩ := by
  blk_ext [idx t]

/-- What a grid point leaves, at a block index. -/
theorem point (hX : ∀ i, Fine (argX m c i)) (hB : ∀ i, Fine (argB m c i)) (t : Fin cfg0.N) (y : S4096x128.Idx) :
    attn (iblk m c 0 t) (iblk m c 1 t) (iblk m c 2 t) (iblk m c 3 t) y = attended m c (((cfg0.win 4).blk t).view.emb y) := by
  have e : y = ix2 (y 0) (y 1) := by blk_ext []
  refine (congrArg (attn (iblk m c 0 t) (iblk m c 1 t) (iblk m c 2 t) (iblk m c 3 t)) e).trans ?_
  exact attn_ref (argX m c) (argB m c) (img t) (hd t) _ _ _ _ (blk_q m c t) (blk_k m c t) (blk_v m c t) (blk_b m c t) hX hB (y 0) (y 1) _
    (emb_eq t y)

/-- The result array after the run. -/
theorem final (hX : ∀ i, Fine (argX m c i)) (hB : ∀ i, Fine (argB m c i)) : (dats m 0 c).arrAt 4 cfg0.N = attended m c := by
  refine (dats m 0 c).arrAt_eq_of_covers 4 _ (by decide +kernel) fun t _ y => ?_
  blk_simp
  rw [after0_4]
  unfold outsAt0
  rw [out_eq]
  exact point m c hX hB t y

/-- Every execution terminates with the result at the region's final array and the arguments unchanged. -/
theorem run : θ_run defs (onTc (τ := τ) (main (F := Ideal))) ⟨m, fun _ => 0, ρ⟩ (fun r => ∀ c : Dev nD,
      r.2.mem ((c.tc : Thread nD τ).loc main_v243) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4,
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c)⟩) (run_main m ρ)

end Cert.NaIdeal.Attn

end
-- ==== Proof.MlaRun.lean ====
/- The run of the latent attention with its result: every execution ends with the result array holding what the third
   region's write-backs leave, and the arguments as launched. The segments and their contents at every boundary are the
   frame's; only the final state's reading is new: it names the result's buffer too. -/
module

public import proofs.«01_k».proof.Proof.Gen.MlaIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MlaIdeal.Attn

open Cert.MlaIdeal Cert.MlaIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding plain
-- definitions in a metavariable's type
set_option backward.isDefEq.respectTransparency.types false in
/-- Every execution terminates with the result at the third region's final array and the arguments unchanged. -/
theorem run : θ_run defs (onTc (τ := τ) (main (F := F))) ⟨m, fun _ => 0, ρ⟩ (fun r => ∀ c : Dev nD,
      r.2.mem ((c.tc : Thread nD τ).loc main_v64) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v64 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.MlaIdeal.Attn

end
-- ==== Proof.lean ====
module

public import proofs.«01_k».proof.Defs
public import proofs.«01_k».proof.Proof.Gen.Mla.Frame
public import proofs.«01_k».proof.Proof.Gen.MlaIdeal.Frame
public import proofs.«01_k».proof.Proof.Gen.Pre_mla_finite_inputs
public import proofs.«01_k».proof.Proof.Gen.MlaRefIdeal.Run
public import proofs.«01_k».proof.Proof.Gen.MlaRefIdeal.Read
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Zp.Frame
public import proofs.«01_k».proof.Proof.Gen.ZpIdeal.Value
public import proofs.«01_k».proof.Proof.Gen.ZpRefIdeal.Run
public import proofs.«01_k».proof.Proof.Gen.ZpRefIdeal.Read
public import proofs.«01_k».proof.Proof.Gen.Cp.Frame
public import proofs.«01_k».proof.Proof.Gen.CpIdeal.Value
public import proofs.«01_k».proof.Proof.Gen.CpRefIdeal.Run
public import proofs.«01_k».proof.Proof.Gen.CpRefIdeal.Read
public import proofs.«01_k».proof.Proof.Gen.OutP.Frame
public import proofs.«01_k».proof.Proof.Gen.OutPIdeal.Value
public import proofs.«01_k».proof.Proof.Gen.OutPRefIdeal.Run
public import proofs.«01_k».proof.Proof.Gen.OutPRefIdeal.Read
public import proofs.«01_k».proof.Proof.Gen.Sgu.Frame
public import proofs.«01_k».proof.Proof.Gen.SguIdeal.Value
public import proofs.«01_k».proof.Proof.Gen.SguRefIdeal.Run
public import proofs.«01_k».proof.Proof.Gen.SguRefIdeal.Read
public import proofs.«01_k».proof.Proof.Gen.Rms.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.Na.Frame
public import proofs.«01_k».proof.Proof.Gen.NaIdeal.Frame
public import proofs.«01_k».proof.Proof.Gen.Pre_na_finite_inputs
public import proofs.«01_k».proof.Proof.Gen.NaRefIdeal.Run
public import proofs.«01_k».proof.Proof.Gen.NaRefIdeal.Read
public import proofs.«01_k».proof.Proof.MlaValue
public import proofs.«01_k».proof.Proof.GateValue
public import proofs.«01_k».proof.Proof.QkvValue
public import proofs.«01_k».proof.Proof.ZpValue
public import proofs.«01_k».proof.Proof.CpValue
public import proofs.«01_k».proof.Proof.OutPValue
public import proofs.«01_k».proof.Proof.SguValue
public import proofs.«01_k».proof.Proof.RmsValue
public import proofs.«01_k».proof.Proof.NaValue
public import proofs.«01_k».proof.Proof.MlaRun
public import Idealize.ShloMosaic.Adequacy
public import Idealize.ShloMosaic.Lib.Claim

@[expose] public section

noncomputable section

namespace Cert.Proof

open Idealize.ShloMosaic Idealize.SL.Sem

/-- The ideal kernel of the latent attention computes its reference on finite arguments. -/
theorem algebraic_mla [Cert.Pre_mla_finite_inputs.Facts] : Cert.algebraic_MlaIdeal_MlaRefIdeal_pre_mla_finite_inputs := by
  pair_intro
  · run_from Cert.MlaIdeal.Attn.run m g
  · run_from Cert.MlaRefIdeal.Value.run m' g'
    obtain ⟨h0, h1, h2, h3, h4, h5, h6⟩ := hagree c
    rw [Cert.MlaRefIdeal.Read.val_main_v119_eq, h0, h1, h2, h3, h4, h5, h6]
    exact (Cert.MlaIdeal.Attn.final m g c (Cert.MlaIdeal.Attn.finite_of_pre m c (hpre c))).symm

/-- The ideal kernel of the neighbourhood attention computes its reference on finite arguments. -/
theorem algebraic_na [Cert.Pre_na_finite_inputs.Facts] : Cert.algebraic_NaIdeal_NaRefIdeal_pre_na_finite_inputs := by
  pair_intro
  · run_from Cert.NaIdeal.Attn.run m g
  · run_from Cert.NaRefIdeal.Value.run m' g'
    obtain ⟨h0, h1⟩ := hagree c
    rw [Cert.NaRefIdeal.Read.val_main_v108_eq, h0, h1]
    have hf := Cert.NaIdeal.Attn.finite_of_pre m c (hpre c)
    exact (Cert.NaIdeal.Attn.final m c hf.1 hf.2).symm

/-- The ideal kernel of the gated merge computes its reference. -/
theorem algebraic_gate : Cert.algebraic_GateIdeal_GateRefIdeal := by
  pair_intro
  · run_from Cert.GateIdeal.Value.run_blocks m g
  · run_from Cert.GateRefIdeal.Value.run m' g'
    · exact (Cert.GateIdeal.Merge.final15 m c).symm
    · exact (Cert.GateIdeal.Merge.final16 m c).symm
    · exact (Cert.GateIdeal.Merge.final17 m c).symm

/-- The ideal kernel of the queries', keys' and values' projection computes its reference. -/
theorem algebraic_qkv : Cert.algebraic_QkvIdeal_QkvRefIdeal := by
  pair_intro
  · run_from Cert.QkvIdeal.Value.run_blocks m g
  · run_from Cert.QkvRefIdeal.Value.run m' g'
    · exact (Cert.QkvIdeal.Proj.final m c).symm
    · exact (Cert.QkvIdeal.Proj.final4 m c).symm

/-- The ideal kernel of the gating unit's projection computes its reference. -/
theorem algebraic_zp : Cert.algebraic_ZpIdeal_ZpRefIdeal := by
  pair_intro
  · run_from Cert.ZpIdeal.Value.run_blocks m g
  · run_from Cert.ZpRefIdeal.Value.run m' g'
    · exact (Cert.ZpIdeal.Proj.final m c).symm
    · exact (Cert.ZpIdeal.Proj.final6 m c).symm
    · exact (Cert.ZpIdeal.Proj.final7 m c).symm
    · exact (Cert.ZpIdeal.Proj.final8 m c).symm

/-- The ideal kernel of the latents' projection computes its reference. -/
theorem algebraic_cp : Cert.algebraic_CpIdeal_CpRefIdeal := by
  pair_intro
  · run_from Cert.CpIdeal.Value.run_blocks m g
  · run_from Cert.CpRefIdeal.Value.run m' g'
    exact (Cert.CpIdeal.Proj.final m c).symm

/-- The ideal kernel of the output projection with its residual and norm computes its reference. -/
theorem algebraic_outp : Cert.algebraic_OutPIdeal_OutPRefIdeal := by
  pair_intro
  · run_from Cert.OutPIdeal.Value.run_blocks m g
  · run_from Cert.OutPRefIdeal.Value.run m' g'
    · exact (Cert.OutPIdeal.Proj.final4 m c).symm
    · exact (Cert.OutPIdeal.Proj.final5 m c).symm

/-- The ideal kernel of the spatial gating unit computes its reference. -/
theorem algebraic_sgu : Cert.algebraic_SguIdeal_SguRefIdeal := by
  pair_intro
  · run_from Cert.SguIdeal.Value.run_blocks m g
  · run_from Cert.SguRefIdeal.Value.run m' g'
    obtain ⟨h0, h1, h2, h3, h4⟩ := hagree c
    rw [Cert.SguRefIdeal.Read.val_main_v58_eq, h0, h1, h2, h3, h4]
    exact (Cert.SguIdeal.Proj.final m c).symm

/-- The ideal kernel of the first norm computes its reference. -/
theorem algebraic_rms : Cert.algebraic_RmsIdeal_RmsRefIdeal := by
  pair_intro
  · run_from Cert.RmsIdeal.Value.run_blocks m g
  · run_from Cert.RmsRefIdeal.Value.run m' g'
    exact (Cert.RmsIdeal.Proj.final m c).symm

/-- The reference of the latent attention terminates, keeps its arguments, and has no semaphores. -/
theorem frame_mla_ref : Cert.quiescent_MlaRefIdeal := fun m ρ _ =>
  (θ_run Cert.MlaRefIdeal.defs _ _).mono
    (fun r h => ⟨fun c => (h c).2, sem_eq_zero_of_no_sems (by decide) r.2⟩)
    (Cert.MlaRefIdeal.Value.run m ρ)

/-- The reference of the gated merge terminates, keeps its arguments, and has no semaphores. -/
theorem frame_gate_ref : Cert.quiescent_GateRefIdeal := fun m ρ _ =>
  (θ_run Cert.GateRefIdeal.defs _ _).mono
    (fun r h => ⟨fun c => (h c).2.2.2, sem_eq_zero_of_no_sems (by decide) r.2⟩)
    (Cert.GateRefIdeal.Value.run m ρ)

/-- The reference of the queries', keys' and values' projection terminates, keeps its arguments, and has no semaphores. -/
theorem frame_qkv_ref : Cert.quiescent_QkvRefIdeal := fun m ρ _ =>
  (θ_run Cert.QkvRefIdeal.defs _ _).mono
    (fun r h => ⟨fun c => (h c).2.2, sem_eq_zero_of_no_sems (by decide) r.2⟩)
    (Cert.QkvRefIdeal.Value.run m ρ)

/-- The reference of the gating unit's projection terminates, keeps its arguments, and has no semaphores. -/
theorem frame_zp_ref : Cert.quiescent_ZpRefIdeal := fun m ρ _ =>
  (θ_run Cert.ZpRefIdeal.defs _ _).mono
    (fun r h => ⟨fun c => (h c).2.2.2.2, sem_eq_zero_of_no_sems (by decide) r.2⟩)
    (Cert.ZpRefIdeal.Value.run m ρ)

/-- The reference of the latents' projection terminates, keeps its arguments, and has no semaphores. -/
theorem frame_cp_ref : Cert.quiescent_CpRefIdeal := fun m ρ _ =>
  (θ_run Cert.CpRefIdeal.defs _ _).mono
    (fun r h => ⟨fun c => (h c).2, sem_eq_zero_of_no_sems (by decide) r.2⟩)
    (Cert.CpRefIdeal.Value.run m ρ)

/-- The reference of the output projection with its residual and norm terminates, keeps its arguments, and has no semaphores. -/
theorem frame_outp_ref : Cert.quiescent_OutPRefIdeal := fun m ρ _ =>
  (θ_run Cert.OutPRefIdeal.defs _ _).mono
    (fun r h => ⟨fun c => (h c).2.2, sem_eq_zero_of_no_sems (by decide) r.2⟩)
    (Cert.OutPRefIdeal.Value.run m ρ)

/-- The reference of the spatial gating unit terminates, keeps its arguments, and has no semaphores. -/
theorem frame_sgu_ref : Cert.quiescent_SguRefIdeal := fun m ρ _ =>
  (θ_run Cert.SguRefIdeal.defs _ _).mono
    (fun r h => ⟨fun c => (h c).2, sem_eq_zero_of_no_sems (by decide) r.2⟩)
    (Cert.SguRefIdeal.Value.run m ρ)

/-- The reference of the first norm terminates, keeps its arguments, and has no semaphores. -/
theorem frame_rms_ref : Cert.quiescent_RmsRefIdeal := fun m ρ _ =>
  (θ_run Cert.RmsRefIdeal.defs _ _).mono
    (fun r h => ⟨fun c => (h c).2, sem_eq_zero_of_no_sems (by decide) r.2⟩)
    (Cert.RmsRefIdeal.Value.run m ρ)

/-- The reference of the neighbourhood attention terminates, keeps its arguments, and has no semaphores. -/
theorem frame_na_ref : Cert.quiescent_NaRefIdeal := fun m ρ _ =>
  (θ_run Cert.NaRefIdeal.defs _ _).mono
    (fun r h => ⟨fun c => (h c).2, sem_eq_zero_of_no_sems (by decide) r.2⟩)
    (Cert.NaRefIdeal.Value.run m ρ)

theorem claim : Cert.Claim :=
  ⟨Cert.Mla.Gen.facts, Cert.MlaIdeal.Gen.facts, Cert.MlaRefIdeal.Gen.facts, Cert.Gate.Gen.facts, Cert.GateIdeal.Gen.facts, Cert.GateRefIdeal.Gen.facts, Cert.Qkv.Gen.facts, Cert.QkvIdeal.Gen.facts, Cert.QkvRefIdeal.Gen.facts, Cert.Zp.Gen.facts, Cert.ZpIdeal.Gen.facts, Cert.ZpRefIdeal.Gen.facts, Cert.Cp.Gen.facts, Cert.CpIdeal.Gen.facts, Cert.CpRefIdeal.Gen.facts, Cert.OutP.Gen.facts, Cert.OutPIdeal.Gen.facts, Cert.OutPRefIdeal.Gen.facts, Cert.Sgu.Gen.facts, Cert.SguIdeal.Gen.facts, Cert.SguRefIdeal.Gen.facts, Cert.Rms.Gen.facts, Cert.RmsIdeal.Gen.facts, Cert.RmsRefIdeal.Gen.facts, Cert.Na.Gen.facts, Cert.NaIdeal.Gen.facts, Cert.NaRefIdeal.Gen.facts, Cert.Pre_mla_finite_inputs.Gen.facts, Cert.Pre_na_finite_inputs.Gen.facts,
    fun m ρ _ => Cert.Mla.Gen.frame m ρ, fun m ρ _ => Cert.MlaIdeal.Gen.frame m ρ, fun m ρ _ => Cert.MlaIdeal.Gen.frame m ρ,
    frame_mla_ref, fun m ρ _ => frame_mla_ref m ρ trivial,
    fun m ρ _ => Cert.Gate.Gen.frame m ρ, fun m ρ _ => Cert.GateIdeal.Gen.frame m ρ, frame_gate_ref,
    fun m ρ _ => Cert.Qkv.Gen.frame m ρ, fun m ρ _ => Cert.QkvIdeal.Gen.frame m ρ, frame_qkv_ref,
    fun m ρ _ => Cert.Zp.Gen.frame m ρ, fun m ρ _ => Cert.ZpIdeal.Gen.frame m ρ, frame_zp_ref,
    fun m ρ _ => Cert.Cp.Gen.frame m ρ, fun m ρ _ => Cert.CpIdeal.Gen.frame m ρ, frame_cp_ref,
    fun m ρ _ => Cert.OutP.Gen.frame m ρ, fun m ρ _ => Cert.OutPIdeal.Gen.frame m ρ, frame_outp_ref,
    fun m ρ _ => Cert.Sgu.Gen.frame m ρ, fun m ρ _ => Cert.SguIdeal.Gen.frame m ρ, frame_sgu_ref,
    fun m ρ _ => Cert.Rms.Gen.frame m ρ, fun m ρ _ => Cert.RmsIdeal.Gen.frame m ρ, frame_rms_ref,
    fun m ρ _ => Cert.Na.Gen.frame m ρ, fun m ρ _ => Cert.NaIdeal.Gen.frame m ρ, fun m ρ _ => Cert.NaIdeal.Gen.frame m ρ,
    frame_na_ref, fun m ρ _ => frame_na_ref m ρ trivial,
    trivial, algebraic_mla, trivial, algebraic_gate, trivial, algebraic_qkv, trivial, algebraic_zp, trivial, algebraic_cp, trivial, algebraic_outp, trivial, algebraic_sgu, trivial, algebraic_rms, trivial, algebraic_na⟩

end Cert.Proof

end
